-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "score_scale" .f32 0x3E0293EE#32 (((Real.sqrt 128)⁻¹ * (Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x16x10240x128 : Shape := ⟨4, ![4, 16, 10240, 128]⟩
abbrev S4x20x64x1 : Shape := ⟨4, ![4, 20, 64, 1]⟩
abbrev S4x20x64x128 : Shape := ⟨4, ![4, 20, 64, 128]⟩
abbrev S4x16x4096x128 : Shape := ⟨4, ![4, 16, 4096, 128]⟩
abbrev S4x16x32x128 : Shape := ⟨4, ![4, 16, 32, 128]⟩
abbrev S4x1x2048 : Shape := ⟨3, ![4, 1, 2048]⟩
abbrev S4x2560x8192 : Shape := ⟨3, ![4, 2560, 8192]⟩
abbrev S1x16x512x128 : Shape := ⟨4, ![1, 16, 512, 128]⟩
abbrev S1x1x64x1 : Shape := ⟨4, ![1, 1, 64, 1]⟩
abbrev S1x1x64x128 : Shape := ⟨4, ![1, 1, 64, 128]⟩
abbrev S1x16x4096x128 : Shape := ⟨4, ![1, 16, 4096, 128]⟩
abbrev S1x16x32x128 : Shape := ⟨4, ![1, 16, 32, 128]⟩
abbrev S1x1x2048 : Shape := ⟨3, ![1, 1, 2048]⟩
abbrev S1x128x8192 : Shape := ⟨3, ![1, 128, 8192]⟩
abbrev S512x128 : Shape := ⟨2, ![512, 128]⟩
abbrev S8x128 : Shape := ⟨2, ![8, 128]⟩
abbrev S16x128 : Shape := ⟨2, ![16, 128]⟩
abbrev S512x1536 : Shape := ⟨2, ![512, 1536]⟩
abbrev S512x1664 : Shape := ⟨2, ![512, 1664]⟩
abbrev S1x1x1x128 : Shape := ⟨4, ![1, 1, 1, 128]⟩
abbrev S1x128 : Shape := ⟨2, ![1, 128]⟩
abbrev S1x1x1x1 : Shape := ⟨4, ![1, 1, 1, 1]⟩
abbrev S1x1 : Shape := ⟨2, ![1, 1]⟩
abbrev S1x1x512x128 : Shape := ⟨4, ![1, 1, 512, 128]⟩
abbrev S1x1x128x128 : Shape := ⟨4, ![1, 1, 128, 128]⟩
abbrev S128x128 : Shape := ⟨2, ![128, 128]⟩
abbrev S32x128 : Shape := ⟨2, ![32, 128]⟩
abbrev S1x1x256x128 : Shape := ⟨4, ![1, 1, 256, 128]⟩
abbrev S256x128 : Shape := ⟨2, ![256, 128]⟩
abbrev S512x256 : Shape := ⟨2, ![512, 256]⟩
abbrev S16x256 : Shape := ⟨2, ![16, 256]⟩
abbrev S8x256 : Shape := ⟨2, ![8, 256]⟩
abbrev S4x8x128 : Shape := ⟨3, ![4, 8, 128]⟩
abbrev S1x8x128 : Shape := ⟨3, ![1, 8, 128]⟩
abbrev S32 : Shape := ⟨1, ![32]⟩
abbrev S32x1 : Shape := ⟨2, ![32, 1]⟩
abbrev S1x1x1664x128 : Shape := ⟨4, ![1, 1, 1664, 128]⟩
abbrev S1664x128 : Shape := ⟨2, ![1664, 128]⟩
abbrev S1x1x128 : Shape := ⟨3, ![1, 1, 128]⟩
abbrev S1x128x128 : Shape := ⟨3, ![1, 128, 128]⟩

abbrev nBuf : Space → Nat
  | .hbm => 8
  | .vmem => 31
  | .smem => 0
  | _ => 0

abbrev bufTy : (tb : Table) → Fin (tcTables nBuf tb) → BufTy
  | .hbm, ⟨0, _⟩ => ⟨S4x16x10240x128, .fp8e4m3⟩
  | .hbm, ⟨1, _⟩ => ⟨S4x20x64x1, .f32⟩
  | .hbm, ⟨2, _⟩ => ⟨S4x20x64x128, .bf16⟩
  | .hbm, ⟨3, _⟩ => ⟨S4x16x4096x128, .fp8e4m3⟩
  | .hbm, ⟨4, _⟩ => ⟨S4x16x4096x128, .fp8e4m3⟩
  | .hbm, ⟨5, _⟩ => ⟨S4x16x32x128, .f32⟩
  | .hbm, ⟨6, _⟩ => ⟨S4x1x2048, .f32⟩
  | .hbm, ⟨7, _⟩ => ⟨S4x2560x8192, .bf16⟩
  | .local _ .vmem, ⟨0, _⟩ => ⟨S1x16x512x128, .fp8e4m3⟩
  | .local _ .vmem, ⟨1, _⟩ => ⟨S1x16x512x128, .fp8e4m3⟩
  | .local _ .vmem, ⟨2, _⟩ => ⟨S1x1x64x1, .f32⟩
  | .local _ .vmem, ⟨3, _⟩ => ⟨S1x1x64x1, .f32⟩
  | .local _ .vmem, ⟨4, _⟩ => ⟨S1x1x64x128, .bf16⟩
  | .local _ .vmem, ⟨5, _⟩ => ⟨S1x1x64x128, .bf16⟩
  | .local _ .vmem, ⟨6, _⟩ => ⟨S1x16x4096x128, .fp8e4m3⟩
  | .local _ .vmem, ⟨7, _⟩ => ⟨S1x16x4096x128, .fp8e4m3⟩
  | .local _ .vmem, ⟨8, _⟩ => ⟨S1x16x4096x128, .fp8e4m3⟩
  | .local _ .vmem, ⟨9, _⟩ => ⟨S1x16x4096x128, .fp8e4m3⟩
  | .local _ .vmem, ⟨10, _⟩ => ⟨S1x16x32x128, .f32⟩
  | .local _ .vmem, ⟨11, _⟩ => ⟨S1x16x32x128, .f32⟩
  | .local _ .vmem, ⟨12, _⟩ => ⟨S1x1x2048, .f32⟩
  | .local _ .vmem, ⟨13, _⟩ => ⟨S1x1x2048, .f32⟩
  | .local _ .vmem, ⟨14, _⟩ => ⟨S1x128x8192, .bf16⟩
  | .local _ .vmem, ⟨15, _⟩ => ⟨S1x128x8192, .bf16⟩
  | .local _ .vmem, ⟨16, _⟩ => ⟨S512x128, .f32⟩
  | .local _ .vmem, ⟨17, _⟩ => ⟨S512x128, .fp8e4m3⟩
  | .local _ .vmem, ⟨18, _⟩ => ⟨S512x128, .fp8e4m3⟩
  | .local _ .vmem, ⟨19, _⟩ => ⟨S8x128, .f32⟩
  | .local _ .vmem, ⟨20, _⟩ => ⟨S8x128, .f32⟩
  | .local _ .vmem, ⟨21, _⟩ => ⟨S16x128, .bf16⟩
  | .local _ .vmem, ⟨22, _⟩ => ⟨S16x128, .bf16⟩
  | .local _ .vmem, ⟨23, _⟩ => ⟨S512x1536, .f32⟩
  | .local _ .vmem, ⟨24, _⟩ => ⟨S512x1536, .f32⟩
  | .local _ .vmem, ⟨25, _⟩ => ⟨S512x128, .f32⟩
  | .local _ .vmem, ⟨26, _⟩ => ⟨S512x128, .f32⟩
  | .local _ .vmem, ⟨27, _⟩ => ⟨S512x1664, .fp8e4m3⟩
  | .local _ .vmem, ⟨28, _⟩ => ⟨S512x1664, .fp8e4m3⟩
  | .local _ .vmem, ⟨29, _⟩ => ⟨S512x128, .f32⟩
  | .local _ .vmem, ⟨30, _⟩ => ⟨S512x128, .f32⟩
  | _, _ => ⟨S4x16x10240x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_scratch7 : Ref sig .tc := ⟨.vmem, 23, rfl⟩
abbrev cc0_scratch8 : Ref sig .tc := ⟨.vmem, 24, rfl⟩
abbrev cc0_scratch9 : Ref sig .tc := ⟨.vmem, 25, rfl⟩
abbrev cc0_scratch10 : Ref sig .tc := ⟨.vmem, 26, rfl⟩
abbrev cc0_scratch11 : Ref sig .tc := ⟨.vmem, 27, rfl⟩
abbrev cc0_scratch12 : Ref sig .tc := ⟨.vmem, 28, rfl⟩
abbrev cc0_scratch13 : Ref sig .tc := ⟨.vmem, 29, rfl⟩
abbrev cc0_scratch14 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 20], ![false, false]⟩

def k0_mult1 (i : grid0.Coords) : BitVec 32 :=
  let arg1 : BitVec 32 := BitVec.ofNat 32 (i 1).val
  let c12_i32 : BitVec 32 := 12#32
  let v112 : BitVec 32 := Scalar.addi arg1 c12_i32
  let c128_i32 : BitVec 32 := 128#32
  let v113 : BitVec 32 := Scalar.muli v112 c128_i32
  v113
def k0_off1 (i : grid0.Coords) : Fin 4 → Nat :=
  let c0_53 : Index := 0#32
  let c0_54 : Index := 0#32
  let arg1 : BitVec 32 := BitVec.ofNat 32 (i 1).val
  let c12_i32 : BitVec 32 := 12#32
  let v112 : BitVec 32 := Scalar.addi arg1 c12_i32
  let c128_i32 : BitVec 32 := 128#32
  let v113 : BitVec 32 := Scalar.muli v112 c128_i32
  let v114 : BitVec 32 := v113
  let v115 : Index := Scalar.indexCast v114
  let c0_55 : Index := 0#32
  ![0, 0, v115.toNat, 0]
def k0_off2 (i : grid0.Coords) (c12_i32_60 : BitVec 32) (c0_i32_61 : BitVec 32) : Fin 4 → Nat :=
  let c0_62 : Index := 0#32
  let c0_63 : Index := 0#32
  let arg1 : BitVec 32 := BitVec.ofNat 32 (i 1).val
  let v123 : BitVec 32 := Scalar.addi arg1 c12_i32_60
  let v124 : BitVec 32 := Scalar.addi v123 c0_i32_61
  let v125 : Index := Scalar.indexCast v124
  let c0_64 : Index := 0#32
  ![0, 0, v125.toNat, 0]
def k0_off2_at (r : Fin 13) : BitVec 32 × BitVec 32 :=
  if r.val < 6 then
    if r.val < 3 then
      if r.val < 1 then
        (12#32, 0#32)
      else
        if r.val < 2 then
          (0#32, 0#32)
        else
          (0#32, 1#32)
    else
      if r.val < 4 then
        (2#32, 0#32)
      else
        if r.val < 5 then
          (2#32, 1#32)
        else
          (4#32, 0#32)
  else
    if r.val < 9 then
      if r.val < 7 then
        (4#32, 1#32)
      else
        if r.val < 8 then
          (6#32, 0#32)
        else
          (6#32, 1#32)
    else
      if r.val < 11 then
        if r.val < 10 then
          (8#32, 0#32)
        else
          (8#32, 1#32)
      else
        if r.val < 12 then
          (10#32, 0#32)
        else
          (10#32, 1#32)
def k0_mult2 (i : grid0.Coords) : BitVec 32 :=
  let arg1 : BitVec 32 := BitVec.ofNat 32 (i 1).val
  let c0_i32_75 : BitVec 32 := 0#32
  let v162 : BitVec 32 := Scalar.addi arg1 c0_i32_75
  let c128_i32_76 : BitVec 32 := 128#32
  let v163 : BitVec 32 := Scalar.muli v162 c128_i32_76
  v163
def k0_off3 (i : grid0.Coords) (c0_i32_75 : BitVec 32) : Fin 4 → Nat :=
  let c0_77 : Index := 0#32
  let c0_78 : Index := 0#32
  let arg1 : BitVec 32 := BitVec.ofNat 32 (i 1).val
  let v162 : BitVec 32 := Scalar.addi arg1 c0_i32_75
  let c128_i32_76 : BitVec 32 := 128#32
  let v163 : BitVec 32 := Scalar.muli v162 c128_i32_76
  let v164 : BitVec 32 := v163
  let v165 : Index := Scalar.indexCast v164
  let c0_79 : Index := 0#32
  ![0, 0, v165.toNat, 0]
def k0_mult3 (i : grid0.Coords) : BitVec 32 :=
  let arg1 : BitVec 32 := BitVec.ofNat 32 (i 1).val
  let c2_i32_182 : BitVec 32 := 2#32
  let v841 : BitVec 32 := Scalar.addi arg1 c2_i32_182
  let c128_i32_183 : BitVec 32 := 128#32
  let v842 : BitVec 32 := Scalar.muli v841 c128_i32_183
  v842
def k0_mult4 (i : grid0.Coords) : BitVec 32 :=
  let arg1 : BitVec 32 := BitVec.ofNat 32 (i 1).val
  let c4_i32_335 : BitVec 32 := 4#32
  let v1360 : BitVec 32 := Scalar.addi arg1 c4_i32_335
  let c128_i32_336 : BitVec 32 := 128#32
  let v1361 : BitVec 32 := Scalar.muli v1360 c128_i32_336
  v1361
def k0_mult5 (i : grid0.Coords) : BitVec 32 :=
  let arg1 : BitVec 32 := BitVec.ofNat 32 (i 1).val
  let c6_i32 : BitVec 32 := 6#32
  let v1879 : BitVec 32 := Scalar.addi arg1 c6_i32
  let c128_i32_486 : BitVec 32 := 128#32
  let v1880 : BitVec 32 := Scalar.muli v1879 c128_i32_486
  v1880
def k0_mult6 (i : grid0.Coords) : BitVec 32 :=
  let arg1 : BitVec 32 := BitVec.ofNat 32 (i 1).val
  let c8_i32_636 : BitVec 32 := 8#32
  let v2398 : BitVec 32 := Scalar.addi arg1 c8_i32_636
  let c128_i32_637 : BitVec 32 := 128#32
  let v2399 : BitVec 32 := Scalar.muli v2398 c128_i32_637
  v2399
def k0_mult7 (i : grid0.Coords) : BitVec 32 :=
  let arg1 : BitVec 32 := BitVec.ofNat 32 (i 1).val
  let c10_i32 : BitVec 32 := 10#32
  let v2917 : BitVec 32 := Scalar.addi arg1 c10_i32
  let c128_i32_787 : BitVec 32 := 128#32
  let v2918 : BitVec 32 := Scalar.muli v2917 c128_i32_787
  v2918
def k0_mult8 (i : grid0.Coords) : BitVec 32 :=
  let arg1 : BitVec 32 := BitVec.ofNat 32 (i 1).val
  let c12_i32_996 : BitVec 32 := 12#32
  let v3548 : BitVec 32 := Scalar.addi arg1 c12_i32_996
  let c128_i32_997 : BitVec 32 := 128#32
  let v3549 : BitVec 32 := Scalar.muli v3548 c128_i32_997
  v3549
def k0_off4 (i : grid0.Coords) : Fin 4 → Nat :=
  let c0_998 : Index := 0#32
  let c1_999 : Index := 1#32
  let arg1 : BitVec 32 := BitVec.ofNat 32 (i 1).val
  let c12_i32_996 : BitVec 32 := 12#32
  let v3548 : BitVec 32 := Scalar.addi arg1 c12_i32_996
  let c128_i32_997 : BitVec 32 := 128#32
  let v3549 : BitVec 32 := Scalar.muli v3548 c128_i32_997
  let v3550 : BitVec 32 := v3549
  let v3551 : Index := Scalar.indexCast v3550
  let c0_1000 : Index := 0#32
  ![0, 1, v3551.toNat, 0]
def k0_off5 (i : grid0.Coords) (c12_i32_1005 : BitVec 32) (c0_i32_1006 : BitVec 32) : Fin 4 → Nat :=
  let c0_1007 : Index := 0#32
  let c1_1008 : Index := 1#32
  let arg1 : BitVec 32 := BitVec.ofNat 32 (i 1).val
  let v3559 : BitVec 32 := Scalar.addi arg1 c12_i32_1005
  let v3560 : BitVec 32 := Scalar.addi v3559 c0_i32_1006
  let v3561 : Index := Scalar.indexCast v3560
  let c0_1009 : Index := 0#32
  ![0, 1, v3561.toNat, 0]
def k0_off5_at (r : Fin 13) : BitVec 32 × BitVec 32 :=
  if r.val < 6 then
    if r.val < 3 then
      if r.val < 1 then
        (12#32, 0#32)
      else
        if r.val < 2 then
          (0#32, 0#32)
        else
          (0#32, 1#32)
    else
      if r.val < 4 then
        (2#32, 0#32)
      else
        if r.val < 5 then
          (2#32, 1#32)
        else
          (4#32, 0#32)
  else
    if r.val < 9 then
      if r.val < 7 then
        (4#32, 1#32)
      else
        if r.val < 8 then
          (6#32, 0#32)
        else
          (6#32, 1#32)
    else
      if r.val < 11 then
        if r.val < 10 then
          (8#32, 0#32)
        else
          (8#32, 1#32)
      else
        if r.val < 12 then
          (10#32, 0#32)
        else
          (10#32, 1#32)
def k0_mult9 (i : grid0.Coords) : BitVec 32 :=
  let arg1 : BitVec 32 := BitVec.ofNat 32 (i 1).val
  let c0_i32_1020 : BitVec 32 := 0#32
  let v3598 : BitVec 32 := Scalar.addi arg1 c0_i32_1020
  let c128_i32_1021 : BitVec 32 := 128#32
  let v3599 : BitVec 32 := Scalar.muli v3598 c128_i32_1021
  v3599
def k0_off6 (i : grid0.Coords) (c0_i32_1020 : BitVec 32) : Fin 4 → Nat :=
  let c0_1022 : Index := 0#32
  let c1_1023 : Index := 1#32
  let arg1 : BitVec 32 := BitVec.ofNat 32 (i 1).val
  let v3598 : BitVec 32 := Scalar.addi arg1 c0_i32_1020
  let c128_i32_1021 : BitVec 32 := 128#32
  let v3599 : BitVec 32 := Scalar.muli v3598 c128_i32_1021
  let v3600 : BitVec 32 := v3599
  let v3601 : Index := Scalar.indexCast v3600
  let c0_1024 : Index := 0#32
  ![0, 1, v3601.toNat, 0]
def k0_mult10 (i : grid0.Coords) : BitVec 32 :=
  let arg1 : BitVec 32 := BitVec.ofNat 32 (i 1).val
  let c2_i32_1157 : BitVec 32 := 2#32
  let v4277 : BitVec 32 := Scalar.addi arg1 c2_i32_1157
  let c128_i32_1158 : BitVec 32 := 128#32
  let v4278 : BitVec 32 := Scalar.muli v4277 c128_i32_1158
  v4278
def k0_mult11 (i : grid0.Coords) : BitVec 32 :=
  let arg1 : BitVec 32 := BitVec.ofNat 32 (i 1).val
  let c4_i32_1310 : BitVec 32 := 4#32
  let v4796 : BitVec 32 := Scalar.addi arg1 c4_i32_1310
  let c128_i32_1311 : BitVec 32 := 128#32
  let v4797 : BitVec 32 := Scalar.muli v4796 c128_i32_1311
  v4797
def k0_mult12 (i : grid0.Coords) : BitVec 32 :=
  let arg1 : BitVec 32 := BitVec.ofNat 32 (i 1).val
  let c6_i32_1463 : BitVec 32 := 6#32
  let v5315 : BitVec 32 := Scalar.addi arg1 c6_i32_1463
  let c128_i32_1464 : BitVec 32 := 128#32
  let v5316 : BitVec 32 := Scalar.muli v5315 c128_i32_1464
  v5316
def k0_mult13 (i : grid0.Coords) : BitVec 32 :=
  let arg1 : BitVec 32 := BitVec.ofNat 32 (i 1).val
  let c8_i32_1616 : BitVec 32 := 8#32
  let v5834 : BitVec 32 := Scalar.addi arg1 c8_i32_1616
  let c128_i32_1617 : BitVec 32 := 128#32
  let v5835 : BitVec 32 := Scalar.muli v5834 c128_i32_1617
  v5835
def k0_mult14 (i : grid0.Coords) : BitVec 32 :=
  let arg1 : BitVec 32 := BitVec.ofNat 32 (i 1).val
  let c10_i32_1769 : BitVec 32 := 10#32
  let v6353 : BitVec 32 := Scalar.addi arg1 c10_i32_1769
  let c128_i32_1770 : BitVec 32 := 128#32
  let v6354 : BitVec 32 := Scalar.muli v6353 c128_i32_1770
  v6354
@[reducible] def k0_t1_loop : Scf.Loop 32 :=
  let c0_i32_3080 : BitVec 32 := 0#32
  let c7_i32 : BitVec 32 := 7#32
  let v9187 : BitVec 32 := Scalar.addi c0_i32_3080 c7_i32
  let c1_i32_3081 : BitVec 32 := 1#32
  ⟨c0_i32_3080, v9187, c1_i32_3081⟩
def k0_mult15 (i : grid0.Coords) : BitVec 32 :=
  let arg1 : BitVec 32 := BitVec.ofNat 32 (i 1).val
  let c128_i32_4302 : BitVec 32 := 128#32
  let v11599 : BitVec 32 := Scalar.muli arg1 c128_i32_4302
  v11599
def k0_off7 (i : grid0.Coords) (k0_t1 : Fin k0_t1_loop.trips) (c0_i32_4300 : BitVec 32) : Fin 4 → Nat :=
  let c0_4303 : Index := 0#32
  let c2_i32_4298 : BitVec 32 := 2#32
  let c0_i32_3080 : BitVec 32 := 0#32
  let c1_i32_3081 : BitVec 32 := 1#32
  let arg25 : BitVec 32 := Scf.iv c0_i32_3080 c1_i32_3081 k0_t1
  let v11595 : BitVec 32 := Scalar.muli c2_i32_4298 arg25
  let c2_i32_4299 : BitVec 32 := 2#32
  let v11596 : BitVec 32 := Scalar.addi v11595 c2_i32_4299
  let v11597 : BitVec 32 := Scalar.addi v11596 c0_i32_4300
  let c2_i32_4301 : BitVec 32 := 2#32
  let v11598 : BitVec 32 := Scalar.subi v11597 c2_i32_4301
  let v11601 : Index := Scalar.indexCast v11598
  let arg1 : BitVec 32 := BitVec.ofNat 32 (i 1).val
  let c128_i32_4302 : BitVec 32 := 128#32
  let v11599 : BitVec 32 := Scalar.muli arg1 c128_i32_4302
  let v11600 : BitVec 32 := v11599
  let v11602 : Index := Scalar.indexCast v11600
  let c0_4304 : Index := 0#32
  ![0, v11601.toNat, v11602.toNat, 0]
def k0_mult16 (k0_t1 : Fin k0_t1_loop.trips) : BitVec 32 :=
  let c2_i32_4298 : BitVec 32 := 2#32
  let c0_i32_3080 : BitVec 32 := 0#32
  let c1_i32_3081 : BitVec 32 := 1#32
  let arg25 : BitVec 32 := Scf.iv c0_i32_3080 c1_i32_3081 k0_t1
  let v11595 : BitVec 32 := Scalar.muli c2_i32_4298 arg25
  let c2_i32_4299 : BitVec 32 := 2#32
  let v11596 : BitVec 32 := Scalar.addi v11595 c2_i32_4299
  let c0_i32_4300 : BitVec 32 := 0#32
  let v11597 : BitVec 32 := Scalar.addi v11596 c0_i32_4300
  let c2_i32_4301 : BitVec 32 := 2#32
  let v11598 : BitVec 32 := Scalar.subi v11597 c2_i32_4301
  let c128_i32_4308 : BitVec 32 := 128#32
  let v11607 : BitVec 32 := Scalar.muli v11598 c128_i32_4308
  v11607
def k0_off8 (k0_t1 : Fin k0_t1_loop.trips) (c0_i32_4300 : BitVec 32) : Fin 3 → Nat :=
  let c0_4309 : Index := 0#32
  let c0_4310 : Index := 0#32
  let c2_i32_4298 : BitVec 32 := 2#32
  let c0_i32_3080 : BitVec 32 := 0#32
  let c1_i32_3081 : BitVec 32 := 1#32
  let arg25 : BitVec 32 := Scf.iv c0_i32_3080 c1_i32_3081 k0_t1
  let v11595 : BitVec 32 := Scalar.muli c2_i32_4298 arg25
  let c2_i32_4299 : BitVec 32 := 2#32
  let v11596 : BitVec 32 := Scalar.addi v11595 c2_i32_4299
  let v11597 : BitVec 32 := Scalar.addi v11596 c0_i32_4300
  let c2_i32_4301 : BitVec 32 := 2#32
  let v11598 : BitVec 32 := Scalar.subi v11597 c2_i32_4301
  let c128_i32_4308 : BitVec 32 := 128#32
  let v11607 : BitVec 32 := Scalar.muli v11598 c128_i32_4308
  let v11608 : BitVec 32 := v11607
  let v11609 : Index := Scalar.indexCast v11608
  ![0, 0, v11609.toNat]
def k0_mult17 (k0_t1 : Fin k0_t1_loop.trips) : BitVec 32 :=
  let c2_i32_4298 : BitVec 32 := 2#32
  let c0_i32_3080 : BitVec 32 := 0#32
  let c1_i32_3081 : BitVec 32 := 1#32
  let arg25 : BitVec 32 := Scf.iv c0_i32_3080 c1_i32_3081 k0_t1
  let v11595 : BitVec 32 := Scalar.muli c2_i32_4298 arg25
  let c2_i32_4299 : BitVec 32 := 2#32
  let v11596 : BitVec 32 := Scalar.addi v11595 c2_i32_4299
  let c0_i32_4300 : BitVec 32 := 0#32
  let v11597 : BitVec 32 := Scalar.addi v11596 c0_i32_4300
  let c2_i32_4301 : BitVec 32 := 2#32
  let v11598 : BitVec 32 := Scalar.subi v11597 c2_i32_4301
  let c512_i32 : BitVec 32 := 512#32
  let v11619 : BitVec 32 := Scalar.muli v11598 c512_i32
  let c0_i32_4315 : BitVec 32 := 0#32
  let v11620 : BitVec 32 := Scalar.addi v11619 c0_i32_4315
  v11620
def k0_off9 (k0_t1 : Fin k0_t1_loop.trips) (c0_i32_4300 : BitVec 32) (c0_i32_4315 : BitVec 32) : Fin 3 → Nat :=
  let c0_4318 : Index := 0#32
  let c0_4319 : Index := 0#32
  let c2_i32_4298 : BitVec 32 := 2#32
  let c0_i32_3080 : BitVec 32 := 0#32
  let c1_i32_3081 : BitVec 32 := 1#32
  let arg25 : BitVec 32 := Scf.iv c0_i32_3080 c1_i32_3081 k0_t1
  let v11595 : BitVec 32 := Scalar.muli c2_i32_4298 arg25
  let c2_i32_4299 : BitVec 32 := 2#32
  let v11596 : BitVec 32 := Scalar.addi v11595 c2_i32_4299
  let v11597 : BitVec 32 := Scalar.addi v11596 c0_i32_4300
  let c2_i32_4301 : BitVec 32 := 2#32
  let v11598 : BitVec 32 := Scalar.subi v11597 c2_i32_4301
  let c512_i32 : BitVec 32 := 512#32
  let v11619 : BitVec 32 := Scalar.muli v11598 c512_i32
  let v11620 : BitVec 32 := Scalar.addi v11619 c0_i32_4315
  let v11621 : BitVec 32 := v11620
  let v11624 : Index := Scalar.indexCast v11621
  ![0, 0, v11624.toNat]
def k0_mult18 (k0_t1 : Fin k0_t1_loop.trips) : BitVec 32 :=
  let c2_i32_4298 : BitVec 32 := 2#32
  let c0_i32_3080 : BitVec 32 := 0#32
  let c1_i32_3081 : BitVec 32 := 1#32
  let arg25 : BitVec 32 := Scf.iv c0_i32_3080 c1_i32_3081 k0_t1
  let v11595 : BitVec 32 := Scalar.muli c2_i32_4298 arg25
  let c2_i32_4299 : BitVec 32 := 2#32
  let v11596 : BitVec 32 := Scalar.addi v11595 c2_i32_4299
  let c0_i32_4300 : BitVec 32 := 0#32
  let v11597 : BitVec 32 := Scalar.addi v11596 c0_i32_4300
  let c2_i32_4301 : BitVec 32 := 2#32
  let v11598 : BitVec 32 := Scalar.subi v11597 c2_i32_4301
  let c512_i32_4320 : BitVec 32 := 512#32
  let v11628 : BitVec 32 := Scalar.muli v11598 c512_i32_4320
  let c128_i32_4321 : BitVec 32 := 128#32
  let v11629 : BitVec 32 := Scalar.addi v11628 c128_i32_4321
  v11629
def k0_mult19 (k0_t1 : Fin k0_t1_loop.trips) : BitVec 32 :=
  let c2_i32_4298 : BitVec 32 := 2#32
  let c0_i32_3080 : BitVec 32 := 0#32
  let c1_i32_3081 : BitVec 32 := 1#32
  let arg25 : BitVec 32 := Scf.iv c0_i32_3080 c1_i32_3081 k0_t1
  let v11595 : BitVec 32 := Scalar.muli c2_i32_4298 arg25
  let c2_i32_4299 : BitVec 32 := 2#32
  let v11596 : BitVec 32 := Scalar.addi v11595 c2_i32_4299
  let c0_i32_4300 : BitVec 32 := 0#32
  let v11597 : BitVec 32 := Scalar.addi v11596 c0_i32_4300
  let c2_i32_4301 : BitVec 32 := 2#32
  let v11598 : BitVec 32 := Scalar.subi v11597 c2_i32_4301
  let c512_i32_4326 : BitVec 32 := 512#32
  let v11637 : BitVec 32 := Scalar.muli v11598 c512_i32_4326
  let c256_i32 : BitVec 32 := 256#32
  let v11638 : BitVec 32 := Scalar.addi v11637 c256_i32
  v11638
def k0_mult20 (k0_t1 : Fin k0_t1_loop.trips) : BitVec 32 :=
  let c2_i32_4298 : BitVec 32 := 2#32
  let c0_i32_3080 : BitVec 32 := 0#32
  let c1_i32_3081 : BitVec 32 := 1#32
  let arg25 : BitVec 32 := Scf.iv c0_i32_3080 c1_i32_3081 k0_t1
  let v11595 : BitVec 32 := Scalar.muli c2_i32_4298 arg25
  let c2_i32_4299 : BitVec 32 := 2#32
  let v11596 : BitVec 32 := Scalar.addi v11595 c2_i32_4299
  let c0_i32_4300 : BitVec 32 := 0#32
  let v11597 : BitVec 32 := Scalar.addi v11596 c0_i32_4300
  let c2_i32_4301 : BitVec 32 := 2#32
  let v11598 : BitVec 32 := Scalar.subi v11597 c2_i32_4301
  let c512_i32_4331 : BitVec 32 := 512#32
  let v11646 : BitVec 32 := Scalar.muli v11598 c512_i32_4331
  let c384_i32 : BitVec 32 := 384#32
  let v11647 : BitVec 32 := Scalar.addi v11646 c384_i32
  v11647
def k0_off10 (k0_t1 : Fin k0_t1_loop.trips) (c0_i32_5495 : BitVec 32) (c0_i32_5497 : BitVec 32) : Fin 4 → Nat :=
  let c0_5498 : Index := 0#32
  let c0_5499 : Index := 0#32
  let c2_i32_4298 : BitVec 32 := 2#32
  let c0_i32_3080 : BitVec 32 := 0#32
  let c1_i32_3081 : BitVec 32 := 1#32
  let arg25 : BitVec 32 := Scf.iv c0_i32_3080 c1_i32_3081 k0_t1
  let v11595 : BitVec 32 := Scalar.muli c2_i32_4298 arg25
  let c2_i32_4299 : BitVec 32 := 2#32
  let v11596 : BitVec 32 := Scalar.addi v11595 c2_i32_4299
  let v13970 : BitVec 32 := Scalar.addi v11596 c0_i32_5495
  let c4_i32_5496 : BitVec 32 := 4#32
  let v13971 : BitVec 32 := Scalar.muli v13970 c4_i32_5496
  let v13972 : BitVec 32 := Scalar.addi v13971 c0_i32_5497
  let v13973 : Index := Scalar.indexCast v13972
  let c0_5500 : Index := 0#32
  ![0, 0, v13973.toNat, 0]
def k0_off11 (k0_t1 : Fin k0_t1_loop.trips) (c0_i32_5495 : BitVec 32) (c0_i32_5497 : BitVec 32) : Fin 4 → Nat :=
  let c0_5501 : Index := 0#32
  let c0_5502 : Index := 0#32
  let c2_i32_4298 : BitVec 32 := 2#32
  let c0_i32_3080 : BitVec 32 := 0#32
  let c1_i32_3081 : BitVec 32 := 1#32
  let arg25 : BitVec 32 := Scf.iv c0_i32_3080 c1_i32_3081 k0_t1
  let v11595 : BitVec 32 := Scalar.muli c2_i32_4298 arg25
  let c2_i32_4299 : BitVec 32 := 2#32
  let v11596 : BitVec 32 := Scalar.addi v11595 c2_i32_4299
  let v13970 : BitVec 32 := Scalar.addi v11596 c0_i32_5495
  let c4_i32_5496 : BitVec 32 := 4#32
  let v13971 : BitVec 32 := Scalar.muli v13970 c4_i32_5496
  let v13972 : BitVec 32 := Scalar.addi v13971 c0_i32_5497
  let v13977 : Index := Scalar.indexCast v13972
  let c0_5503 : Index := 0#32
  ![0, 0, v13977.toNat, 0]
def k0_off12 (k0_t1 : Fin k0_t1_loop.trips) (c0_i32_5495 : BitVec 32) : Fin 4 → Nat :=
  let c0_5528 : Index := 0#32
  let c2_i32_4298 : BitVec 32 := 2#32
  let c0_i32_3080 : BitVec 32 := 0#32
  let c1_i32_3081 : BitVec 32 := 1#32
  let arg25 : BitVec 32 := Scf.iv c0_i32_3080 c1_i32_3081 k0_t1
  let v11595 : BitVec 32 := Scalar.muli c2_i32_4298 arg25
  let c2_i32_4299 : BitVec 32 := 2#32
  let v11596 : BitVec 32 := Scalar.addi v11595 c2_i32_4299
  let v13970 : BitVec 32 := Scalar.addi v11596 c0_i32_5495
  let v14015 : Index := Scalar.indexCast v13970
  let c0_5529 : Index := 0#32
  let c0_5530 : Index := 0#32
  ![0, v14015.toNat, 0, 0]
def k0_mult21 (i : grid0.Coords) : BitVec 32 :=
  let arg1 : BitVec 32 := BitVec.ofNat 32 (i 1).val
  let c12_i32_5558 : BitVec 32 := 12#32
  let v14100 : BitVec 32 := Scalar.addi arg1 c12_i32_5558
  let c128_i32_5559 : BitVec 32 := 128#32
  let v14101 : BitVec 32 := Scalar.muli v14100 c128_i32_5559
  v14101
def k0_off13 (i : grid0.Coords) (k0_t1 : Fin k0_t1_loop.trips) (c0_i32_5495 : BitVec 32) : Fin 4 → Nat :=
  let c0_5560 : Index := 0#32
  let c2_i32_4298 : BitVec 32 := 2#32
  let c0_i32_3080 : BitVec 32 := 0#32
  let c1_i32_3081 : BitVec 32 := 1#32
  let arg25 : BitVec 32 := Scf.iv c0_i32_3080 c1_i32_3081 k0_t1
  let v11595 : BitVec 32 := Scalar.muli c2_i32_4298 arg25
  let c2_i32_4299 : BitVec 32 := 2#32
  let v11596 : BitVec 32 := Scalar.addi v11595 c2_i32_4299
  let v13970 : BitVec 32 := Scalar.addi v11596 c0_i32_5495
  let v14103 : Index := Scalar.indexCast v13970
  let arg1 : BitVec 32 := BitVec.ofNat 32 (i 1).val
  let c12_i32_5558 : BitVec 32 := 12#32
  let v14100 : BitVec 32 := Scalar.addi arg1 c12_i32_5558
  let c128_i32_5559 : BitVec 32 := 128#32
  let v14101 : BitVec 32 := Scalar.muli v14100 c128_i32_5559
  let v14102 : BitVec 32 := v14101
  let v14104 : Index := Scalar.indexCast v14102
  let c0_5561 : Index := 0#32
  ![0, v14103.toNat, v14104.toNat, 0]
def k0_off14 (i : grid0.Coords) (k0_t1 : Fin k0_t1_loop.trips) (c0_i32_5495 : BitVec 32) (c12_i32_5566 : BitVec 32) (c0_i32_5567 : BitVec 32) : Fin 4 → Nat :=
  let c0_5568 : Index := 0#32
  let c2_i32_4298 : BitVec 32 := 2#32
  let c0_i32_3080 : BitVec 32 := 0#32
  let c1_i32_3081 : BitVec 32 := 1#32
  let arg25 : BitVec 32 := Scf.iv c0_i32_3080 c1_i32_3081 k0_t1
  let v11595 : BitVec 32 := Scalar.muli c2_i32_4298 arg25
  let c2_i32_4299 : BitVec 32 := 2#32
  let v11596 : BitVec 32 := Scalar.addi v11595 c2_i32_4299
  let v13970 : BitVec 32 := Scalar.addi v11596 c0_i32_5495
  let v14114 : Index := Scalar.indexCast v13970
  let arg1 : BitVec 32 := BitVec.ofNat 32 (i 1).val
  let v14112 : BitVec 32 := Scalar.addi arg1 c12_i32_5566
  let v14113 : BitVec 32 := Scalar.addi v14112 c0_i32_5567
  let v14115 : Index := Scalar.indexCast v14113
  let c0_5569 : Index := 0#32
  ![0, v14114.toNat, v14115.toNat, 0]
def k0_off14_at (r : Fin 26) : BitVec 32 × BitVec 32 × BitVec 32 :=
  if r.val < 13 then
    if r.val < 6 then
      if r.val < 3 then
        if r.val < 1 then
          (0#32, 12#32, 0#32)
        else
          if r.val < 2 then
            (0#32, 0#32, 0#32)
          else
            (0#32, 0#32, 1#32)
      else
        if r.val < 4 then
          (0#32, 2#32, 0#32)
        else
          if r.val < 5 then
            (0#32, 2#32, 1#32)
          else
            (0#32, 4#32, 0#32)
    else
      if r.val < 9 then
        if r.val < 7 then
          (0#32, 4#32, 1#32)
        else
          if r.val < 8 then
            (0#32, 6#32, 0#32)
          else
            (0#32, 6#32, 1#32)
      else
        if r.val < 11 then
          if r.val < 10 then
            (0#32, 8#32, 0#32)
          else
            (0#32, 8#32, 1#32)
        else
          if r.val < 12 then
            (0#32, 10#32, 0#32)
          else
            (0#32, 10#32, 1#32)
  else
    if r.val < 19 then
      if r.val < 16 then
        if r.val < 14 then
          (1#32, 12#32, 0#32)
        else
          if r.val < 15 then
            (1#32, 0#32, 0#32)
          else
            (1#32, 0#32, 1#32)
      else
        if r.val < 17 then
          (1#32, 2#32, 0#32)
        else
          if r.val < 18 then
            (1#32, 2#32, 1#32)
          else
            (1#32, 4#32, 0#32)
    else
      if r.val < 22 then
        if r.val < 20 then
          (1#32, 4#32, 1#32)
        else
          if r.val < 21 then
            (1#32, 6#32, 0#32)
          else
            (1#32, 6#32, 1#32)
      else
        if r.val < 24 then
          if r.val < 23 then
            (1#32, 8#32, 0#32)
          else
            (1#32, 8#32, 1#32)
        else
          if r.val < 25 then
            (1#32, 10#32, 0#32)
          else
            (1#32, 10#32, 1#32)
def k0_mult22 (i : grid0.Coords) : BitVec 32 :=
  let arg1 : BitVec 32 := BitVec.ofNat 32 (i 1).val
  let c0_i32_5580 : BitVec 32 := 0#32
  let v14152 : BitVec 32 := Scalar.addi arg1 c0_i32_5580
  let c128_i32_5581 : BitVec 32 := 128#32
  let v14153 : BitVec 32 := Scalar.muli v14152 c128_i32_5581
  v14153
def k0_off15 (i : grid0.Coords) (k0_t1 : Fin k0_t1_loop.trips) (c0_i32_5495 : BitVec 32) (c0_i32_5580 : BitVec 32) : Fin 4 → Nat :=
  let c0_5582 : Index := 0#32
  let c2_i32_4298 : BitVec 32 := 2#32
  let c0_i32_3080 : BitVec 32 := 0#32
  let c1_i32_3081 : BitVec 32 := 1#32
  let arg25 : BitVec 32 := Scf.iv c0_i32_3080 c1_i32_3081 k0_t1
  let v11595 : BitVec 32 := Scalar.muli c2_i32_4298 arg25
  let c2_i32_4299 : BitVec 32 := 2#32
  let v11596 : BitVec 32 := Scalar.addi v11595 c2_i32_4299
  let v13970 : BitVec 32 := Scalar.addi v11596 c0_i32_5495
  let v14155 : Index := Scalar.indexCast v13970
  let arg1 : BitVec 32 := BitVec.ofNat 32 (i 1).val
  let v14152 : BitVec 32 := Scalar.addi arg1 c0_i32_5580
  let c128_i32_5581 : BitVec 32 := 128#32
  let v14153 : BitVec 32 := Scalar.muli v14152 c128_i32_5581
  let v14154 : BitVec 32 := v14153
  let v14156 : Index := Scalar.indexCast v14154
  let c0_5583 : Index := 0#32
  ![0, v14155.toNat, v14156.toNat, 0]
def k0_mult23 (i : grid0.Coords) : BitVec 32 :=
  let arg1 : BitVec 32 := BitVec.ofNat 32 (i 1).val
  let c2_i32_5714 : BitVec 32 := 2#32
  let v14834 : BitVec 32 := Scalar.addi arg1 c2_i32_5714
  let c128_i32_5715 : BitVec 32 := 128#32
  let v14835 : BitVec 32 := Scalar.muli v14834 c128_i32_5715
  v14835
def k0_mult24 (i : grid0.Coords) : BitVec 32 :=
  let arg1 : BitVec 32 := BitVec.ofNat 32 (i 1).val
  let c4_i32_5864 : BitVec 32 := 4#32
  let v15356 : BitVec 32 := Scalar.addi arg1 c4_i32_5864
  let c128_i32_5865 : BitVec 32 := 128#32
  let v15357 : BitVec 32 := Scalar.muli v15356 c128_i32_5865
  v15357
def k0_mult25 (i : grid0.Coords) : BitVec 32 :=
  let arg1 : BitVec 32 := BitVec.ofNat 32 (i 1).val
  let c6_i32_6014 : BitVec 32 := 6#32
  let v15878 : BitVec 32 := Scalar.addi arg1 c6_i32_6014
  let c128_i32_6015 : BitVec 32 := 128#32
  let v15879 : BitVec 32 := Scalar.muli v15878 c128_i32_6015
  v15879
def k0_mult26 (i : grid0.Coords) : BitVec 32 :=
  let arg1 : BitVec 32 := BitVec.ofNat 32 (i 1).val
  let c8_i32_6164 : BitVec 32 := 8#32
  let v16400 : BitVec 32 := Scalar.addi arg1 c8_i32_6164
  let c128_i32_6165 : BitVec 32 := 128#32
  let v16401 : BitVec 32 := Scalar.muli v16400 c128_i32_6165
  v16401
def k0_mult27 (i : grid0.Coords) : BitVec 32 :=
  let arg1 : BitVec 32 := BitVec.ofNat 32 (i 1).val
  let c10_i32_6314 : BitVec 32 := 10#32
  let v16922 : BitVec 32 := Scalar.addi arg1 c10_i32_6314
  let c128_i32_6315 : BitVec 32 := 128#32
  let v16923 : BitVec 32 := Scalar.muli v16922 c128_i32_6315
  v16923
def k0_mult28 (i : grid0.Coords) : BitVec 32 :=
  let arg1 : BitVec 32 := BitVec.ofNat 32 (i 1).val
  let c128_i32_6466 : BitVec 32 := 128#32
  let v17446 : BitVec 32 := Scalar.muli arg1 c128_i32_6466
  v17446
def k0_mult29 (k0_t1 : Fin k0_t1_loop.trips) : BitVec 32 :=
  let c2_i32_4298 : BitVec 32 := 2#32
  let c0_i32_3080 : BitVec 32 := 0#32
  let c1_i32_3081 : BitVec 32 := 1#32
  let arg25 : BitVec 32 := Scf.iv c0_i32_3080 c1_i32_3081 k0_t1
  let v11595 : BitVec 32 := Scalar.muli c2_i32_4298 arg25
  let c2_i32_4299 : BitVec 32 := 2#32
  let v11596 : BitVec 32 := Scalar.addi v11595 c2_i32_4299
  let c1_i32_6464 : BitVec 32 := 1#32
  let v17444 : BitVec 32 := Scalar.addi v11596 c1_i32_6464
  let c2_i32_6465 : BitVec 32 := 2#32
  let v17445 : BitVec 32 := Scalar.subi v17444 c2_i32_6465
  let c128_i32_6472 : BitVec 32 := 128#32
  let v17454 : BitVec 32 := Scalar.muli v17445 c128_i32_6472
  v17454
def k0_mult30 (k0_t1 : Fin k0_t1_loop.trips) : BitVec 32 :=
  let c2_i32_4298 : BitVec 32 := 2#32
  let c0_i32_3080 : BitVec 32 := 0#32
  let c1_i32_3081 : BitVec 32 := 1#32
  let arg25 : BitVec 32 := Scf.iv c0_i32_3080 c1_i32_3081 k0_t1
  let v11595 : BitVec 32 := Scalar.muli c2_i32_4298 arg25
  let c2_i32_4299 : BitVec 32 := 2#32
  let v11596 : BitVec 32 := Scalar.addi v11595 c2_i32_4299
  let c1_i32_6464 : BitVec 32 := 1#32
  let v17444 : BitVec 32 := Scalar.addi v11596 c1_i32_6464
  let c2_i32_6465 : BitVec 32 := 2#32
  let v17445 : BitVec 32 := Scalar.subi v17444 c2_i32_6465
  let c512_i32_6479 : BitVec 32 := 512#32
  let v17466 : BitVec 32 := Scalar.muli v17445 c512_i32_6479
  let c0_i32_6480 : BitVec 32 := 0#32
  let v17467 : BitVec 32 := Scalar.addi v17466 c0_i32_6480
  v17467
def k0_mult31 (k0_t1 : Fin k0_t1_loop.trips) : BitVec 32 :=
  let c2_i32_4298 : BitVec 32 := 2#32
  let c0_i32_3080 : BitVec 32 := 0#32
  let c1_i32_3081 : BitVec 32 := 1#32
  let arg25 : BitVec 32 := Scf.iv c0_i32_3080 c1_i32_3081 k0_t1
  let v11595 : BitVec 32 := Scalar.muli c2_i32_4298 arg25
  let c2_i32_4299 : BitVec 32 := 2#32
  let v11596 : BitVec 32 := Scalar.addi v11595 c2_i32_4299
  let c1_i32_6464 : BitVec 32 := 1#32
  let v17444 : BitVec 32 := Scalar.addi v11596 c1_i32_6464
  let c2_i32_6465 : BitVec 32 := 2#32
  let v17445 : BitVec 32 := Scalar.subi v17444 c2_i32_6465
  let c512_i32_6485 : BitVec 32 := 512#32
  let v17475 : BitVec 32 := Scalar.muli v17445 c512_i32_6485
  let c128_i32_6486 : BitVec 32 := 128#32
  let v17476 : BitVec 32 := Scalar.addi v17475 c128_i32_6486
  v17476
def k0_mult32 (k0_t1 : Fin k0_t1_loop.trips) : BitVec 32 :=
  let c2_i32_4298 : BitVec 32 := 2#32
  let c0_i32_3080 : BitVec 32 := 0#32
  let c1_i32_3081 : BitVec 32 := 1#32
  let arg25 : BitVec 32 := Scf.iv c0_i32_3080 c1_i32_3081 k0_t1
  let v11595 : BitVec 32 := Scalar.muli c2_i32_4298 arg25
  let c2_i32_4299 : BitVec 32 := 2#32
  let v11596 : BitVec 32 := Scalar.addi v11595 c2_i32_4299
  let c1_i32_6464 : BitVec 32 := 1#32
  let v17444 : BitVec 32 := Scalar.addi v11596 c1_i32_6464
  let c2_i32_6465 : BitVec 32 := 2#32
  let v17445 : BitVec 32 := Scalar.subi v17444 c2_i32_6465
  let c512_i32_6491 : BitVec 32 := 512#32
  let v17484 : BitVec 32 := Scalar.muli v17445 c512_i32_6491
  let c256_i32_6492 : BitVec 32 := 256#32
  let v17485 : BitVec 32 := Scalar.addi v17484 c256_i32_6492
  v17485
def k0_mult33 (k0_t1 : Fin k0_t1_loop.trips) : BitVec 32 :=
  let c2_i32_4298 : BitVec 32 := 2#32
  let c0_i32_3080 : BitVec 32 := 0#32
  let c1_i32_3081 : BitVec 32 := 1#32
  let arg25 : BitVec 32 := Scf.iv c0_i32_3080 c1_i32_3081 k0_t1
  let v11595 : BitVec 32 := Scalar.muli c2_i32_4298 arg25
  let c2_i32_4299 : BitVec 32 := 2#32
  let v11596 : BitVec 32 := Scalar.addi v11595 c2_i32_4299
  let c1_i32_6464 : BitVec 32 := 1#32
  let v17444 : BitVec 32 := Scalar.addi v11596 c1_i32_6464
  let c2_i32_6465 : BitVec 32 := 2#32
  let v17445 : BitVec 32 := Scalar.subi v17444 c2_i32_6465
  let c512_i32_6497 : BitVec 32 := 512#32
  let v17493 : BitVec 32 := Scalar.muli v17445 c512_i32_6497
  let c384_i32_6498 : BitVec 32 := 384#32
  let v17494 : BitVec 32 := Scalar.addi v17493 c384_i32_6498
  v17494
def k0_mult34 (i : grid0.Coords) : BitVec 32 :=
  let arg1 : BitVec 32 := BitVec.ofNat 32 (i 1).val
  let c12_i32_7725 : BitVec 32 := 12#32
  let v19947 : BitVec 32 := Scalar.addi arg1 c12_i32_7725
  let c128_i32_7726 : BitVec 32 := 128#32
  let v19948 : BitVec 32 := Scalar.muli v19947 c128_i32_7726
  v19948
def k0_mult35 (i : grid0.Coords) : BitVec 32 :=
  let arg1 : BitVec 32 := BitVec.ofNat 32 (i 1).val
  let c0_i32_7747 : BitVec 32 := 0#32
  let v19999 : BitVec 32 := Scalar.addi arg1 c0_i32_7747
  let c128_i32_7748 : BitVec 32 := 128#32
  let v20000 : BitVec 32 := Scalar.muli v19999 c128_i32_7748
  v20000
def k0_mult36 (i : grid0.Coords) : BitVec 32 :=
  let arg1 : BitVec 32 := BitVec.ofNat 32 (i 1).val
  let c2_i32_7881 : BitVec 32 := 2#32
  let v20681 : BitVec 32 := Scalar.addi arg1 c2_i32_7881
  let c128_i32_7882 : BitVec 32 := 128#32
  let v20682 : BitVec 32 := Scalar.muli v20681 c128_i32_7882
  v20682
def k0_mult37 (i : grid0.Coords) : BitVec 32 :=
  let arg1 : BitVec 32 := BitVec.ofNat 32 (i 1).val
  let c4_i32_8031 : BitVec 32 := 4#32
  let v21203 : BitVec 32 := Scalar.addi arg1 c4_i32_8031
  let c128_i32_8032 : BitVec 32 := 128#32
  let v21204 : BitVec 32 := Scalar.muli v21203 c128_i32_8032
  v21204
def k0_mult38 (i : grid0.Coords) : BitVec 32 :=
  let arg1 : BitVec 32 := BitVec.ofNat 32 (i 1).val
  let c6_i32_8181 : BitVec 32 := 6#32
  let v21725 : BitVec 32 := Scalar.addi arg1 c6_i32_8181
  let c128_i32_8182 : BitVec 32 := 128#32
  let v21726 : BitVec 32 := Scalar.muli v21725 c128_i32_8182
  v21726
def k0_mult39 (i : grid0.Coords) : BitVec 32 :=
  let arg1 : BitVec 32 := BitVec.ofNat 32 (i 1).val
  let c8_i32_8331 : BitVec 32 := 8#32
  let v22247 : BitVec 32 := Scalar.addi arg1 c8_i32_8331
  let c128_i32_8332 : BitVec 32 := 128#32
  let v22248 : BitVec 32 := Scalar.muli v22247 c128_i32_8332
  v22248
def k0_mult40 (i : grid0.Coords) : BitVec 32 :=
  let arg1 : BitVec 32 := BitVec.ofNat 32 (i 1).val
  let c10_i32_8481 : BitVec 32 := 10#32
  let v22769 : BitVec 32 := Scalar.addi arg1 c10_i32_8481
  let c128_i32_8482 : BitVec 32 := 128#32
  let v22770 : BitVec 32 := Scalar.muli v22769 c128_i32_8482
  v22770
def k0_mult41 (i : grid0.Coords) : BitVec 32 :=
  let arg1 : BitVec 32 := BitVec.ofNat 32 (i 1).val
  let c128_i32_3083 : BitVec 32 := 128#32
  let v9188 : BitVec 32 := Scalar.muli arg1 c128_i32_3083
  v9188
def k0_off16 (i : grid0.Coords) : Fin 4 → Nat :=
  let c0_3084 : Index := 0#32
  let c14 : Index := 14#32
  let arg1 : BitVec 32 := BitVec.ofNat 32 (i 1).val
  let c128_i32_3083 : BitVec 32 := 128#32
  let v9188 : BitVec 32 := Scalar.muli arg1 c128_i32_3083
  let v9189 : BitVec 32 := v9188
  let v9190 : Index := Scalar.indexCast v9189
  let c0_3085 : Index := 0#32
  ![0, 14, v9190.toNat, 0]
def k0_mult42 : BitVec 32 :=
  let c1792_i32 : BitVec 32 := 1792#32
  c1792_i32
def k0_mult43 : BitVec 32 :=
  let c7168_i32 : BitVec 32 := 7168#32
  c7168_i32
def k0_mult44 : BitVec 32 :=
  let c7296_i32 : BitVec 32 := 7296#32
  c7296_i32
def k0_mult45 : BitVec 32 :=
  let c7424_i32 : BitVec 32 := 7424#32
  c7424_i32
def k0_mult46 : BitVec 32 :=
  let c7552_i32 : BitVec 32 := 7552#32
  c7552_i32
def k0_mult47 (i : grid0.Coords) : BitVec 32 :=
  let arg1 : BitVec 32 := BitVec.ofNat 32 (i 1).val
  let c128_i32_4270 : BitVec 32 := 128#32
  let v11549 : BitVec 32 := Scalar.muli arg1 c128_i32_4270
  v11549
def k0_off17 (i : grid0.Coords) : Fin 4 → Nat :=
  let c0_4271 : Index := 0#32
  let c15 : Index := 15#32
  let arg1 : BitVec 32 := BitVec.ofNat 32 (i 1).val
  let c128_i32_4270 : BitVec 32 := 128#32
  let v11549 : BitVec 32 := Scalar.muli arg1 c128_i32_4270
  let v11550 : BitVec 32 := v11549
  let v11551 : Index := Scalar.indexCast v11550
  let c0_4272 : Index := 0#32
  ![0, 15, v11551.toNat, 0]
def k0_mult48 : BitVec 32 :=
  let c1920_i32 : BitVec 32 := 1920#32
  c1920_i32
def k0_mult49 : BitVec 32 :=
  let c7680_i32 : BitVec 32 := 7680#32
  c7680_i32
def k0_mult50 : BitVec 32 :=
  let c7808_i32 : BitVec 32 := 7808#32
  c7808_i32
def k0_mult51 : BitVec 32 :=
  let c7936_i32 : BitVec 32 := 7936#32
  c7936_i32
def k0_mult52 : BitVec 32 :=
  let c8064_i32 : BitVec 32 := 8064#32
  c8064_i32
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x16x512x128 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x64x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x64x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x4096x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x16x4096x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x16x32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x128x8192 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "score_scale" => some (((Real.sqrt 128)⁻¹ * (Real.log 2)⁻¹ : ℝ) : EReal)
  | _ => none
-- ==== ReferenceIdeal.lean ====
abbrev S4x16x10240x128 : Shape := ⟨4, ![4, 16, 10240, 128]⟩
abbrev S4x20x64x1 : Shape := ⟨4, ![4, 20, 64, 1]⟩
abbrev S4x20x64x128 : Shape := ⟨4, ![4, 20, 64, 128]⟩
abbrev S4x16x4096x128 : Shape := ⟨4, ![4, 16, 4096, 128]⟩
abbrev S4x16x32x128 : Shape := ⟨4, ![4, 16, 32, 128]⟩
abbrev S4x1x2048 : Shape := ⟨3, ![4, 1, 2048]⟩
abbrev S4x20x16x4 : Shape := ⟨4, ![4, 20, 16, 4]⟩
abbrev S4x16x20x4 : Shape := ⟨4, ![4, 16, 20, 4]⟩
abbrev S4x16x20x1x4 : Shape := ⟨5, ![4, 16, 20, 1, 4]⟩
abbrev S4x16x20x128x4 : Shape := ⟨5, ![4, 16, 20, 128, 4]⟩
abbrev S64x10240x1 : Shape := ⟨3, ![64, 10240, 1]⟩
abbrev S4x20x16x4x128 : Shape := ⟨5, ![4, 20, 16, 4, 128]⟩
abbrev S4x16x20x4x128 : Shape := ⟨5, ![4, 16, 20, 4, 128]⟩
abbrev S4x16x20x1x4x128 : Shape := ⟨6, ![4, 16, 20, 1, 4, 128]⟩
abbrev S4x16x20x128x4x128 : Shape := ⟨6, ![4, 16, 20, 128, 4, 128]⟩
abbrev S64x10240x128 : Shape := ⟨3, ![64, 10240, 128]⟩
abbrev S64x1x4096 : Shape := ⟨3, ![64, 1, 4096]⟩
abbrev S64x1x128 : Shape := ⟨3, ![64, 1, 128]⟩
abbrev S4x2560x8192 : Shape := ⟨3, ![4, 2560, 8192]⟩
abbrev S64x4096x128 : Shape := ⟨3, ![64, 4096, 128]⟩
abbrev S64x10240x4096 : Shape := ⟨3, ![64, 10240, 4096]⟩
abbrev S64x10240 : Shape := ⟨2, ![64, 10240]⟩
abbrev S4x16x2560x4x128 : Shape := ⟨5, ![4, 16, 2560, 4, 128]⟩
abbrev S4x2560x16x4x128 : Shape := ⟨5, ![4, 2560, 16, 4, 128]⟩

abbrev nBuf : Space → Nat
  | .hbm => 20
  | .vmem => 8
  | .smem => 0
  | _ => 0

abbrev bufTy : (tb : Table) → Fin (tcTables nBuf tb) → BufTy
  | .hbm, ⟨0, _⟩ => ⟨S4x16x10240x128, .fp8e4m3⟩
  | .hbm, ⟨1, _⟩ => ⟨S4x20x64x1, .f32⟩
  | .hbm, ⟨2, _⟩ => ⟨S4x20x64x128, .bf16⟩
  | .hbm, ⟨3, _⟩ => ⟨S4x16x4096x128, .fp8e4m3⟩
  | .hbm, ⟨4, _⟩ => ⟨S4x16x4096x128, .fp8e4m3⟩
  | .hbm, ⟨5, _⟩ => ⟨S4x16x32x128, .f32⟩
  | .hbm, ⟨6, _⟩ => ⟨S4x1x2048, .f32⟩
  | .hbm, ⟨7, _⟩ => ⟨S4x20x16x4, .f32⟩
  | .hbm, ⟨8, _⟩ => ⟨S4x16x20x4, .f32⟩
  | .hbm, ⟨9, _⟩ => ⟨S4x16x20x1x4, .f32⟩
  | .hbm, ⟨10, _⟩ => ⟨S4x16x20x128x4, .f32⟩
  | .hbm, ⟨11, _⟩ => ⟨S64x10240x1, .f32⟩
  | .hbm, ⟨12, _⟩ => ⟨S4x20x16x4x128, .bf16⟩
  | .hbm, ⟨13, _⟩ => ⟨S4x16x20x4x128, .bf16⟩
  | .hbm, ⟨14, _⟩ => ⟨S4x16x20x1x4x128, .bf16⟩
  | .hbm, ⟨15, _⟩ => ⟨S4x16x20x128x4x128, .bf16⟩
  | .hbm, ⟨16, _⟩ => ⟨S64x10240x128, .bf16⟩
  | .hbm, ⟨17, _⟩ => ⟨S64x1x4096, .f32⟩
  | .hbm, ⟨18, _⟩ => ⟨S64x1x128, .f32⟩
  | .hbm, ⟨19, _⟩ => ⟨S4x2560x8192, .bf16⟩
  | .local _ .vmem, ⟨0, _⟩ => ⟨S4x16x10240x128, .fp8e4m3⟩
  | .local _ .vmem, ⟨1, _⟩ => ⟨S64x10240x1, .f32⟩
  | .local _ .vmem, ⟨2, _⟩ => ⟨S64x10240x128, .bf16⟩
  | .local _ .vmem, ⟨3, _⟩ => ⟨S4x16x4096x128, .fp8e4m3⟩
  | .local _ .vmem, ⟨4, _⟩ => ⟨S4x16x4096x128, .fp8e4m3⟩
  | .local _ .vmem, ⟨5, _⟩ => ⟨S64x1x4096, .f32⟩
  | .local _ .vmem, ⟨6, _⟩ => ⟨S64x1x128, .f32⟩
  | .local _ .vmem, ⟨7, _⟩ => ⟨S4x2560x8192, .bf16⟩
  | _, _ => ⟨S4x16x10240x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "sm_scale" => some (((Real.sqrt 128)⁻¹ : ℝ) : EReal)
  | _ => none

abbrev grid0 : Pipeline.Grid := .none

abbrev stage0_0 : Fin 1 → Memref sig .tc .vmem S4x16x10240x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x10240x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x10240x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x16x4096x128 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x16x4096x128 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x2560x8192 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Attn.Facts.lean ====
/- The shape facts of the attention program's operations. -/
module

public import proofs.«01_k».proof.KernelIdeal
public import Idealize.ShloMosaic.Lib.Decide

@[expose] public section

namespace Cert.Proof.Attn

open Idealize.ShloMosaic Idealize.SL.Sem
open Cert.KernelIdeal

theorem h_S1x1x1x128 : 0 < S1x1x1x128.numel := by decide
theorem shapeCasts_S1x1x1x128_S1x128 : S1x1x1x128.ShapeCasts S1x128 := by decide
theorem bitsLt_bf16_f32 : FTy.bits .bf16 < FTy.bits .f32 := by decide
theorem h_S1x1x1x1 : 0 < S1x1x1x1.numel := by decide
theorem shapeCasts_S1x1x1x1_S1x1 : S1x1x1x1.ShapeCasts S1x1 := by decide
theorem shapeCasts_S1x1_S1x1 : S1x1.ShapeCasts S1x1 := by decide
theorem broadcasts_S1x1_S1x128 : S1x1.Broadcasts S1x128 := by decide
theorem h_S1x1x512x128 : 0 < S1x1x512x128.numel := by decide
theorem shapeCasts_S1x1x512x128_S512x128 : S1x1x512x128.ShapeCasts S512x128 := by decide
theorem inb_S512x128_S512x128_0_0 : ∀ a, (![0, 0] : Fin 2 → Nat) a + S512x128.size a ≤ S512x128.size a := by decide
theorem h_S512x128 : 0 < S512x128.numel := by decide
theorem shapeCasts_S512x128_S512x128 : S512x128.ShapeCasts S512x128 := by decide
theorem packedfp8e4m3_S512x128_S512x128_0_0 : (Rect.unit (s := S512x128) ![0, 0] S512x128.size inb_S512x128_S512x128_0_0).PackedRows (EltTy.packing .fp8e4m3) := by decide
theorem iota_S8x128_d0_w32 : S8x128.Iotas .tc 32 [0] := by decide
theorem broadcasts_S8x128_S8x128 : S8x128.Broadcasts S8x128 := by decide
theorem shapeCasts_S1x128_S1x128 : S1x128.ShapeCasts S1x128 := by decide
theorem broadcasts_S1x128_S8x128 : S1x128.Broadcasts S8x128 := by decide
theorem inb_S8x128_S8x128_0_0 : ∀ a, (![0, 0] : Fin 2 → Nat) a + S8x128.size a ≤ S8x128.size a := by decide
theorem h_S8x128 : 0 < S8x128.numel := by decide
theorem shapeCasts_S8x128_S8x128 : S8x128.ShapeCasts S8x128 := by decide
theorem concatenates_S8x128_S8x128_S16x128_d0 : Shape.Concatenates [S8x128, S8x128] S16x128 0 := by decide
theorem inb_S16x128_S16x128_0_0 : ∀ a, (![0, 0] : Fin 2 → Nat) a + S16x128.size a ≤ S16x128.size a := by decide
theorem h_S16x128 : 0 < S16x128.numel := by decide
theorem shapeCasts_S16x128_S16x128 : S16x128.ShapeCasts S16x128 := by decide
theorem packedbf16_S16x128_S16x128_0_0 : (Rect.unit (s := S16x128) ![0, 0] S16x128.size inb_S16x128_S16x128_0_0).PackedRows (EltTy.packing .bf16) := by decide
theorem h_S1x1x128x128 : 0 < S1x1x128x128.numel := by decide
theorem shapeCasts_S1x1x128x128_S128x128 : S1x1x128x128.ShapeCasts S128x128 := by decide
theorem bitsLt_fp8e4m3_bf16 : FTy.bits .fp8e4m3 < FTy.bits .bf16 := by decide
theorem slices_S16x128_o0_0_S8x128 : S16x128.Slices ![0, 0] S8x128 := by decide
theorem iota_S32x128_d1_w32 : S32x128.Iotas .tc 32 [1] := by decide
theorem iota_S32x128_d0_w32 : S32x128.Iotas .tc 32 [0] := by decide
theorem natLt_1_32 : 1 < 32 := by decide
theorem h_S1x1x256x128 : 0 < S1x1x256x128.numel := by decide
theorem shapeCasts_S1x1x256x128_S256x128 : S1x1x256x128.ShapeCasts S256x128 := by decide
theorem slices_S16x256_o0_0_S8x256 : S16x256.Slices ![0, 0] S8x256 := by decide
theorem shapeCasts_S32x128_S4x8x128 : S32x128.ShapeCasts S4x8x128 := by decide
theorem shapeCasts_S8x128_S1x8x128 : S8x128.ShapeCasts S1x8x128 := by decide
theorem broadcasts_S1x8x128_S4x8x128 : S1x8x128.Broadcasts S4x8x128 := by decide
theorem shapeCasts_S4x8x128_S32x128 : S4x8x128.ShapeCasts S32x128 := by decide
theorem h_S32x128 : 0 < S32x128.numel := by decide
theorem shapeCasts_S32x128_S32x128 : S32x128.ShapeCasts S32x128 := by decide
theorem reduces_S32x128_S32 : S32x128.Reduces [1] S32 := by decide
theorem shapeCasts_S32_S32x1 : S32.ShapeCasts S32x1 := by decide
theorem shapeCasts_S32x1_S32x1 : S32x1.ShapeCasts S32x1 := by decide
theorem broadcasts_S32x1_S32x128 : S32x1.Broadcasts S32x128 := by decide
theorem bitsLt_fp8e4m3_f32 : FTy.bits .fp8e4m3 < FTy.bits .f32 := by decide
theorem h_S1x1x1664x128 : 0 < S1x1x1664x128.numel := by decide
theorem shapeCasts_S1x1x1664x128_S1664x128 : S1x1x1664x128.ShapeCasts S1664x128 := by decide
theorem inb_S512x1664_S512x1664_0_0 : ∀ a, (![0, 0] : Fin 2 → Nat) a + S512x1664.size a ≤ S512x1664.size a := by decide
theorem h_S512x1664 : 0 < S512x1664.numel := by decide
theorem h_S1x1x128 : 0 < S1x1x128.numel := by decide
theorem shapeCasts_S1x1x128_S1x128 : S1x1x128.ShapeCasts S1x128 := by decide
theorem broadcasts_S1x128_S512x128 : S1x128.Broadcasts S512x128 := by decide
theorem h_S128x128 : 0 < S128x128.numel := by decide
theorem h_S1x128x128 : 0 < S1x128x128.numel := by decide
theorem shapeCasts_S128x128_S1x128x128 : S128x128.ShapeCasts S1x128x128 := by decide

def dot_S16x128_S128x128_S16x128_1_1_0_0_n_n : DotDims S16x128 S128x128 S16x128 where
  lhsContracting := [1]
  rhsContracting := [1]
  lhsNonContracting := [0]
  rhsNonContracting := [0]
  lhsBatch := []
  rhsBatch := []
  wf := by decide

def dot_S16x128_S256x128_S16x256_1_1_0_0_n_n : DotDims S16x128 S256x128 S16x256 where
  lhsContracting := [1]
  rhsContracting := [1]
  lhsNonContracting := [0]
  rhsNonContracting := [0]
  lhsBatch := []
  rhsBatch := []
  wf := by decide

def dot_S512x128_S128x128_S512x128_1_1_0_0_n_n : DotDims S512x128 S128x128 S512x128 where
  lhsContracting := [1]
  rhsContracting := [1]
  lhsNonContracting := [0]
  rhsNonContracting := [0]
  lhsBatch := []
  rhsBatch := []
  wf := by decide

def dot_S512x128_S256x128_S512x256_1_1_0_0_n_n : DotDims S512x128 S256x128 S512x256 where
  lhsContracting := [1]
  rhsContracting := [1]
  lhsNonContracting := [0]
  rhsNonContracting := [0]
  lhsBatch := []
  rhsBatch := []
  wf := by decide

def dot_S512x1664_S1664x128_S512x128_1_0_0_1_n_n : DotDims S512x1664 S1664x128 S512x128 where
  lhsContracting := [1]
  rhsContracting := [0]
  lhsNonContracting := [0]
  rhsNonContracting := [1]
  lhsBatch := []
  rhsBatch := []
  wf := by decide

end Cert.Proof.Attn

end
-- ==== Proof.Attn.Hoare.lean ====
/- Triples over the contents of a family of buffers: `T p σ Φ` says that a program run where the family's buffers hold
   `σ` ends with a value `a` and contents `σ'` with `Φ a σ'`; with the rules of loads, stores, sequences and loops. -/
module

public import Idealize.ShloMosaic.Lib.Exec
public import Idealize.ShloMosaic.Lib.Tactic
public import Idealize.ShloMosaic.Lib.Pipeline.Kit
public import Idealize.ShloMosaic.Lib.Pipeline.FrameBody

@[expose] public section

noncomputable section

namespace Cert.Proof.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-- Run `f` on the items of a list in turn. -/
def each {E : Type → Type} {α : Type} : List α → (α → Prog E PUnit) → Prog E PUnit
  | [], _ => pure ⟨⟩
  | a :: l, f => do
    f a
    each l f

/-- Run `f` on the items of a list in turn, threading a value. -/
def thread {E : Type → Type} {α β : Type} : List α → β → (β → α → Prog E β) → Prog E β
  | [], b, _ => pure b
  | a :: l, b, f => do
    let b' ← f b a
    thread l b' f

/-- Three sequenced programs, the middle value constant. -/
theorem bind_assoc3 {E : Type → Type} {α β γ : Type} (L : Prog E PUnit) (v : α) (f : α → Prog E β) (g : β → Prog E γ) (p : Prog E γ)
    (h : (f v >>= g) = p) : (((L >>= fun _ => pure v) >>= f) >>= g) = L >>= fun _ => p := by
  rw [bind_assoc, bind_assoc]
  exact congrArg (fun q => L >>= fun _ => q) h

variable {nD : Nat} {τ : Topo} {sig : RefSig} {Val : EltTy → Type} {Λ : Labels}
variable {B : Type} [Fintype B] [DecidableEq B] {shp : B → Shape} {elt : B → EltTy}

local notation "𝕄" => MT nD τ sig Unit Val ℕ (UR sig nD τ) ℕ

/-- The contents of the family's buffers. -/
abbrev Cont (Val : EltTy → Type) (shp : B → Shape) (elt : B → EltTy) : Type := ∀ b : B, (shp b).Idx → Val (elt b)

/-- The family's buffers, owned whole at `σ`. -/
def Own (c : Dev nD) (M : ∀ b : B, Memref sig .tc .vmem (shp b) (elt b)) (σ : Cont Val shp elt) : sProp 𝕄 :=
  bigSep Finset.univ fun b => owns (c : Thread nD τ) (M b) fullShare (σ b)

variable (defs : Defs nD τ sig Val Λ) (𝒱 : Variants) (c : Dev nD) (bd : Option 𝒱.V) (E : Set ℕ)
variable (M : ∀ b : B, Memref sig .tc .vmem (shp b) (elt b))
variable {α β : Type}

/-- From contents `σ` the program runs to a value and contents in `Φ`. -/
def T (p : Prog (TpuEff nD τ sig Val Λ .tc) α) (σ : Cont Val shp elt) (Φ : α → Cont Val shp elt → Prop) : Prop :=
  (Own c M σ : sProp 𝕄) ⊢ wp frame (wpE defs 𝒱 (c : Thread nD τ) bd) E p (fun a => iprop(∃ σ', ⌜Φ a σ'⌝ ∗ Own c M σ'))

variable {defs 𝒱 c bd E M}

theorem T.ret {a : α} {σ : Cont Val shp elt} {Φ : α → Cont Val shp elt → Prop} (h : Φ a σ) :
    T defs 𝒱 c bd E M (pure a) σ Φ := by
  unfold T
  rw [wp_pure]
  iintro H
  imodintro
  iexists σ
  isplitr
  · ipureintro; exact h
  · iexact H

theorem T.mono {p : Prog (TpuEff nD τ sig Val Λ .tc) α} {σ : Cont Val shp elt} {Φ Ψ : α → Cont Val shp elt → Prop}
    (h : T defs 𝒱 c bd E M p σ Φ) (hΨ : ∀ a σ', Φ a σ' → Ψ a σ') : T defs 𝒱 c bd E M p σ Ψ := by
  refine BIBase.Entails.trans h (wp_mono _ _ _ fun a => ?_)
  iintro ⟨%σ', %hσ, H⟩
  iexists σ'
  isplitr
  · ipureintro; exact hΨ a σ' hσ
  · iexact H

theorem T.bind {p : Prog (TpuEff nD τ sig Val Λ .tc) α} {k : α → Prog (TpuEff nD τ sig Val Λ .tc) β} {σ : Cont Val shp elt}
    {Φ : α → Cont Val shp elt → Prop} {Ψ : β → Cont Val shp elt → Prop}
    (h : T defs 𝒱 c bd E M p σ Φ) (hk : ∀ a σ', Φ a σ' → T defs 𝒱 c bd E M (k a) σ' Ψ) :
    T defs 𝒱 c bd E M (p >>= k) σ Ψ := by
  unfold T
  rw [wp_bind]
  refine BIBase.Entails.trans h (wp_mono _ _ _ fun a => ?_)
  iintro ⟨%σ', %hσ, H⟩
  iapply (show (Own c M σ' : sProp 𝕄) ⊢ _ from hk a σ' hσ)
  iexact H

/-- A load from one of the buffers. -/
theorem T.load (b : B) {r : LoadRect (shp b)} {hl : (M b).view.LoadsAt r} {σ : Cont Val shp elt}
    {k : (r.shape.Idx → Val (elt b)) → Prog (TpuEff nD τ sig Val Λ .tc) β} {Ψ : β → Cont Val shp elt → Prop}
    (hk : T defs 𝒱 c bd E M (k fun i => σ b (r.idx i)) σ Ψ) :
    T defs 𝒱 c bd E M (Prog.lift (.load (M b) r hl) >>= k) σ Ψ := by
  unfold T at hk ⊢
  refine BIBase.Entails.trans ?_ (show wp frame (wpE defs 𝒱 (c : Thread nD τ) bd) E (.op (.load (M b) r hl) k) _ ⊢ _ from .rfl)
  unfold Own
  rw [bigSep_univ_at _ b]
  iintro ⟨Hb, Hr⟩
  ihave Hb' := (show owns (c : Thread nD τ) (M b) fullShare (σ b) ⊢ iprop(∃ f, ⌜(M b).view.read Val f = σ b⌝ ∗ ((M b).view.loc (c : Thread nD τ) ↦[(M b).view.set]{fullShare} f)) from .rfl) $$ Hb
  icases Hb' with ⟨%f, %hf, Hb⟩
  have hS : (M b).view.setOn r.set ⊆ (M b).view.set := View.setOn_subset_set _ _
  iapply (wp_load (Name := ℕ) 𝒱 (c : Thread nD τ) bd E hS) $$ Hb
  iintro Hb
  have e : (M b).view.readAt Val r f = fun i => σ b (r.idx i) := by rw [← hf]; rfl
  rw [e]
  iapply hk
  unfold Own
  rw [bigSep_univ_at _ b]
  isplitl [Hb]
  · rw [← hf]; iapply (owns_intro (c : Thread nD τ) (M b) fullShare f); iexact Hb
  · iexact Hr

/-- A store into one of the buffers. -/
theorem T.store (b : B) {r : Rect (shp b)} {w : r.shape.Idx → Val (elt b)} {hx : ((M b).access r).Stores Finset.univ}
    {hm : (Finset.univ : Finset r.shape.Idx) = Finset.univ ∨ ∀ a, r.stride a = 1} {σ : Cont Val shp elt}
    {k : PUnit → Prog (TpuEff nD τ sig Val Λ .tc) β} {Ψ : β → Cont Val shp elt → Prop}
    (hk : T defs 𝒱 c bd E M (k ⟨⟩) (Function.update σ b (r.overlay (σ b) w)) Ψ) :
    T defs 𝒱 c bd E M (Prog.lift (.store (M b) r w Finset.univ hx hm) >>= k) σ Ψ := by
  unfold T at hk ⊢
  refine BIBase.Entails.trans ?_ (show wp frame (wpE defs 𝒱 (c : Thread nD τ) bd) E (.op (.store (M b) r w Finset.univ hx hm) k) _ ⊢ _ from .rfl)
  unfold Own
  rw [bigSep_univ_at _ b]
  iintro ⟨Hb, Hr⟩
  ihave Hb' := (show owns (c : Thread nD τ) (M b) fullShare (σ b) ⊢ iprop(∃ f, ⌜(M b).view.read Val f = σ b⌝ ∗ ((M b).view.loc (c : Thread nD τ) ↦[(M b).view.set]{fullShare} f)) from .rfl) $$ Hb
  icases Hb' with ⟨%f, %hf, Hb⟩
  have hS : ((M b).access r).setOn Finset.univ ⊆ (M b).view.set := Memref.setOn_access_subset _ _ _
  iapply (wp_store (Name := ℕ) 𝒱 (c : Thread nD τ) bd E hS) $$ Hb
  iintro Hb
  iapply hk
  unfold Own
  rw [bigSep_univ_at _ b, Function.update_self]
  isplitl [Hb]
  · have e : (M b).view.read Val (((M b).access r).write Val f w Finset.univ) = r.overlay (σ b) w := by
      funext j
      by_cases hj : j ∈ r.set
      · obtain ⟨i, rfl⟩ := r.exists_idx_of_mem hj
        change (M b).view.read Val _ (r.emb i) = r.overlay _ w (r.emb i)
        rw [Rect.overlay_emb]
        exact View.read_slice_write_emb r f w (Finset.mem_univ i)
      · rw [Rect.overlay_of_not_mem _ _ _ hj, ← hf]
        exact View.read_slice_write_of_not_mem r f w Finset.univ (by rw [Rect.map_emb_univ]; exact hj)
    rw [← e]
    iapply (owns_intro (c : Thread nD τ) (M b) fullShare _); iexact Hb
  · refine (Entails.of_eq (bigSep_congr fun b' hb' => ?_))
    rw [Function.update_of_ne (Finset.ne_of_mem_erase hb')]

/-- A run over a list whose steps each establish their own part and keep the others': all parts are established. -/
theorem T.each {ι : Type} [DecidableEq ι] (f : ι → Prog (TpuEff nD τ sig Val Λ .tc) PUnit) (G G' : ι → Cont Val shp elt → Prop)
    (R : ι → Cont Val shp elt → Cont Val shp elt → Prop)
    (hG : ∀ i j σ σ', j ≠ i → R i σ σ' → G j σ → G j σ') (hG' : ∀ i j σ σ', j ≠ i → R i σ σ' → G' j σ → G' j σ')
    (hf : ∀ i σ, G i σ → T defs 𝒱 c bd E M (f i) σ fun _ σ' => G' i σ' ∧ R i σ σ') :
    ∀ (l : List ι), l.Nodup → ∀ σ, (∀ i, i ∈ l → G i σ) → (∀ i, i ∉ l → G' i σ) →
      T defs 𝒱 c bd E M (each l f) σ fun _ σ' => ∀ i, G' i σ' := by
  intro l
  induction l with
  | nil => intro _ σ _ h; exact T.ret fun i => h i (by simp)
  | cons a l ih =>
    intro hl σ h h'
    rw [List.nodup_cons] at hl
    refine T.bind (hf a σ (h a (by simp))) fun _ σ' hσ => ih hl.2 σ' ?_ ?_
    · intro i hi
      exact hG a i σ σ' (fun e => hl.1 (e ▸ hi)) hσ.2 (h i (List.mem_cons_of_mem _ hi))
    · intro i hi
      by_cases e : i = a
      · subst e; exact hσ.1
      · exact hG' a i σ σ' e hσ.2 (h' i (by simp [e, hi]))

/-- A run over a list by an invariant of the items left. -/
theorem T.eachInv {ι : Type} (f : ι → Prog (TpuEff nD τ sig Val Λ .tc) PUnit) (I : List ι → Cont Val shp elt → Prop)
    (hf : ∀ i l σ, I (i :: l) σ → T defs 𝒱 c bd E M (f i) σ fun _ σ' => I l σ') :
    ∀ (l : List ι) σ, I l σ → T defs 𝒱 c bd E M (Attn.each l f) σ fun _ σ' => I [] σ' := by
  intro l
  induction l with
  | nil => intro σ h; exact T.ret h
  | cons a l ih => intro σ h; exact T.bind (hf a l σ h) fun _ σ' hσ => ih σ' hσ

/-- A run over a list threading a value, by an invariant of the items left. -/
theorem T.thread {ι γ : Type} (f : γ → ι → Prog (TpuEff nD τ sig Val Λ .tc) γ) (I : List ι → γ → Cont Val shp elt → Prop)
    (hf : ∀ i l g σ, I (i :: l) g σ → T defs 𝒱 c bd E M (f g i) σ fun g' σ' => I l g' σ') :
    ∀ (l : List ι) g σ, I l g σ → T defs 𝒱 c bd E M (Attn.thread l g f) σ fun g' σ' => I [] g' σ' := by
  intro l
  induction l with
  | nil => intro g σ h; exact T.ret h
  | cons a l ih => intro g σ h; exact T.bind (hf a l g σ h) fun g' σ' hσ => ih g' σ' hσ

/-- A counted loop by an invariant of the trips done. -/
theorem T.loop {w : Nat} {lb ub st : BitVec w} (hok : Scf.OK lb ub st) (body : Fin (Scf.trips lb ub st) → PUnit → Prog (TpuEff nD τ sig Val Λ .tc) PUnit)
    (I : Nat → Cont Val shp elt → Prop)
    (hf : ∀ (k : Fin (Scf.trips lb ub st)) σ, I k.val σ → T defs 𝒱 c bd E M (body k ⟨⟩) σ fun _ σ' => I (k.val + 1) σ')
    {σ : Cont Val shp elt} (h : I 0 σ) :
    T defs 𝒱 c bd E M (Scf.for lb ub st hok ⟨⟩ body) σ fun _ σ' => I (Scf.trips lb ub st) σ' := by
  unfold T
  refine BIBase.Entails.trans ?_ (Scf.wp_for frame (wpE defs 𝒱 (c : Thread nD τ) bd) E lb ub st hok ⟨⟩ body
    (fun k _ => iprop(∃ σ', ⌜I k σ'⌝ ∗ Own c M σ')) ?_)
  · iintro H
    isplitl
    · iexists σ
      isplitr
      · ipureintro; exact h
      · iexact H
    · iintro %acc H; iexact H
  · intro k acc
    iintro ⟨%σ', %hσ, H⟩
    iapply (show (Own c M σ' : sProp 𝕄) ⊢ _ from hf k σ' hσ)
    iexact H

end Cert.Proof.Attn

end
-- ==== Proof.Attn.Program.lean ====
/- The attention kernel's grid point written once with its repetitions as loops over lists: `tile` is the body of
   `cc0_attention`, at any buffers, offsets and score scale. -/
module

public import proofs.«01_k».proof.Proof.Attn.Facts
public import proofs.«01_k».proof.Proof.Attn.Hoare

@[expose] public section

noncomputable section

namespace Cert.Proof.Attn

open Idealize.ShloMosaic Idealize.ShloMosaic.TcCoe Idealize.SL.Sem
open Cert.KernelIdeal

variable {F : FTy → Type} [FloatOps F]

/-- The buffers of one grid point: the staged blocks of the inputs and of the output, the scaled value
    products, and for each of the two heads in flight its query codes, scales and means, its scores and
    their running maxima, its codes and its reciprocal sums. -/
inductive Slot
  | q | qs | mean | kq | vq | ksc | vsc | out | o
  | qw (par : Fin 2) | qa (par : Fin 2) | qm (par : Fin 2) | t (par : Fin 2) | mx (par : Fin 2) | p (par : Fin 2) | rl (par : Fin 2)
  deriving DecidableEq, Fintype

/-- A buffer's shape. -/
abbrev Slot.shp : Slot → Shape
  | .q => S1x16x512x128 | .qs => S1x1x64x1 | .mean => S1x1x64x128 | .kq => S1x16x4096x128 | .vq => S1x16x4096x128
  | .ksc => S1x16x32x128 | .vsc => S1x1x2048 | .out => S1x128x8192 | .o => S512x128
  | .qw _ => S512x128 | .qa _ => S8x128 | .qm _ => S16x128 | .t _ => S512x1536 | .mx _ => S512x128 | .p _ => S512x1664 | .rl _ => S512x128

/-- A buffer's element type. -/
abbrev Slot.elt : Slot → EltTy
  | .q => .fp8e4m3 | .qs => .f32 | .mean => .bf16 | .kq => .fp8e4m3 | .vq => .fp8e4m3
  | .ksc => .f32 | .vsc => .f32 | .out => .bf16 | .o => .f32
  | .qw _ => .fp8e4m3 | .qa _ => .f32 | .qm _ => .bf16 | .t _ => .f32 | .mx _ => .f32 | .p _ => .fp8e4m3 | .rl _ => .f32

/-- The memrefs of the buffers and the score scale. -/
structure Ctx (sig : RefSig) (F : FTy → Type) where
  M : ∀ b : Slot, Memref sig .tc .vmem b.shp b.elt
  W : ∀ b : Slot, (M b).IsWhole
  SC : F .f32

/-- Where one head's queries, means, keys and key scales lie in the staged blocks. -/
@[ext] structure OfsF where
  o1 : Fin 4 → Fin 4 → Nat
  o2 : Fin 4 → Fin 4 → Nat
  o3 : Fin 4 → Nat
  o4 : Fin 4 → Nat
  o5 : Fin 13 → Fin 4 → Nat
  o6 : Fin 6 → Fin 4 → Nat
  i1 : ∀ h a, o1 h a + S1x1x1x128.size a ≤ S1x1x64x128.size a
  i2 : ∀ h a, o2 h a + S1x1x1x1.size a ≤ S1x1x64x1.size a
  i3 : ∀ a, o3 a + S1x1x512x128.size a ≤ S1x16x512x128.size a
  i4 : ∀ a, o4 a + S1x1x128x128.size a ≤ S1x16x4096x128.size a
  i5 : ∀ r a, o5 r a + S1x1x1x128.size a ≤ S1x16x32x128.size a
  i6 : ∀ r a, o6 r a + S1x1x256x128.size a ≤ S1x16x4096x128.size a

/-- Where one head's values, value scales and output columns lie in the staged blocks. -/
@[ext] structure OfsV where
  o7 : Fin 4 → Nat
  o8 : Fin 3 → Nat
  o9 : Fin 4 → Fin 3 → Nat
  i7 : ∀ a, o7 a + S1x1x1664x128.size a ≤ S1x16x4096x128.size a
  i8 : ∀ a, o8 a + S1x1x128.size a ≤ S1x1x2048.size a
  i9 : ∀ h a, o9 h a + S1x128x128.size a ≤ S1x128x8192.size a
  p9 : ∀ h, (Rect.unit (s := S1x128x8192) (o9 h) S1x128x128.size (i9 h)).PackedRows (EltTy.packing .bf16)

/-! ## The facts of the repeated accesses, for every repetition -/

theorem inbT (rc : Fin 16) (kb : Fin 12) : ∀ a, (![32 * rc.val, 128 * kb.val] : Fin 2 → Nat) a + S32x128.size a ≤ S512x1536.size a := by
  revert rc kb; decide +kernel
theorem inbM (rc : Fin 16) : ∀ a, (![32 * rc.val, 0] : Fin 2 → Nat) a + S32x128.size a ≤ S512x128.size a := by
  revert rc; decide +kernel
theorem inbP (rc : Fin 16) (kb : Fin 13) : ∀ a, (![32 * rc.val, 128 * kb.val] : Fin 2 → Nat) a + S32x128.size a ≤ S512x1664.size a := by
  revert rc kb; decide +kernel
theorem packP (rc : Fin 16) (kb : Fin 13) : (Rect.unit (s := S512x1664) ![32 * rc.val, 128 * kb.val] S32x128.size (inbP rc kb)).PackedRows (EltTy.packing .fp8e4m3) := by
  revert rc kb; decide +kernel
theorem inbO (h : Fin 4) : ∀ a, S128x128.size a = 0 ∨ (![h.val, 0] : Fin 2 → Nat) a + (![4, 1] : Fin 2 → Nat) a * (S128x128.size a - 1) < S512x128.size a := by
  revert h; decide +kernel
theorem slcR (rc : Fin 16) : S512x128.Slices ![32 * rc.val, 0] S32x128 := by
  revert rc; decide +kernel
theorem slcS (j : Fin 2) : S512x256.Slices ![0, 128 * j.val] S512x128 := by
  revert j; decide +kernel
theorem slcC (j : Fin 2) : S8x256.Slices ![0, 128 * j.val] S8x128 := by
  revert j; decide +kernel

/-! ## The values -/

/-- The row index modulo the group of four heads, on an 8-row tile. -/
def headIx : IVec S8x128 32 :=
  let c4 : BitVec 32 := 4#32
  let d : BitVec 32 := Scalar.select (Scalar.cmpi .eq c4 0#32) 1#32 c4
  let r : IVec S8x128 32 := remsi (iota .tc S8x128 32 [0] iota_S8x128_d0_w32) (broadcast S8x128 d)
  select (andi (xori (cmpi .slt r (broadcast S8x128 0#32))
      (broadcastTo S8x128 (broadcast S8x128 (Scalar.cmpi .slt d 0#32)) broadcasts_S8x128_S8x128))
    (cmpi .ne r (broadcast S8x128 0#32))) (addi r (broadcast S8x128 d)) r

/-- Four rows as the repeating rows of an 8-row tile. -/
def pick (w : Fin 4 → FVec F S1x128 .f32) : FVec F S8x128 .f32 :=
  let row (h : Fin 4) : FVec F S8x128 .f32 := broadcastTo S8x128 (shapeCast S1x128 (w h) shapeCasts_S1x128_S1x128) broadcasts_S1x128_S8x128
  select (cmpi .eq headIx (broadcast S8x128 3#32)) (row 3)
    (select (cmpi .eq headIx (broadcast S8x128 2#32)) (row 2)
      (select (cmpi .eq headIx (broadcast S8x128 1#32)) (row 1) (row 0)))

/-- The four means as the 16 rows the mean products take. -/
def meanRows (w : Fin 4 → FVec F S1x128 .f32) : FVec F S16x128 .bf16 :=
  truncf .bf16 (concatenate S16x128 0 [⟨S8x128, pick w⟩, ⟨S8x128, pick w⟩] concatenates_S8x128_S8x128_S16x128_d0) bitsLt_bf16_f32

/-- Column minus token (row over four), on a 32-row tile. -/
def diffIx : IVec S32x128 32 :=
  let c4 : BitVec 32 := 4#32
  let row : IVec S32x128 32 := iota .tc S32x128 32 [0] iota_S32x128_d0_w32
  let dv : IVec S32x128 32 := divsi row (broadcast S32x128 c4)
  let sg : IVec S32x128 32 := subi (extui 32 (cmpi .sgt row (broadcast S32x128 0#32)) natLt_1_32) (extui 32 (cmpi .slt row (broadcast S32x128 0#32)) natLt_1_32)
  let sd : BitVec 32 := Scalar.subi (Scalar.extui (Scalar.cmpi .sgt c4 0#32)) (Scalar.extui (Scalar.cmpi .slt c4 0#32))
  subi (iota .tc S32x128 32 [1] iota_S32x128_d1_w32)
    (select (andi (cmpi .ne sg (broadcast S32x128 sd)) (cmpi .ne (remsi row (broadcast S32x128 c4)) (broadcast S32x128 0#32)))
      (subi dv (broadcast S32x128 1#32)) dv)

/-- On the edge blocks: the columns of the newest key block a row chunk sees. -/
def visIx (rc : Fin 16) : IVec S32x128 1 := cmpi .sle diffIx (broadcast S32x128 (BitVec.ofNat 32 (8 * rc.val)))

/-- A row chunk of products, scaled and shifted by the repeating rows. -/
def affine (s : FVec F S512x128 .f32) (a c : FVec F S8x128 .f32) (rc : Fin 16) : FVec F S32x128 .f32 :=
  shapeCast S32x128 (addf (mulf (shapeCast S4x8x128 (extractStridedSlice S32x128 ![32 * rc.val, 0] s (slcR rc)) shapeCasts_S32x128_S4x8x128)
      (broadcastTo S4x8x128 (shapeCast S1x8x128 a shapeCasts_S8x128_S1x8x128) broadcasts_S1x8x128_S4x8x128))
    (broadcastTo S4x8x128 (shapeCast S1x8x128 c shapeCasts_S8x128_S1x8x128) broadcasts_S1x8x128_S4x8x128)) shapeCasts_S4x8x128_S32x128

/-- The key scales times a row, on the eight rows. -/
def scaleRows (qa : FVec F S8x128 .f32) (ksc : FVec F S1x128 .f32) : FVec F S8x128 .f32 :=
  mulf qa (broadcastTo S8x128 ksc broadcasts_S1x128_S8x128)

/-- The mean products times the key and score scales. -/
def corrRows (SC : F .f32) (corr : FVec F S8x128 .f32) (ksc : FVec F S1x128 .f32) : FVec F S8x128 .f32 :=
  mulf corr (broadcastTo S8x128 (mulf ksc (broadcast S1x128 SC)) broadcasts_S1x128_S8x128)

/-- The mean products of 128 keys. -/
def corr128 (qm : FVec F S16x128 .bf16) (k : FVec F S128x128 .fp8e4m3) : FVec F S8x128 .f32 :=
  extractStridedSlice S8x128 ![0, 0] (matmul dot_S16x128_S128x128_S16x128_1_1_0_0_n_n none qm (extf .bf16 k bitsLt_fp8e4m3_bf16)
    (constant S16x128 .f32 0x00000000#32)) slices_S16x128_o0_0_S8x128
/-- The mean products of 256 keys. -/
def corr256 (qm : FVec F S16x128 .bf16) (k : FVec F S256x128 .fp8e4m3) : FVec F S8x256 .f32 :=
  extractStridedSlice S8x256 ![0, 0] (matmul dot_S16x128_S256x128_S16x256_1_1_0_0_n_n none qm (extf .bf16 k bitsLt_fp8e4m3_bf16)
    (constant S16x256 .f32 0x00000000#32)) slices_S16x256_o0_0_S8x256
/-- The code products of 128 keys. -/
def prod128 (q : FVec F S512x128 .fp8e4m3) (k : FVec F S128x128 .fp8e4m3) : FVec F S512x128 .f32 :=
  matmul dot_S512x128_S128x128_S512x128_1_1_0_0_n_n none q k (constant S512x128 .f32 0x00000000#32)
/-- The code products of 256 keys. -/
def prod256 (q : FVec F S512x128 .fp8e4m3) (k : FVec F S256x128 .fp8e4m3) : FVec F S512x256 .f32 :=
  matmul dot_S512x128_S256x128_S512x256_1_1_0_0_n_n none q k (constant S512x256 .f32 0x00000000#32)

/-- A row chunk's greatest score, less the exponent shift, on every column. -/
def maxRow (mx : FVec F S32x128 .f32) : FVec F S32x128 .f32 :=
  broadcastTo S32x128 (shapeCast S32x1 (subf (shapeCast S32x1 (multiReduction .maximumf [1] S32 mx 0xFF800000#32 reduces_S32x128_S32 (.inl rfl) rfl) shapeCasts_S32_S32x1)
    (broadcast S32x1 (Scalar.ofBits .f32 0x41000000#32))) shapeCasts_S32x1_S32x1) broadcasts_S32x1_S32x128

/-- The weights of a row chunk's scores. -/
def expRow (t mb : FVec F S32x128 .f32) : FVec F S32x128 .f32 := exp2 (subf t mb)

/-- The codes of a row chunk's weights. -/
def codeRow (e : FVec F S32x128 .f32) : FVec F S32x128 .fp8e4m3 :=
  truncf .fp8e4m3 (minimumf e (broadcast S32x128 (Scalar.ofBits .f32 0x43E00000#32))) bitsLt_fp8e4m3_f32

def zeroCode : FVec F S32x128 .fp8e4m3 := broadcast S32x128 (Scalar.ofBits .fp8e4m3 0x00#8)

/-- The reciprocal of the row sums, on every column. -/
def recipRow (l : FVec F S32x128 .f32) : FVec F S32x128 .f32 :=
  broadcastTo S32x128 (shapeCast S32x1 (divf (broadcast S32x1 (Scalar.ofBits .f32 0x3F800000#32))
    (shapeCast S32x1 (multiReduction .add [1] S32 l 0x00000000#32 reduces_S32x128_S32 (.inl rfl) rfl) shapeCasts_S32_S32x1)) shapeCasts_S32x1_S32x1) broadcasts_S32x1_S32x128

/-- The value products, scaled by the value scales and the reciprocal sums. -/
def outRows (p : FVec F S512x1664 .fp8e4m3) (v : FVec F S1664x128 .fp8e4m3) (vs : FVec F S1x128 .f32) (rl : FVec F S512x128 .f32) : FVec F S512x128 .f32 :=
  mulf (mulf (matmul dot_S512x1664_S1664x128_S512x128_1_0_0_1_n_n none p v (constant S512x128 .f32 0x00000000#32))
    (broadcastTo S512x128 vs broadcasts_S1x128_S512x128)) rl

/-! ## The program -/

variable {nD : Nat} {τ : Topo} {sig : RefSig} {Λ : Labels}

/-! The buffers, at their types. -/
abbrev Ctx.q (X : Ctx sig F) : Memref sig .tc .vmem S1x16x512x128 .fp8e4m3 := X.M .q
abbrev Ctx.qs (X : Ctx sig F) : Memref sig .tc .vmem S1x1x64x1 .f32 := X.M .qs
abbrev Ctx.mean (X : Ctx sig F) : Memref sig .tc .vmem S1x1x64x128 .bf16 := X.M .mean
abbrev Ctx.kq (X : Ctx sig F) : Memref sig .tc .vmem S1x16x4096x128 .fp8e4m3 := X.M .kq
abbrev Ctx.vq (X : Ctx sig F) : Memref sig .tc .vmem S1x16x4096x128 .fp8e4m3 := X.M .vq
abbrev Ctx.ksc (X : Ctx sig F) : Memref sig .tc .vmem S1x16x32x128 .f32 := X.M .ksc
abbrev Ctx.vsc (X : Ctx sig F) : Memref sig .tc .vmem S1x1x2048 .f32 := X.M .vsc
abbrev Ctx.out (X : Ctx sig F) : Memref sig .tc .vmem S1x128x8192 .bf16 := X.M .out
abbrev Ctx.o (X : Ctx sig F) : Memref sig .tc .vmem S512x128 .f32 := X.M .o
abbrev Ctx.qw (X : Ctx sig F) (par : Fin 2) : Memref sig .tc .vmem S512x128 .fp8e4m3 := X.M (.qw par)
abbrev Ctx.qa (X : Ctx sig F) (par : Fin 2) : Memref sig .tc .vmem S8x128 .f32 := X.M (.qa par)
abbrev Ctx.qm (X : Ctx sig F) (par : Fin 2) : Memref sig .tc .vmem S16x128 .bf16 := X.M (.qm par)
abbrev Ctx.t (X : Ctx sig F) (par : Fin 2) : Memref sig .tc .vmem S512x1536 .f32 := X.M (.t par)
abbrev Ctx.mx (X : Ctx sig F) (par : Fin 2) : Memref sig .tc .vmem S512x128 .f32 := X.M (.mx par)
abbrev Ctx.p (X : Ctx sig F) (par : Fin 2) : Memref sig .tc .vmem S512x1664 .fp8e4m3 := X.M (.p par)
abbrev Ctx.rl (X : Ctx sig F) (par : Fin 2) : Memref sig .tc .vmem S512x128 .f32 := X.M (.rl par)

variable (X : Ctx sig F) (par : Fin 2)

abbrev rcs : List (Fin 16) := [0, 1, 2, 3, 4, 5, 6, 7, 8, 9, 10, 11, 12, 13, 14, 15]

/-- Store a chunk of scores, after the load of the place. -/
def putT (rc : Fin 16) (kb : Fin 12) (v : FVec F S32x128 .f32) : Prog (TpuEff nD τ sig (Elt F) Λ .tc) PUnit := do
  let _ : Vec F S32x128 .f32 ← Prog.lift (.load (X.t par) (Rect.unit (s := S512x1536) ![32 * rc.val, 128 * kb.val] S32x128.size (inbT rc kb)).toLoadRect (View.loadsAt_vmem h_S32x128))
  Prog.lift (.store (X.t par) (Rect.unit (s := S512x1536) ![32 * rc.val, 128 * kb.val] S32x128.size (inbT rc kb)) (shapeCast S32x128 v shapeCasts_S32x128_S32x128) Finset.univ (View.stores_vmem_bits_univ h_S32x128 rfl) (.inl rfl))

/-- Store a chunk of running maxima, after the load of the place. -/
def putM (m : Memref sig .tc .vmem S512x128 .f32) (rc : Fin 16) (v : FVec F S32x128 .f32) : Prog (TpuEff nD τ sig (Elt F) Λ .tc) PUnit := do
  let _ : Vec F S32x128 .f32 ← Prog.lift (.load m (Rect.unit (s := S512x128) ![32 * rc.val, 0] S32x128.size (inbM rc)).toLoadRect (View.loadsAt_vmem h_S32x128))
  Prog.lift (.store m (Rect.unit (s := S512x128) ![32 * rc.val, 0] S32x128.size (inbM rc)) (shapeCast S32x128 v shapeCasts_S32x128_S32x128) Finset.univ (View.stores_vmem_bits_univ h_S32x128 rfl) (.inl rfl))

/-- Store a chunk of codes, after the load of the place. -/
def putP (rc : Fin 16) (kb : Fin 13) (v : FVec F S32x128 .fp8e4m3) : Prog (TpuEff nD τ sig (Elt F) Λ .tc) PUnit := do
  let _ : Vec F S32x128 .fp8e4m3 ← Prog.lift (.load (X.p par) (Rect.unit (s := S512x1664) ![32 * rc.val, 128 * kb.val] S32x128.size (inbP rc kb)).toLoadRect (View.loadsAt_vmem h_S32x128))
  Prog.lift (.store (X.p par) (Rect.unit (s := S512x1664) ![32 * rc.val, 128 * kb.val] S32x128.size (inbP rc kb)) (shapeCast S32x128 v shapeCasts_S32x128_S32x128) Finset.univ (View.stores_vmem h_S32x128 ((X.W (.p par)).storeExact_slice rfl _ (packP rc kb)) (fun _ => rfl)) (.inl rfl))

/-- Load a chunk of scores. -/
def getT (rc : Fin 16) (kb : Fin 12) : Prog (TpuEff nD τ sig (Elt F) Λ .tc) (Vec F S32x128 .f32) :=
  Prog.lift (.load (X.t par) (Rect.unit (s := S512x1536) ![32 * rc.val, 128 * kb.val] S32x128.size (inbT rc kb)).toLoadRect (View.loadsAt_vmem h_S32x128))
/-- Load a chunk of running maxima. -/
def getM (rc : Fin 16) : Prog (TpuEff nD τ sig (Elt F) Λ .tc) (Vec F S32x128 .f32) :=
  Prog.lift (.load (X.mx par) (Rect.unit (s := S512x128) ![32 * rc.val, 0] S32x128.size (inbM rc)).toLoadRect (View.loadsAt_vmem h_S32x128))
def getQa : Prog (TpuEff nD τ sig (Elt F) Λ .tc) (Vec F S8x128 .f32) :=
  Prog.lift (.load (X.qa par) (Rect.unit (s := S8x128) ![0, 0] S8x128.size inb_S8x128_S8x128_0_0).toLoadRect (View.loadsAt_vmem h_S8x128))
def getQm : Prog (TpuEff nD τ sig (Elt F) Λ .tc) (Vec F S16x128 .bf16) :=
  Prog.lift (.load (X.qm par) (Rect.unit (s := S16x128) ![0, 0] S16x128.size inb_S16x128_S16x128_0_0).toLoadRect (View.loadsAt_vmem h_S16x128))
def getQw : Prog (TpuEff nD τ sig (Elt F) Λ .tc) (Vec F S512x128 .fp8e4m3) :=
  Prog.lift (.load (X.qw par) (Rect.unit (s := S512x128) ![0, 0] S512x128.size inb_S512x128_S512x128_0_0).toLoadRect (View.loadsAt_vmem h_S512x128))
def getMean (O : OfsF) (h : Fin 4) : Prog (TpuEff nD τ sig (Elt F) Λ .tc) (Vec F S1x1x1x128 .bf16) :=
  Prog.lift (.load X.mean (Rect.unit (s := S1x1x64x128) (O.o1 h) S1x1x1x128.size (O.i1 h)).toLoadRect (View.loadsAt_vmem h_S1x1x1x128))
def getQs (O : OfsF) (h : Fin 4) : Prog (TpuEff nD τ sig (Elt F) Λ .tc) (Vec F S1x1x1x1 .f32) :=
  Prog.lift (.load X.qs (Rect.unit (s := S1x1x64x1) (O.o2 h) S1x1x1x1.size (O.i2 h)).toLoadRect (View.loadsAt_vmem h_S1x1x1x1))
def getKsc (O : OfsF) (r : Fin 13) : Prog (TpuEff nD τ sig (Elt F) Λ .tc) (Vec F S1x1x1x128 .f32) :=
  Prog.lift (.load X.ksc (Rect.unit (s := S1x16x32x128) (O.o5 r) S1x1x1x128.size (O.i5 r)).toLoadRect (View.loadsAt_vmem h_S1x1x1x128))
def getK4 (O : OfsF) : Prog (TpuEff nD τ sig (Elt F) Λ .tc) (Vec F S1x1x128x128 .fp8e4m3) :=
  Prog.lift (.load X.kq (Rect.unit (s := S1x16x4096x128) O.o4 S1x1x128x128.size O.i4).toLoadRect (View.loadsAt_vmem h_S1x1x128x128))
def getK6 (O : OfsF) (r : Fin 6) : Prog (TpuEff nD τ sig (Elt F) Λ .tc) (Vec F S1x1x256x128 .fp8e4m3) :=
  Prog.lift (.load X.kq (Rect.unit (s := S1x16x4096x128) (O.o6 r) S1x1x256x128.size (O.i6 r)).toLoadRect (View.loadsAt_vmem h_S1x1x256x128))

def meanRow (v : Vec F S1x1x1x128 .bf16) : FVec F S1x128 .f32 := extf .f32 (shapeCast S1x128 v shapeCasts_S1x1x1x128_S1x128) bitsLt_bf16_f32
def qsRow (v : Vec F S1x1x1x1 .f32) : FVec F S1x128 .f32 :=
  broadcastTo S1x128 (shapeCast S1x1 (shapeCast S1x1 v shapeCasts_S1x1x1x1_S1x1) shapeCasts_S1x1_S1x1) broadcasts_S1x1_S1x128
def kscRow (v : Vec F S1x1x1x128 .f32) : FVec F S1x128 .f32 := shapeCast S1x128 v shapeCasts_S1x1x1x128_S1x128

/-- Store the query codes, after the load of the place. -/
def putQw (v : FVec F S512x128 .fp8e4m3) : Prog (TpuEff nD τ sig (Elt F) Λ .tc) PUnit := do
  let _ ← getQw X par
  Prog.lift (.store (X.qw par) (Rect.unit (s := S512x128) ![0, 0] S512x128.size inb_S512x128_S512x128_0_0) (shapeCast S512x128 v shapeCasts_S512x128_S512x128) Finset.univ (View.stores_vmem h_S512x128 ((X.W (.qw par)).storeExact_slice rfl _ packedfp8e4m3_S512x128_S512x128_0_0) (fun _ => rfl)) (.inl rfl))

/-- Store the query scales, after the load of the place. -/
def putQa (v : FVec F S8x128 .f32) : Prog (TpuEff nD τ sig (Elt F) Λ .tc) PUnit := do
  let _ ← getQa X par
  Prog.lift (.store (X.qa par) (Rect.unit (s := S8x128) ![0, 0] S8x128.size inb_S8x128_S8x128_0_0) (shapeCast S8x128 v shapeCasts_S8x128_S8x128) Finset.univ (View.stores_vmem_bits_univ h_S8x128 rfl) (.inl rfl))

/-- Store the query means, after the load of the place. -/
def putQm (v : FVec F S16x128 .bf16) : Prog (TpuEff nD τ sig (Elt F) Λ .tc) PUnit := do
  let _ ← getQm X par
  Prog.lift (.store (X.qm par) (Rect.unit (s := S16x128) ![0, 0] S16x128.size inb_S16x128_S16x128_0_0) (shapeCast S16x128 v shapeCasts_S16x128_S16x128) Finset.univ (View.stores_vmem h_S16x128 ((X.W (.qm par)).storeExact_slice rfl _ packedbf16_S16x128_S16x128_0_0) (fun _ => rfl)) (.inl rfl))

/-- The query codes, scales and means of the head's four query heads, into their buffers. -/
def takeQ (O : OfsF) : Prog (TpuEff nD τ sig (Elt F) Λ .tc) PUnit := do
  let m0 ← getMean X O 0
  let s0 ← getQs X O 0
  let m1 ← getMean X O 1
  let s1 ← getQs X O 1
  let m2 ← getMean X O 2
  let s2 ← getQs X O 2
  let m3 ← getMean X O 3
  let s3 ← getQs X O 3
  let q : Vec F S1x1x512x128 .fp8e4m3 ← Prog.lift (.load X.q (Rect.unit (s := S1x16x512x128) O.o3 S1x1x512x128.size O.i3).toLoadRect (View.loadsAt_vmem h_S1x1x512x128))
  putQw X par (shapeCast S512x128 q shapeCasts_S1x1x512x128_S512x128)
  putQa X par (mulf (pick ![qsRow s0, qsRow s1, qsRow s2, qsRow s3]) (broadcast S8x128 X.SC))
  putQm X par (meanRows ![meanRow m0, meanRow m1, meanRow m2, meanRow m3])

/-- One row chunk of the first two key blocks: the oldest block's hidden columns hold the newest block's. -/
def scores0 (sl : FVec F S512x128 .f32) (al cl : FVec F S8x128 .f32) (s : FVec F S512x256 .f32) (a0 c0 a1 c1 : FVec F S8x128 .f32) (rc : Fin 16) : Prog (TpuEff nD τ sig (Elt F) Λ .tc) PUnit := do
  putT X par rc 0 (select (visIx rc) (affine sl al cl rc) (affine (extractStridedSlice S512x128 ![0, 128 * (0 : Fin 2).val] s (slcS 0)) a0 c0 rc))
  putT X par rc 1 (affine (extractStridedSlice S512x128 ![0, 128 * (1 : Fin 2).val] s (slcS 1)) a1 c1 rc)
  putM (X.mx par) rc (maximumf (select (visIx rc) (affine sl al cl rc) (affine (extractStridedSlice S512x128 ![0, 128 * (0 : Fin 2).val] s (slcS 0)) a0 c0 rc))
    (affine (extractStridedSlice S512x128 ![0, 128 * (1 : Fin 2).val] s (slcS 1)) a1 c1 rc))

/-- One row chunk of two further key blocks. -/
def scores1 (k0 k1 : Fin 12) (s : FVec F S512x256 .f32) (a0 c0 a1 c1 : FVec F S8x128 .f32) (rc : Fin 16) : Prog (TpuEff nD τ sig (Elt F) Λ .tc) PUnit := do
  putT X par rc k0 (affine (extractStridedSlice S512x128 ![0, 128 * (0 : Fin 2).val] s (slcS 0)) a0 c0 rc)
  putT X par rc k1 (affine (extractStridedSlice S512x128 ![0, 128 * (1 : Fin 2).val] s (slcS 1)) a1 c1 rc)
  let best ← getM X par rc
  putM (X.mx par) rc (maximumf (maximumf (affine (extractStridedSlice S512x128 ![0, 128 * (0 : Fin 2).val] s (slcS 0)) a0 c0 rc)
    (affine (extractStridedSlice S512x128 ![0, 128 * (1 : Fin 2).val] s (slcS 1)) a1 c1 rc)) best)

/-- Two key blocks: their products and scales, then `f` on the row chunks. -/
def pair (O : OfsF) (qw : Vec F S512x128 .fp8e4m3) (r : Fin 6) (r0 r1 : Fin 13)
    (f : FVec F S512x256 .f32 → FVec F S8x128 .f32 → FVec F S8x128 .f32 → FVec F S8x128 .f32 → FVec F S8x128 .f32 → Fin 16 → Prog (TpuEff nD τ sig (Elt F) Λ .tc) PUnit) : Prog (TpuEff nD τ sig (Elt F) Λ .tc) PUnit := do
  let k ← getK6 X O r
  let qm ← getQm X par
  let s0 ← getKsc X O r0
  let a0 ← getQa X par
  let s1 ← getKsc X O r1
  let a1 ← getQa X par
  Attn.each rcs (f (prod256 qw (shapeCast S256x128 k shapeCasts_S1x1x256x128_S256x128))
    (scaleRows a0 (kscRow s0))
    (corrRows X.SC (extractStridedSlice S8x128 ![0, 128 * (0 : Fin 2).val] (corr256 qm (shapeCast S256x128 k shapeCasts_S1x1x256x128_S256x128)) (slcC 0)) (kscRow s0))
    (scaleRows a1 (kscRow s1))
    (corrRows X.SC (extractStridedSlice S8x128 ![0, 128 * (1 : Fin 2).val] (corr256 qm (shapeCast S256x128 k shapeCasts_S1x1x256x128_S256x128)) (slcC 1)) (kscRow s1)))

/-- The scores of every key block and their running maxima. -/
def scores (O : OfsF) : Prog (TpuEff nD τ sig (Elt F) Λ .tc) PUnit := do
  let qw ← getQw X par
  let kl ← getK4 X O
  let qm ← getQm X par
  let sl ← getKsc X O 0
  let al ← getQa X par
  pair X par O qw 0 1 2 (scores0 X par (prod128 qw (shapeCast S128x128 kl shapeCasts_S1x1x128x128_S128x128)) (scaleRows al (kscRow sl))
    (corrRows X.SC (corr128 qm (shapeCast S128x128 kl shapeCasts_S1x1x128x128_S128x128)) (kscRow sl)))
  Attn.each [(1, 2, 3, 3, 4), (2, 4, 5, 5, 6), (3, 6, 7, 7, 8), (4, 8, 9, 9, 10), (5, 10, 11, 11, 12)]
    fun (j : Fin 6 × Fin 12 × Fin 12 × Fin 13 × Fin 13) => pair X par O qw j.1 j.2.2.2.1 j.2.2.2.2 (scores1 X par j.2.1 j.2.2.1)

/-- The weights of a row chunk: their codes into their buffer, the reciprocal of their sum into its own. -/
def softmaxRow (rc : Fin 16) : Prog (TpuEff nD τ sig (Elt F) Λ .tc) PUnit := do
  let mx ← getM X par rc
  let t0 ← getT X par rc 0
  putP X par rc 12 (select (visIx rc) (codeRow (expRow t0 (maxRow mx))) zeroCode)
  putP X par rc 0 (select (visIx rc) zeroCode (codeRow (expRow t0 (maxRow mx))))
  let l ← Attn.thread [(1, 1), (2, 2), (3, 3), (4, 4), (5, 5), (6, 6), (7, 7), (8, 8), (9, 9), (10, 10), (11, 11)] (expRow t0 (maxRow mx))
    fun (acc : FVec F S32x128 .f32) (kb : Fin 12 × Fin 13) => do
      let t ← getT X par rc kb.1
      putP X par rc kb.2 (codeRow (expRow t (maxRow mx)))
      pure (addf acc (expRow t (maxRow mx)))
  putM (X.rl par) rc (recipRow l)

/-- One query head's rows of the output buffer into its columns of the output block. -/
def emit (O : OfsV) (h : Fin 4) : Prog (TpuEff nD τ sig (Elt F) Λ .tc) PUnit := do
  let o : Vec F S128x128 .f32 ← Prog.lift (.load X.o (⟨![h.val, 0], S128x128.size, ![4, 1], inbO h⟩ : LoadRect S512x128) (View.loadsAt_vmem h_S128x128))
  let _ : Vec F S1x128x128 .bf16 ← Prog.lift (.load X.out (Rect.unit (s := S1x128x8192) (O.o9 h) S1x128x128.size (O.i9 h)).toLoadRect (View.loadsAt_vmem h_S1x128x128))
  Prog.lift (.store X.out (Rect.unit (s := S1x128x8192) (O.o9 h) S1x128x128.size (O.i9 h)) (shapeCast S1x128x128 (truncf .bf16 o bitsLt_bf16_f32) shapeCasts_S128x128_S1x128x128) Finset.univ (View.stores_vmem h_S1x128x128 ((X.W .out).storeExact_slice rfl _ (O.p9 h)) (fun _ => rfl)) (.inl rfl))

/-- The value products of the head, into the output block. -/
def values (O : OfsV) : Prog (TpuEff nD τ sig (Elt F) Λ .tc) PUnit := do
  let v : Vec F S1x1x1664x128 .fp8e4m3 ← Prog.lift (.load X.vq (Rect.unit (s := S1x16x4096x128) O.o7 S1x1x1664x128.size O.i7).toLoadRect (View.loadsAt_vmem h_S1x1x1664x128))
  let p : Vec F S512x1664 .fp8e4m3 ← Prog.lift (.load (X.p par) (Rect.unit (s := S512x1664) ![0, 0] S512x1664.size inb_S512x1664_S512x1664_0_0).toLoadRect (View.loadsAt_vmem h_S512x1664))
  let vs : Vec F S1x1x128 .f32 ← Prog.lift (.load X.vsc (Rect.unit (s := S1x1x2048) O.o8 S1x1x128.size O.i8).toLoadRect (View.loadsAt_vmem h_S1x1x128))
  let rl : Vec F S512x128 .f32 ← Prog.lift (.load (X.rl par) (Rect.unit (s := S512x128) ![0, 0] S512x128.size inb_S512x128_S512x128_0_0).toLoadRect (View.loadsAt_vmem h_S512x128))
  let _ : Vec F S512x128 .f32 ← Prog.lift (.load X.o (Rect.unit (s := S512x128) ![0, 0] S512x128.size inb_S512x128_S512x128_0_0).toLoadRect (View.loadsAt_vmem h_S512x128))
  Prog.lift (.store X.o (Rect.unit (s := S512x128) ![0, 0] S512x128.size inb_S512x128_S512x128_0_0) (shapeCast S512x128 (outRows p (shapeCast S1664x128 v shapeCasts_S1x1x1664x128_S1664x128) (shapeCast S1x128 vs shapeCasts_S1x1x128_S1x128) rl) shapeCasts_S512x128_S512x128) Finset.univ (View.stores_vmem_bits_univ h_S512x128 rfl) (.inl rfl))
  emit X O 0
  emit X O 1
  emit X O 2
  emit X O 3

/-- The scores of one head, from its queries. -/
def first (O : OfsF) : Prog (TpuEff nD τ sig (Elt F) Λ .tc) PUnit := do
  takeQ X par O
  scores X par O

/-- The weights of one head's scores. -/
def second : Prog (TpuEff nD τ sig (Elt F) Λ .tc) PUnit := Attn.each rcs (softmaxRow X par)

/-- One grid point: two heads in flight, the scores of a head made while the weights of the one before
    are taken and the values of the one before that are summed. -/
def tile {lb ub st : BitVec 32} (hok : Scf.OK lb ub st) (F0 F1 : OfsF) (FL : Fin (Scf.trips lb ub st) → Fin 2 → OfsF)
    (VL : Fin (Scf.trips lb ub st) → Fin 2 → OfsV) (V14 V15 : OfsV) : Prog (TpuEff nD τ sig (Elt F) Λ .tc) PUnit := do
  first X 0 F0
  first X 1 F1
  second X 0
  let _ ← Scf.for lb ub st hok ⟨⟩ fun n (_ : PUnit) => do
    values X 0 (VL n 0)
    second X 1
    first X 0 (FL n 0)
    values X 1 (VL n 1)
    second X 0
    first X 1 (FL n 1)
  values X 0 V14
  second X 1
  values X 1 V15

end Cert.Proof.Attn

end
-- ==== Proof.Attn.Text.lean ====
/- The printed kernel `Kernel` is `Attn.tile` at its buffers, offsets and score scale. -/
module

public import proofs.«01_k».proof.Proof.Attn.Program
public import proofs.«01_k».proof.Proof.Gen.Kernel
public import Idealize.ShloMosaic.Lib.Pipeline.Regions

@[expose] public section

noncomputable section

namespace Cert.Proof.Attn.Kernel

open Idealize.ShloMosaic Idealize.ShloMosaic.TcCoe Idealize.ShloMosaic.Pipeline Idealize.SL.Sem
open Cert.Kernel Cert.Kernel.Gen

variable {F : FTy → Type} [FloatOps F]

/-- The printed buffers, by name. -/
def ctx
    (q : Memref sig .tc .vmem S1x16x512x128 .fp8e4m3) (hq : q.IsWhole)
    (qs : Memref sig .tc .vmem S1x1x64x1 .f32) (hqs : qs.IsWhole)
    (mean : Memref sig .tc .vmem S1x1x64x128 .bf16) (hmean : mean.IsWhole)
    (kq : Memref sig .tc .vmem S1x16x4096x128 .fp8e4m3) (hkq : kq.IsWhole)
    (vq : Memref sig .tc .vmem S1x16x4096x128 .fp8e4m3) (hvq : vq.IsWhole)
    (ksc : Memref sig .tc .vmem S1x16x32x128 .f32) (hksc : ksc.IsWhole)
    (vsc : Memref sig .tc .vmem S1x1x2048 .f32) (hvsc : vsc.IsWhole)
    (out : Memref sig .tc .vmem S1x128x8192 .bf16) (hout : out.IsWhole)
    (o : Memref sig .tc .vmem S512x128 .f32) (ho : o.IsWhole)
    (qw : Memref sig .tc .vmem S512x128 .fp8e4m3) (hqw : qw.IsWhole)
    (qw1 : Memref sig .tc .vmem S512x128 .fp8e4m3) (hqw1 : qw1.IsWhole)
    (qa : Memref sig .tc .vmem S8x128 .f32) (hqa : qa.IsWhole)
    (qa1 : Memref sig .tc .vmem S8x128 .f32) (hqa1 : qa1.IsWhole)
    (qm : Memref sig .tc .vmem S16x128 .bf16) (hqm : qm.IsWhole)
    (qm1 : Memref sig .tc .vmem S16x128 .bf16) (hqm1 : qm1.IsWhole)
    (t : Memref sig .tc .vmem S512x1536 .f32) (ht : t.IsWhole)
    (t1 : Memref sig .tc .vmem S512x1536 .f32) (ht1 : t1.IsWhole)
    (mx : Memref sig .tc .vmem S512x128 .f32) (hmx : mx.IsWhole)
    (mx1 : Memref sig .tc .vmem S512x128 .f32) (hmx1 : mx1.IsWhole)
    (p : Memref sig .tc .vmem S512x1664 .fp8e4m3) (hp : p.IsWhole)
    (p1 : Memref sig .tc .vmem S512x1664 .fp8e4m3) (hp1 : p1.IsWhole)
    (rl : Memref sig .tc .vmem S512x128 .f32) (hrl : rl.IsWhole)
    (rl1 : Memref sig .tc .vmem S512x128 .f32) (hrl1 : rl1.IsWhole) : Ctx sig F where
  M := fun | .q => q | .qs => qs | .mean => mean | .kq => kq | .vq => vq | .ksc => ksc | .vsc => vsc | .out => out | .o => o | .qw 0 => qw | .qw 1 => qw1 | .qa 0 => qa | .qa 1 => qa1 | .qm 0 => qm | .qm 1 => qm1 | .t 0 => t | .t 1 => t1 | .mx 0 => mx | .mx 1 => mx1 | .p 0 => p | .p 1 => p1 | .rl 0 => rl | .rl 1 => rl1
  W := fun | .q => hq | .qs => hqs | .mean => hmean | .kq => hkq | .vq => hvq | .ksc => hksc | .vsc => hvsc | .out => hout | .o => ho | .qw 0 => hqw | .qw 1 => hqw1 | .qa 0 => hqa | .qa 1 => hqa1 | .qm 0 => hqm | .qm 1 => hqm1 | .t 0 => ht | .t 1 => ht1 | .mx 0 => hmx | .mx 1 => hmx1 | .p 0 => hp | .p 1 => hp1 | .rl 0 => hrl | .rl 1 => hrl1
  SC := Scalar.ofBits .f32 0x3E0293EE#32

/-- The offsets of head 0. -/
def F0 (i : grid0.Coords) : OfsF where
  o1 h := ![0, 0, h.val, 0]
  o2 h := ![0, 0, h.val, 0]
  o3 := ![0, 0, 0, 0]
  o4 := k0_off1 i
  o5 r := k0_off2 i (k0_off2_at r).1 (k0_off2_at r).2
  o6 r := k0_off3 i (BitVec.ofNat 32 (2 * r.val))
  i1 := by decide +kernel
  i2 := by decide +kernel
  i3 := by decide +kernel
  i4 := k0_off1_inb i
  i5 := k0_off2_inb i
  i6 := k0_off3_inb i

/-- The offsets of head 1. -/
def F1 (i : grid0.Coords) : OfsF where
  o1 h := ![0, 0, 4 + h.val, 0]
  o2 h := ![0, 0, 4 + h.val, 0]
  o3 := ![0, 1, 0, 0]
  o4 := k0_off4 i
  o5 r := k0_off5 i (k0_off5_at r).1 (k0_off5_at r).2
  o6 r := k0_off6 i (BitVec.ofNat 32 (2 * r.val))
  i1 := by decide +kernel
  i2 := by decide +kernel
  i3 := by decide +kernel
  i4 := k0_off4_inb i
  i5 := k0_off5_inb i
  i6 := k0_off6_inb i

/-- The offsets of the heads the loop's trip `n` takes the scores of. -/
def FL (i : grid0.Coords) (n : Fin k0_t1_loop.trips) (d : Fin 2) : OfsF where
  o1 h := k0_off10 n (BitVec.ofNat 32 d.val) (BitVec.ofNat 32 h.val)
  o2 h := k0_off11 n (BitVec.ofNat 32 d.val) (BitVec.ofNat 32 h.val)
  o3 := k0_off12 n (BitVec.ofNat 32 d.val)
  o4 := k0_off13 i n (BitVec.ofNat 32 d.val)
  o5 r := k0_off14 i n (k0_off14_at ⟨13 * d.val + r.val, by omega⟩).1 (k0_off14_at ⟨13 * d.val + r.val, by omega⟩).2.1 (k0_off14_at ⟨13 * d.val + r.val, by omega⟩).2.2
  o6 r := k0_off15 i n (BitVec.ofNat 32 d.val) (BitVec.ofNat 32 (2 * r.val))
  i1 := k0_off10_inb n d
  i2 := k0_off11_inb n d
  i3 := k0_off12_inb n d
  i4 := k0_off13_inb i n d
  i5 r := k0_off14_inb i n ⟨13 * d.val + r.val, by omega⟩
  i6 := k0_off15_inb i n d

/-- The offsets of the heads the loop's trip `n` sums the values of. -/
def VL (i : grid0.Coords) (n : Fin k0_t1_loop.trips) (d : Fin 2) : OfsV where
  o7 := k0_off7 i n (BitVec.ofNat 32 d.val)
  o8 := k0_off8 n (BitVec.ofNat 32 d.val)
  o9 h := k0_off9 n (BitVec.ofNat 32 d.val) (BitVec.ofNat 32 (128 * h.val))
  i7 := k0_off7_inb i n d
  i8 := k0_off8_inb n d
  i9 := k0_off9_inb n d
  p9 := k0_off9_packedbf16 n d

/-- The offsets of head 14's values. -/
def V14 (i : grid0.Coords) : OfsV where
  o7 := k0_off16 i
  o8 := ![0, 0, 1792]
  o9 h := ![0, 0, 7168 + 128 * h.val]
  i7 := k0_off16_inb i
  i8 := by decide +kernel
  i9 := by decide +kernel
  p9 := by
    rw [Fin.forall_fin_succ, Fin.forall_fin_succ, Fin.forall_fin_two]
    exact ⟨packedbf16_S1x128x8192_S1x128x128_0_0_7168, packedbf16_S1x128x8192_S1x128x128_0_0_7296, packedbf16_S1x128x8192_S1x128x128_0_0_7424,
      packedbf16_S1x128x8192_S1x128x128_0_0_7552⟩

/-- The offsets of head 15's values. -/
def V15 (i : grid0.Coords) : OfsV where
  o7 := k0_off17 i
  o8 := ![0, 0, 1920]
  o9 h := ![0, 0, 7680 + 128 * h.val]
  i7 := k0_off17_inb i
  i8 := by decide +kernel
  i9 := by decide +kernel
  p9 := by
    rw [Fin.forall_fin_succ, Fin.forall_fin_succ, Fin.forall_fin_two]
    exact ⟨packedbf16_S1x128x8192_S1x128x128_0_0_7680, packedbf16_S1x128x8192_S1x128x128_0_0_7808, packedbf16_S1x128x8192_S1x128x128_0_0_7936,
      packedbf16_S1x128x8192_S1x128x128_0_0_8064⟩

variable (i : grid0.Coords)
    (q : Memref sig .tc .vmem S1x16x512x128 .fp8e4m3) (hq : q.IsWhole)
    (qs : Memref sig .tc .vmem S1x1x64x1 .f32) (hqs : qs.IsWhole)
    (mean : Memref sig .tc .vmem S1x1x64x128 .bf16) (hmean : mean.IsWhole)
    (kq : Memref sig .tc .vmem S1x16x4096x128 .fp8e4m3) (hkq : kq.IsWhole)
    (vq : Memref sig .tc .vmem S1x16x4096x128 .fp8e4m3) (hvq : vq.IsWhole)
    (ksc : Memref sig .tc .vmem S1x16x32x128 .f32) (hksc : ksc.IsWhole)
    (vsc : Memref sig .tc .vmem S1x1x2048 .f32) (hvsc : vsc.IsWhole)
    (out : Memref sig .tc .vmem S1x128x8192 .bf16) (hout : out.IsWhole)
    (o : Memref sig .tc .vmem S512x128 .f32) (ho : o.IsWhole)
    (qw : Memref sig .tc .vmem S512x128 .fp8e4m3) (hqw : qw.IsWhole)
    (qw1 : Memref sig .tc .vmem S512x128 .fp8e4m3) (hqw1 : qw1.IsWhole)
    (qa : Memref sig .tc .vmem S8x128 .f32) (hqa : qa.IsWhole)
    (qa1 : Memref sig .tc .vmem S8x128 .f32) (hqa1 : qa1.IsWhole)
    (qm : Memref sig .tc .vmem S16x128 .bf16) (hqm : qm.IsWhole)
    (qm1 : Memref sig .tc .vmem S16x128 .bf16) (hqm1 : qm1.IsWhole)
    (t : Memref sig .tc .vmem S512x1536 .f32) (ht : t.IsWhole)
    (t1 : Memref sig .tc .vmem S512x1536 .f32) (ht1 : t1.IsWhole)
    (mx : Memref sig .tc .vmem S512x128 .f32) (hmx : mx.IsWhole)
    (mx1 : Memref sig .tc .vmem S512x128 .f32) (hmx1 : mx1.IsWhole)
    (p : Memref sig .tc .vmem S512x1664 .fp8e4m3) (hp : p.IsWhole)
    (p1 : Memref sig .tc .vmem S512x1664 .fp8e4m3) (hp1 : p1.IsWhole)
    (rl : Memref sig .tc .vmem S512x128 .f32) (hrl : rl.IsWhole)
    (rl1 : Memref sig .tc .vmem S512x128 .f32) (hrl1 : rl1.IsWhole)

/-- The printed statements after the heads' loop, up to the middle of the last head's weights. -/
def mid (v9188 : BitVec 32) : Prog (TpuEff nD τ sig (Elt F) Λ₀ .tc) (Σ' (v9260 : IVec S32x128 32), FVec F S32x128 .f32) := do
  let v9220 : BitVec 32 ← k0_part509 i q hq qs hqs mean hmean kq hkq vq hvq ksc hksc vsc hvsc out hout o ho qw hqw qw1 hqw1 qa hqa qa1 hqa1 qm hqm qm1 hqm1 t ht t1 ht1 mx hmx mx1 hmx1 p hp p1 hp1 rl hrl rl1 hrl1 v9188
  let ⟨v9260, v9261⟩ : Σ' (v9260 : IVec S32x128 32), Vec F S32x128 .f32 ← k0_part510 i q hq qs hqs mean hmean kq hkq vq hvq ksc hksc vsc hvsc out hout o ho qw hqw qw1 hqw1 qa hqa qa1 hqa1 qm hqm qm1 hqm1 t ht t1 ht1 mx hmx mx1 hmx1 p hp p1 hp1 rl hrl rl1 hrl1 v9220
  let ⟨v9267, v9297, v9298, v9299⟩ : Σ' (v9267 : FVec F S32x128 .f32) (v9297 : FVec F S32x128 .f32) (v9298 : FVec F S32x128 .f32), FVec F S32x128 .f32 ← k0_part511 i q hq qs hqs mean hmean kq hkq vq hvq ksc hksc vsc hvsc out hout o ho qw hqw qw1 hqw1 qa hqa qa1 hqa1 qm hqm qm1 hqm1 t ht t1 ht1 mx hmx mx1 hmx1 p hp p1 hp1 rl hrl rl1 hrl1 v9260 v9261
  let ⟨v9328, v9336⟩ : Σ' (v9328 : FVec F S32x128 .f32), FVec F S32x128 .f32 ← k0_part512 i q hq qs hqs mean hmean kq hkq vq hvq ksc hksc vsc hvsc out hout o ho qw hqw qw1 hqw1 qa hqa qa1 hqa1 qm hqm qm1 hqm1 t ht t1 ht1 mx hmx mx1 hmx1 p hp p1 hp1 rl hrl rl1 hrl1 v9267 v9297 v9298 v9299
  let v9368 : FVec F S32x128 .f32 ← k0_part513 i q hq qs hqs mean hmean kq hkq vq hvq ksc hksc vsc hvsc out hout o ho qw hqw qw1 hqw1 qa hqa qa1 hqa1 qm hqm qm1 hqm1 t ht t1 ht1 mx hmx mx1 hmx1 p hp p1 hp1 rl hrl rl1 hrl1 v9267 v9328 v9336
  let ⟨v9410, v9411⟩ : Σ' (v9410 : FVec F S32x128 .f32), Vec F S32x128 .f32 ← k0_part514 i q hq qs hqs mean hmean kq hkq vq hvq ksc hksc vsc hvsc out hout o ho qw hqw qw1 hqw1 qa hqa qa1 hqa1 qm hqm qm1 hqm1 t ht t1 ht1 mx hmx mx1 hmx1 p hp p1 hp1 rl hrl rl1 hrl1 v9267 v9368
  let ⟨v9441, v9448⟩ : Σ' (v9441 : FVec F S32x128 .f32), Vec F S32x128 .f32 ← k0_part515 i q hq qs hqs mean hmean kq hkq vq hvq ksc hksc vsc hvsc out hout o ho qw hqw qw1 hqw1 qa hqa qa1 hqa1 qm hqm qm1 hqm1 t ht t1 ht1 mx hmx mx1 hmx1 p hp p1 hp1 rl hrl rl1 hrl1 v9260 v9410 v9411
  let ⟨v9481, v9487⟩ : Σ' (v9481 : FVec F S32x128 .f32), FVec F S32x128 .fp8e4m3 ← k0_part516 i q hq qs hqs mean hmean kq hkq vq hvq ksc hksc vsc hvsc out hout o ho qw hqw qw1 hqw1 qa hqa qa1 hqa1 qm hqm qm1 hqm1 t ht t1 ht1 mx hmx mx1 hmx1 p hp p1 hp1 rl hrl rl1 hrl1 v9410 v9441 v9448
  let ⟨v9521, v9524⟩ : Σ' (v9521 : FVec F S32x128 .f32), FVec F S32x128 .fp8e4m3 ← k0_part517 i q hq qs hqs mean hmean kq hkq vq hvq ksc hksc vsc hvsc out hout o ho qw hqw qw1 hqw1 qa hqa qa1 hqa1 qm hqm qm1 hqm1 t ht t1 ht1 mx hmx mx1 hmx1 p hp p1 hp1 rl hrl rl1 hrl1 v9410 v9481 v9487
  let ⟨v9553, v9556, v9559, v9560, v9562⟩ : Σ' (v9553 : FVec F S32x128 .f32) (v9556 : FVec F S32x128 .f32) (v9559 : FVec F S32x128 .fp8e4m3) (v9560 : FVec F S32x128 .fp8e4m3), IVec S32x128 1 ← k0_part518 i q hq qs hqs mean hmean kq hkq vq hvq ksc hksc vsc hvsc out hout o ho qw hqw qw1 hqw1 qa hqa qa1 hqa1 qm hqm qm1 hqm1 t ht t1 ht1 mx hmx mx1 hmx1 p hp p1 hp1 rl hrl rl1 hrl1 v9260 v9410 v9521 v9524
  let ⟨v9594, v9597⟩ : Σ' (v9594 : FVec F S32x128 .f32), FVec F S32x128 .fp8e4m3 ← k0_part519 i q hq qs hqs mean hmean kq hkq vq hvq ksc hksc vsc hvsc out hout o ho qw hqw qw1 hqw1 qa hqa qa1 hqa1 qm hqm qm1 hqm1 t ht t1 ht1 mx hmx mx1 hmx1 p hp p1 hp1 rl hrl rl1 hrl1 v9553 v9556 v9559 v9560 v9562
  let ⟨v9634, v9637⟩ : Σ' (v9634 : FVec F S32x128 .f32), FVec F S32x128 .fp8e4m3 ← k0_part520 i q hq qs hqs mean hmean kq hkq vq hvq ksc hksc vsc hvsc out hout o ho qw hqw qw1 hqw1 qa hqa qa1 hqa1 qm hqm qm1 hqm1 t ht t1 ht1 mx hmx mx1 hmx1 p hp p1 hp1 rl hrl rl1 hrl1 v9553 v9594 v9597
  let ⟨v9673, v9674⟩ : Σ' (v9673 : FVec F S32x128 .f32), FVec F S32x128 .f32 ← k0_part521 i q hq qs hqs mean hmean kq hkq vq hvq ksc hksc vsc hvsc out hout o ho qw hqw qw1 hqw1 qa hqa qa1 hqa1 qm hqm qm1 hqm1 t ht t1 ht1 mx hmx mx1 hmx1 p hp p1 hp1 rl hrl rl1 hrl1 v9553 v9634 v9637
  let ⟨v9696, v9699, v9710, v9711⟩ : Σ' (v9696 : FVec F S32x128 .f32) (v9699 : FVec F S32x128 .f32) (v9710 : FVec F S32x128 .fp8e4m3), Vec F S32x128 .fp8e4m3 ← k0_part522 i q hq qs hqs mean hmean kq hkq vq hvq ksc hksc vsc hvsc out hout o ho qw hqw qw1 hqw1 qa hqa qa1 hqa1 qm hqm qm1 hqm1 t ht t1 ht1 mx hmx mx1 hmx1 p hp p1 hp1 rl hrl rl1 hrl1 v9260 v9673 v9674
  let ⟨v9747, v9749⟩ : Σ' (v9747 : FVec F S32x128 .f32), FVec F S32x128 .f32 ← k0_part523 i q hq qs hqs mean hmean kq hkq vq hvq ksc hksc vsc hvsc out hout o ho qw hqw qw1 hqw1 qa hqa qa1 hqa1 qm hqm qm1 hqm1 t ht t1 ht1 mx hmx mx1 hmx1 p hp p1 hp1 rl hrl rl1 hrl1 v9696 v9699 v9710 v9711
  let ⟨v9777, v9786⟩ : Σ' (v9777 : FVec F S32x128 .f32), FVec F S32x128 .f32 ← k0_part524 i q hq qs hqs mean hmean kq hkq vq hvq ksc hksc vsc hvsc out hout o ho qw hqw qw1 hqw1 qa hqa qa1 hqa1 qm hqm qm1 hqm1 t ht t1 ht1 mx hmx mx1 hmx1 p hp p1 hp1 rl hrl rl1 hrl1 v9696 v9747 v9749
  let v9817 : FVec F S32x128 .f32 ← k0_part525 i q hq qs hqs mean hmean kq hkq vq hvq ksc hksc vsc hvsc out hout o ho qw hqw qw1 hqw1 qa hqa qa1 hqa1 qm hqm qm1 hqm1 t ht t1 ht1 mx hmx mx1 hmx1 p hp p1 hp1 rl hrl rl1 hrl1 v9696 v9777 v9786
  let ⟨v9839, v9859, v9860, v9861⟩ : Σ' (v9839 : FVec F S32x128 .f32) (v9859 : FVec F S32x128 .f32) (v9860 : FVec F S32x128 .f32), FVec F S32x128 .f32 ← k0_part526 i q hq qs hqs mean hmean kq hkq vq hvq ksc hksc vsc hvsc out hout o ho qw hqw qw1 hqw1 qa hqa qa1 hqa1 qm hqm qm1 hqm1 t ht t1 ht1 mx hmx mx1 hmx1 p hp p1 hp1 rl hrl rl1 hrl1 v9260 v9817
  let ⟨v9890, v9898⟩ : Σ' (v9890 : FVec F S32x128 .f32), FVec F S32x128 .f32 ← k0_part527 i q hq qs hqs mean hmean kq hkq vq hvq ksc hksc vsc hvsc out hout o ho qw hqw qw1 hqw1 qa hqa qa1 hqa1 qm hqm qm1 hqm1 t ht t1 ht1 mx hmx mx1 hmx1 p hp p1 hp1 rl hrl rl1 hrl1 v9839 v9859 v9860 v9861
  let v9930 : FVec F S32x128 .f32 ← k0_part528 i q hq qs hqs mean hmean kq hkq vq hvq ksc hksc vsc hvsc out hout o ho qw hqw qw1 hqw1 qa hqa qa1 hqa1 qm hqm qm1 hqm1 t ht t1 ht1 mx hmx mx1 hmx1 p hp p1 hp1 rl hrl rl1 hrl1 v9839 v9890 v9898
  let v9972 : FVec F S32x128 .f32 ← k0_part529 i q hq qs hqs mean hmean kq hkq vq hvq ksc hksc vsc hvsc out hout o ho qw hqw qw1 hqw1 qa hqa qa1 hqa1 qm hqm qm1 hqm1 t ht t1 ht1 mx hmx mx1 hmx1 p hp p1 hp1 rl hrl rl1 hrl1 v9839 v9930
  pure ⟨v9260, v9972⟩

/-- The printed statements from there on. -/
def tail (r : Σ' (v9260 : IVec S32x128 32), FVec F S32x128 .f32) : Prog (TpuEff nD τ sig (Elt F) Λ₀ .tc) PUnit := do
  let _ ← k0_part577 i q hq qs hqs mean hmean kq hkq vq hvq ksc hksc vsc hvsc out hout o ho qw hqw qw1 hqw1 qa hqa qa1 hqa1 qm hqm qm1 hqm1 t ht t1 ht1 mx hmx mx1 hmx1 p hp p1 hp1 rl hrl rl1 hrl1 (BitVec.ofNat 32 (i 1).val) r.1 r.2
  emit (ctx (F := F) q hq qs hqs mean hmean kq hkq vq hvq ksc hksc vsc hvsc out hout o ho qw hqw qw1 hqw1 qa hqa qa1 hqa1 qm hqm qm1 hqm1 t ht t1 ht1 mx hmx mx1 hmx1 p hp p1 hp1 rl hrl rl1 hrl1) (V15 i) 3

/-- The printed statements after the loop are the last two heads' values around the last head's weights. -/
theorem post_eq : (mid (F := F) i q hq qs hqs mean hmean kq hkq vq hvq ksc hksc vsc hvsc out hout o ho qw hqw qw1 hqw1 qa hqa qa1 hqa1 qm hqm qm1 hqm1 t ht t1 ht1 mx hmx mx1 hmx1 p hp p1 hp1 rl hrl rl1 hrl1 (Scalar.muli (BitVec.ofNat 32 (i 1).val) 128#32) >>= tail (F := F) i q hq qs hqs mean hmean kq hkq vq hvq ksc hksc vsc hvsc out hout o ho qw hqw qw1 hqw1 qa hqa qa1 hqa1 qm hqm qm1 hqm1 t ht t1 ht1 mx hmx mx1 hmx1 p hp p1 hp1 rl hrl rl1 hrl1) =
    (do
      values (ctx (F := F) q hq qs hqs mean hmean kq hkq vq hvq ksc hksc vsc hvsc out hout o ho qw hqw qw1 hqw1 qa hqa qa1 hqa1 qm hqm qm1 hqm1 t ht t1 ht1 mx hmx mx1 hmx1 p hp p1 hp1 rl hrl rl1 hrl1) 0 (V14 i)
      second (ctx (F := F) q hq qs hqs mean hmean kq hkq vq hvq ksc hksc vsc hvsc out hout o ho qw hqw qw1 hqw1 qa hqa qa1 hqa1 qm hqm qm1 hqm1 t ht t1 ht1 mx hmx mx1 hmx1 p hp p1 hp1 rl hrl rl1 hrl1) 1
      values (ctx (F := F) q hq qs hqs mean hmean kq hkq vq hvq ksc hksc vsc hvsc out hout o ho qw hqw qw1 hqw1 qa hqa qa1 hqa1 qm hqm qm1 hqm1 t ht t1 ht1 mx hmx mx1 hmx1 p hp p1 hp1 rl hrl rl1 hrl1) 1 (V15 i)) := by
  chain_rfl

/-- The heads' loop. -/
def loop : Prog (TpuEff nD τ sig (Elt F) Λ₀ .tc) PUnit :=
  Scf.for k0_t1_loop.lb k0_t1_loop.ub k0_t1_loop.st k0_t1_ok PUnit.unit fun n (_ : PUnit) => do
    values (ctx (F := F) q hq qs hqs mean hmean kq hkq vq hvq ksc hksc vsc hvsc out hout o ho qw hqw qw1 hqw1 qa hqa qa1 hqa1 qm hqm qm1 hqm1 t ht t1 ht1 mx hmx mx1 hmx1 p hp p1 hp1 rl hrl rl1 hrl1) 0 (VL i n 0)
    second (ctx (F := F) q hq qs hqs mean hmean kq hkq vq hvq ksc hksc vsc hvsc out hout o ho qw hqw qw1 hqw1 qa hqa qa1 hqa1 qm hqm qm1 hqm1 t ht t1 ht1 mx hmx mx1 hmx1 p hp p1 hp1 rl hrl rl1 hrl1) 1
    first (ctx (F := F) q hq qs hqs mean hmean kq hkq vq hvq ksc hksc vsc hvsc out hout o ho qw hqw qw1 hqw1 qa hqa qa1 hqa1 qm hqm qm1 hqm1 t ht t1 ht1 mx hmx mx1 hmx1 p hp p1 hp1 rl hrl rl1 hrl1) 0 (FL i n 0)
    values (ctx (F := F) q hq qs hqs mean hmean kq hkq vq hvq ksc hksc vsc hvsc out hout o ho qw hqw qw1 hqw1 qa hqa qa1 hqa1 qm hqm qm1 hqm1 t ht t1 ht1 mx hmx mx1 hmx1 p hp p1 hp1 rl hrl rl1 hrl1) 1 (VL i n 1)
    second (ctx (F := F) q hq qs hqs mean hmean kq hkq vq hvq ksc hksc vsc hvsc out hout o ho qw hqw qw1 hqw1 qa hqa qa1 hqa1 qm hqm qm1 hqm1 t ht t1 ht1 mx hmx mx1 hmx1 p hp p1 hp1 rl hrl rl1 hrl1) 0
    first (ctx (F := F) q hq qs hqs mean hmean kq hkq vq hvq ksc hksc vsc hvsc out hout o ho qw hqw qw1 hqw1 qa hqa qa1 hqa1 qm hqm qm1 hqm1 t ht t1 ht1 mx hmx mx1 hmx1 p hp p1 hp1 rl hrl rl1 hrl1) 1 (FL i n 1)

/-- The printed body, the statements after the loop grouped as they are printed. -/
theorem text_eq : cc0_attention (F := F) i q hq qs hqs mean hmean kq hkq vq hvq ksc hksc vsc hvsc out hout o ho qw hqw qw1 hqw1 qa hqa qa1 hqa1 qm hqm qm1 hqm1 t ht t1 ht1 mx hmx mx1 hmx1 p hp p1 hp1 rl hrl rl1 hrl1 =
    (do
      first (ctx (F := F) q hq qs hqs mean hmean kq hkq vq hvq ksc hksc vsc hvsc out hout o ho qw hqw qw1 hqw1 qa hqa qa1 hqa1 qm hqm qm1 hqm1 t ht t1 ht1 mx hmx mx1 hmx1 p hp p1 hp1 rl hrl rl1 hrl1) 0 (F0 i)
      first (ctx (F := F) q hq qs hqs mean hmean kq hkq vq hvq ksc hksc vsc hvsc out hout o ho qw hqw qw1 hqw1 qa hqa qa1 hqa1 qm hqm qm1 hqm1 t ht t1 ht1 mx hmx mx1 hmx1 p hp p1 hp1 rl hrl rl1 hrl1) 1 (F1 i)
      second (ctx (F := F) q hq qs hqs mean hmean kq hkq vq hvq ksc hksc vsc hvsc out hout o ho qw hqw qw1 hqw1 qa hqa qa1 hqa1 qm hqm qm1 hqm1 t ht t1 ht1 mx hmx mx1 hmx1 p hp p1 hp1 rl hrl rl1 hrl1) 0
      ((loop (F := F) i q hq qs hqs mean hmean kq hkq vq hvq ksc hksc vsc hvsc out hout o ho qw hqw qw1 hqw1 qa hqa qa1 hqa1 qm hqm qm1 hqm1 t ht t1 ht1 mx hmx mx1 hmx1 p hp p1 hp1 rl hrl rl1 hrl1 >>= fun _ => pure (Scalar.muli (BitVec.ofNat 32 (i 1).val) 128#32)) >>= mid (F := F) i q hq qs hqs mean hmean kq hkq vq hvq ksc hksc vsc hvsc out hout o ho qw hqw qw1 hqw1 qa hqa qa1 hqa1 qm hqm qm1 hqm1 t ht t1 ht1 mx hmx mx1 hmx1 p hp p1 hp1 rl hrl rl1 hrl1) >>= tail (F := F) i q hq qs hqs mean hmean kq hkq vq hvq ksc hksc vsc hvsc out hout o ho qw hqw qw1 hqw1 qa hqa qa1 hqa1 qm hqm qm1 hqm1 t ht t1 ht1 mx hmx mx1 hmx1 p hp p1 hp1 rl hrl rl1 hrl1) := by
  chain_rfl

/-- The body of the printed kernel, its text folded. -/
theorem body_eq : cc0_attention (F := F) i q hq qs hqs mean hmean kq hkq vq hvq ksc hksc vsc hvsc out hout o ho qw hqw qw1 hqw1 qa hqa qa1 hqa1 qm hqm qm1 hqm1 t ht t1 ht1 mx hmx mx1 hmx1 p hp p1 hp1 rl hrl rl1 hrl1 =
    tile (ctx (F := F) q hq qs hqs mean hmean kq hkq vq hvq ksc hksc vsc hvsc out hout o ho qw hqw qw1 hqw1 qa hqa qa1 hqa1 qm hqm qm1 hqm1 t ht t1 ht1 mx hmx mx1 hmx1 p hp p1 hp1 rl hrl rl1 hrl1) k0_t1_ok (F0 i) (F1 i) (FL i) (VL i) (V14 i) (V15 i) := by
  refine (text_eq (F := F) i q hq qs hqs mean hmean kq hkq vq hvq ksc hksc vsc hvsc out hout o ho qw hqw qw1 hqw1 qa hqa qa1 hqa1 qm hqm qm1 hqm1 t ht t1 ht1 mx hmx mx1 hmx1 p hp p1 hp1 rl hrl rl1 hrl1).trans ?_
  rw [bind_assoc3 _ _ _ _ _ (post_eq (F := F) i q hq qs hqs mean hmean kq hkq vq hvq ksc hksc vsc hvsc out hout o ho qw hqw qw1 hqw1 qa hqa qa1 hqa1 qm hqm qm1 hqm1 t ht t1 ht1 mx hmx mx1 hmx1 p hp p1 hp1 rl hrl rl1 hrl1)]
  rfl

end Cert.Proof.Attn.Kernel

end
-- ==== Proof.Attn.Chunks.lean ====
/- The parts of the buffers a grid point's stores write, and each access of the attention program as a step on the
   buffers' contents. -/
module

public import proofs.«01_k».proof.Proof.Attn.Program
public import Idealize.ShloMosaic.Lib.Pipeline.Value

@[expose] public section

set_option maxHeartbeats 100000

noncomputable section

namespace Cert.Proof.Attn

open Idealize.ShloMosaic Idealize.ShloMosaic.TcCoe Idealize.SL.Sem
open Cert.KernelIdeal

variable {F : FTy → Type} [FloatOps F]

/-- The contents of a grid point's buffers. -/
abbrev St (F : FTy → Type) : Type := Cont (Elt F) Slot.shp Slot.elt

/-! ## Rectangles -/

theorem overlay_self {s : Shape} {α : Type} (r : Rect s) (X : s.Idx → α) (w : r.shape.Idx → α) : (fun i => r.overlay X w (r.idx i)) = w :=
  funext fun i => Rect.overlay_emb r X w i

theorem overlay_other {s : Shape} {α : Type} (r r' : Rect s) (X : s.Idx → α) (w : r.shape.Idx → α) (h : Disjoint r.set r'.set) :
    (fun i => r.overlay X w (r'.idx i)) = fun i => X (r'.idx i) :=
  funext fun i => Rect.overlay_of_not_mem r X w (Finset.disjoint_right.mp h (r'.idx_mem i))

theorem idx_full {s : Shape} (off : Fin s.rank → Nat) (h : ∀ a, off a + s.size a ≤ s.size a) (i : s.Idx) :
    (Rect.unit off s.size h).idx i = i := by
  funext a; ext
  have := h a
  show off a + 1 * (i a).val = _
  omega

theorem overlay_full {s : Shape} {α : Type} (off : Fin s.rank → Nat) (h : ∀ a, off a + s.size a ≤ s.size a) (X : s.Idx → α) (w : s.Idx → α) :
    (Rect.unit off s.size h).overlay X w = w := by
  funext i
  have e := Rect.overlay_emb (Rect.unit off s.size h) X w i
  rwa [show (Rect.unit off s.size h).emb i = i from idx_full off h i] at e

abbrev rT (rc : Fin 16) (kb : Fin 12) : Rect S512x1536 := Rect.unit (s := S512x1536) ![32 * rc.val, 128 * kb.val] S32x128.size (inbT rc kb)
abbrev rM (rc : Fin 16) : Rect S512x128 := Rect.unit (s := S512x128) ![32 * rc.val, 0] S32x128.size (inbM rc)
abbrev rP (rc : Fin 16) (kb : Fin 13) : Rect S512x1664 := Rect.unit (s := S512x1664) ![32 * rc.val, 128 * kb.val] S32x128.size (inbP rc kb)

/-- A chunk of the scores. -/
def chT {α : Type} (rc : Fin 16) (kb : Fin 12) (X : S512x1536.Idx → α) : S32x128.Idx → α := fun i => X ((rT rc kb).idx i)
/-- A chunk of the maxima or of the reciprocal sums. -/
def chM {α : Type} (rc : Fin 16) (X : S512x128.Idx → α) : S32x128.Idx → α := fun i => X ((rM rc).idx i)
/-- A chunk of the codes. -/
def chP {α : Type} (rc : Fin 16) (kb : Fin 13) (X : S512x1664.Idx → α) : S32x128.Idx → α := fun i => X ((rP rc kb).idx i)

theorem chT_overlay {α : Type} (rc rc' : Fin 16) (kb kb' : Fin 12) (X : S512x1536.Idx → α) (w : S32x128.Idx → α) :
    chT rc kb ((rT rc' kb').overlay X w) = if rc = rc' ∧ kb = kb' then w else chT rc kb X := by
  split
  · next h => obtain ⟨rfl, rfl⟩ := h; exact overlay_self (rT rc kb) X w
  · next h =>
    refine overlay_other (rT rc' kb') (rT rc kb) X w ?_
    by_cases e : rc = rc'
    · refine Rect.disjoint_of_axis _ _ 1 fun a ha b hb => ?_
      have : kb.val ≠ kb'.val := fun e' => h ⟨e, Fin.ext e'⟩
      show 128 * kb'.val + 1 * a ≠ 128 * kb.val + 1 * b
      have : a < 128 := ha; have : b < 128 := hb
      omega
    · refine Rect.disjoint_of_axis _ _ 0 fun a ha b hb => ?_
      have : rc.val ≠ rc'.val := fun e' => e (Fin.ext e')
      show 32 * rc'.val + 1 * a ≠ 32 * rc.val + 1 * b
      have : a < 32 := ha; have : b < 32 := hb
      omega

theorem chP_overlay {α : Type} (rc rc' : Fin 16) (kb kb' : Fin 13) (X : S512x1664.Idx → α) (w : S32x128.Idx → α) :
    chP rc kb ((rP rc' kb').overlay X w) = if rc = rc' ∧ kb = kb' then w else chP rc kb X := by
  split
  · next h => obtain ⟨rfl, rfl⟩ := h; exact overlay_self (rP rc kb) X w
  · next h =>
    refine overlay_other (rP rc' kb') (rP rc kb) X w ?_
    by_cases e : rc = rc'
    · refine Rect.disjoint_of_axis _ _ 1 fun a ha b hb => ?_
      have : kb.val ≠ kb'.val := fun e' => h ⟨e, Fin.ext e'⟩
      show 128 * kb'.val + 1 * a ≠ 128 * kb.val + 1 * b
      have : a < 128 := ha; have : b < 128 := hb
      omega
    · refine Rect.disjoint_of_axis _ _ 0 fun a ha b hb => ?_
      have : rc.val ≠ rc'.val := fun e' => e (Fin.ext e')
      show 32 * rc'.val + 1 * a ≠ 32 * rc.val + 1 * b
      have : a < 32 := ha; have : b < 32 := hb
      omega

theorem chM_overlay {α : Type} (rc rc' : Fin 16) (X : S512x128.Idx → α) (w : S32x128.Idx → α) :
    chM rc ((rM rc').overlay X w) = if rc = rc' then w else chM rc X := by
  split
  · next h => subst h; exact overlay_self (rM rc) X w
  · next h =>
    refine overlay_other (rM rc') (rM rc) X w ?_
    refine Rect.disjoint_of_axis _ _ 0 fun a ha b hb => ?_
    have : rc.val ≠ rc'.val := fun e' => h (Fin.ext e')
    show 32 * rc'.val + 1 * a ≠ 32 * rc.val + 1 * b
    have : a < 32 := ha; have : b < 32 := hb
    omega

/-! ## The contents after a store -/

/-- One buffer's contents replaced. -/
abbrev St.set (σ : St F) (b : Slot) (X : b.shp.Idx → Elt F b.elt) : St F := Function.update σ b X

theorem St.set_self (σ : St F) (b : Slot) (X : b.shp.Idx → Elt F b.elt) : σ.set b X b = X := Function.update_self ..
theorem St.set_ne (σ : St F) {b b' : Slot} (h : b' ≠ b) (X : b.shp.Idx → Elt F b.elt) : σ.set b X b' = σ b' := Function.update_of_ne h ..

/-! ## The accesses as steps -/

variable {nD : Nat} {τ : Topo} {sig : RefSig} {Λ : Labels}
variable {defs : Defs nD τ sig (Elt F) Λ} {𝒱 : Variants} {c : Dev nD} {bd : Option 𝒱.V} {E : Set ℕ}
variable {X : Ctx sig F} {par : Fin 2}

/-- A triple on a grid point's buffers. -/
abbrev TT (defs : Defs nD τ sig (Elt F) Λ) (𝒱 : Variants) (c : Dev nD) (bd : Option 𝒱.V) (E : Set ℕ) (X : Ctx sig F) {α : Type}
    (p : Prog (TpuEff nD τ sig (Elt F) Λ .tc) α) (σ : St F) (Φ : α → St F → Prop) : Prop := T defs 𝒱 c bd E X.M p σ Φ

variable {β : Type} {σ : St F} {Ψ : β → St F → Prop}

theorem last {p : Prog (TpuEff nD τ sig (Elt F) Λ .tc) β} (h : TT defs 𝒱 c bd E X (p >>= pure) σ Ψ) : TT defs 𝒱 c bd E X p σ Ψ := by
  rwa [bind_pure] at h

theorem getT_bind {rc : Fin 16} {kb : Fin 12} {k : Vec F S32x128 .f32 → Prog (TpuEff nD τ sig (Elt F) Λ .tc) β}
    (h : TT defs 𝒱 c bd E X (k (chT rc kb (σ (.t par)))) σ Ψ) : TT defs 𝒱 c bd E X (getT X par rc kb >>= k) σ Ψ := by
  refine T.load (M := X.M) (.t par) (r := (rT rc kb).toLoadRect) ?_
  exact h

theorem getM_bind {rc : Fin 16} {k : Vec F S32x128 .f32 → Prog (TpuEff nD τ sig (Elt F) Λ .tc) β}
    (h : TT defs 𝒱 c bd E X (k (chM rc (σ (.mx par)))) σ Ψ) : TT defs 𝒱 c bd E X (getM X par rc >>= k) σ Ψ := by
  refine T.load (M := X.M) (.mx par) (r := (rM rc).toLoadRect) ?_
  exact h

theorem putT_bind {rc : Fin 16} {kb : Fin 12} {v : FVec F S32x128 .f32} {k : PUnit → Prog (TpuEff nD τ sig (Elt F) Λ .tc) β}
    (h : TT defs 𝒱 c bd E X (k ⟨⟩) (σ.set (.t par) ((rT rc kb).overlay (σ (.t par)) v)) Ψ) :
    TT defs 𝒱 c bd E X (putT X par rc kb v >>= k) σ Ψ := by
  unfold putT
  rw [bind_assoc]
  refine T.load (M := X.M) (.t par) (r := (rT rc kb).toLoadRect) ?_
  rw [Idealize.ShloMosaic.shapeCast_self]
  exact T.store (M := X.M) (.t par) (r := rT rc kb) h

theorem putMx_bind {rc : Fin 16} {v : FVec F S32x128 .f32} {k : PUnit → Prog (TpuEff nD τ sig (Elt F) Λ .tc) β}
    (h : TT defs 𝒱 c bd E X (k ⟨⟩) (σ.set (.mx par) ((rM rc).overlay (σ (.mx par)) v)) Ψ) :
    TT defs 𝒱 c bd E X (putM (X.mx par) rc v >>= k) σ Ψ := by
  unfold putM
  rw [bind_assoc]
  refine T.load (M := X.M) (.mx par) (r := (rM rc).toLoadRect) ?_
  rw [Idealize.ShloMosaic.shapeCast_self]
  exact T.store (M := X.M) (.mx par) (r := rM rc) h

theorem putRl_bind {rc : Fin 16} {v : FVec F S32x128 .f32} {k : PUnit → Prog (TpuEff nD τ sig (Elt F) Λ .tc) β}
    (h : TT defs 𝒱 c bd E X (k ⟨⟩) (σ.set (.rl par) ((rM rc).overlay (σ (.rl par)) v)) Ψ) :
    TT defs 𝒱 c bd E X (putM (X.rl par) rc v >>= k) σ Ψ := by
  unfold putM
  rw [bind_assoc]
  refine T.load (M := X.M) (.rl par) (r := (rM rc).toLoadRect) ?_
  rw [Idealize.ShloMosaic.shapeCast_self]
  exact T.store (M := X.M) (.rl par) (r := rM rc) h

theorem putP_bind {rc : Fin 16} {kb : Fin 13} {v : FVec F S32x128 .fp8e4m3} {k : PUnit → Prog (TpuEff nD τ sig (Elt F) Λ .tc) β}
    (h : TT defs 𝒱 c bd E X (k ⟨⟩) (σ.set (.p par) ((rP rc kb).overlay (σ (.p par)) v)) Ψ) :
    TT defs 𝒱 c bd E X (putP X par rc kb v >>= k) σ Ψ := by
  unfold putP
  rw [bind_assoc]
  refine T.load (M := X.M) (.p par) (r := (rP rc kb).toLoadRect) ?_
  rw [Idealize.ShloMosaic.shapeCast_self]
  exact T.store (M := X.M) (.p par) (r := rP rc kb) h

theorem getQw_bind {k : Vec F S512x128 .fp8e4m3 → Prog (TpuEff nD τ sig (Elt F) Λ .tc) β}
    (h : TT defs 𝒱 c bd E X (k (σ (.qw par))) σ Ψ) : TT defs 𝒱 c bd E X (getQw X par >>= k) σ Ψ := by
  refine T.load (M := X.M) (.qw par) (r := (Rect.unit (s := S512x128) ![0, 0] S512x128.size inb_S512x128_S512x128_0_0).toLoadRect) ?_
  rwa [show (fun i => σ (.qw par) ((Rect.unit (s := S512x128) ![0, 0] S512x128.size inb_S512x128_S512x128_0_0).toLoadRect.idx i)) = σ (.qw par) from
    funext fun i => congrArg _ (idx_full _ _ i)]

theorem getQa_bind {k : Vec F S8x128 .f32 → Prog (TpuEff nD τ sig (Elt F) Λ .tc) β}
    (h : TT defs 𝒱 c bd E X (k (σ (.qa par))) σ Ψ) : TT defs 𝒱 c bd E X (getQa X par >>= k) σ Ψ := by
  refine T.load (M := X.M) (.qa par) (r := (Rect.unit (s := S8x128) ![0, 0] S8x128.size inb_S8x128_S8x128_0_0).toLoadRect) ?_
  rwa [show (fun i => σ (.qa par) ((Rect.unit (s := S8x128) ![0, 0] S8x128.size inb_S8x128_S8x128_0_0).toLoadRect.idx i)) = σ (.qa par) from
    funext fun i => congrArg _ (idx_full _ _ i)]

theorem getQm_bind {k : Vec F S16x128 .bf16 → Prog (TpuEff nD τ sig (Elt F) Λ .tc) β}
    (h : TT defs 𝒱 c bd E X (k (σ (.qm par))) σ Ψ) : TT defs 𝒱 c bd E X (getQm X par >>= k) σ Ψ := by
  refine T.load (M := X.M) (.qm par) (r := (Rect.unit (s := S16x128) ![0, 0] S16x128.size inb_S16x128_S16x128_0_0).toLoadRect) ?_
  rwa [show (fun i => σ (.qm par) ((Rect.unit (s := S16x128) ![0, 0] S16x128.size inb_S16x128_S16x128_0_0).toLoadRect.idx i)) = σ (.qm par) from
    funext fun i => congrArg _ (idx_full _ _ i)]

theorem putQw_bind {v : FVec F S512x128 .fp8e4m3} {k : PUnit → Prog (TpuEff nD τ sig (Elt F) Λ .tc) β}
    (h : TT defs 𝒱 c bd E X (k ⟨⟩) (σ.set (.qw par) v) Ψ) : TT defs 𝒱 c bd E X (putQw X par v >>= k) σ Ψ := by
  unfold putQw
  rw [bind_assoc]
  refine getQw_bind ?_
  rw [Idealize.ShloMosaic.shapeCast_self]
  refine T.store (M := X.M) (.qw par) (r := Rect.unit (s := S512x128) ![0, 0] S512x128.size inb_S512x128_S512x128_0_0) ?_
  rw [show (Rect.unit (s := S512x128) ![0, 0] S512x128.size inb_S512x128_S512x128_0_0).overlay (σ (.qw par)) v = v from overlay_full _ _ _ _]
  exact h

theorem putQa_bind {v : FVec F S8x128 .f32} {k : PUnit → Prog (TpuEff nD τ sig (Elt F) Λ .tc) β}
    (h : TT defs 𝒱 c bd E X (k ⟨⟩) (σ.set (.qa par) v) Ψ) : TT defs 𝒱 c bd E X (putQa X par v >>= k) σ Ψ := by
  unfold putQa
  rw [bind_assoc]
  refine getQa_bind ?_
  rw [Idealize.ShloMosaic.shapeCast_self]
  refine T.store (M := X.M) (.qa par) (r := Rect.unit (s := S8x128) ![0, 0] S8x128.size inb_S8x128_S8x128_0_0) ?_
  rw [show (Rect.unit (s := S8x128) ![0, 0] S8x128.size inb_S8x128_S8x128_0_0).overlay (σ (.qa par)) v = v from overlay_full _ _ _ _]
  exact h

theorem putQm_bind {v : FVec F S16x128 .bf16} {k : PUnit → Prog (TpuEff nD τ sig (Elt F) Λ .tc) β}
    (h : TT defs 𝒱 c bd E X (k ⟨⟩) (σ.set (.qm par) v) Ψ) : TT defs 𝒱 c bd E X (putQm X par v >>= k) σ Ψ := by
  unfold putQm
  rw [bind_assoc]
  refine getQm_bind ?_
  rw [Idealize.ShloMosaic.shapeCast_self]
  refine T.store (M := X.M) (.qm par) (r := Rect.unit (s := S16x128) ![0, 0] S16x128.size inb_S16x128_S16x128_0_0) ?_
  rw [show (Rect.unit (s := S16x128) ![0, 0] S16x128.size inb_S16x128_S16x128_0_0).overlay (σ (.qm par)) v = v from overlay_full _ _ _ _]
  exact h

/-! ## What a head reads of the staged blocks -/

/-- A head's queries, keys and their scales. -/
structure HIn (F : FTy → Type) where
  mrow : Fin 4 → Vec F S1x1x1x128 .bf16
  srow : Fin 4 → Vec F S1x1x1x1 .f32
  q : Vec F S1x1x512x128 .fp8e4m3
  k4 : Vec F S1x1x128x128 .fp8e4m3
  ks : Fin 13 → Vec F S1x1x1x128 .f32
  k6 : Fin 6 → Vec F S1x1x256x128 .fp8e4m3

/-- A head's values and their scales. -/
structure VIn (F : FTy → Type) where
  v : Vec F S1x1x1664x128 .fp8e4m3
  vs : Vec F S1x1x128 .f32

/-- What the accesses at the offsets read. -/
def hin (O : OfsF) (σ : St F) : HIn F where
  mrow h i := σ .mean ((Rect.unit (s := S1x1x64x128) (O.o1 h) S1x1x1x128.size (O.i1 h)).idx i)
  srow h i := σ .qs ((Rect.unit (s := S1x1x64x1) (O.o2 h) S1x1x1x1.size (O.i2 h)).idx i)
  q i := σ .q ((Rect.unit (s := S1x16x512x128) O.o3 S1x1x512x128.size O.i3).idx i)
  k4 i := σ .kq ((Rect.unit (s := S1x16x4096x128) O.o4 S1x1x128x128.size O.i4).idx i)
  ks r i := σ .ksc ((Rect.unit (s := S1x16x32x128) (O.o5 r) S1x1x1x128.size (O.i5 r)).idx i)
  k6 r i := σ .kq ((Rect.unit (s := S1x16x4096x128) (O.o6 r) S1x1x256x128.size (O.i6 r)).idx i)

/-- What the accesses at the offsets read. -/
def vin (O : OfsV) (σ : St F) : VIn F where
  v i := σ .vq ((Rect.unit (s := S1x16x4096x128) O.o7 S1x1x1664x128.size O.i7).idx i)
  vs i := σ .vsc ((Rect.unit (s := S1x1x2048) O.o8 S1x1x128.size O.i8).idx i)

theorem getMean_bind {O : OfsF} {h : Fin 4} {k : Vec F S1x1x1x128 .bf16 → Prog (TpuEff nD τ sig (Elt F) Λ .tc) β}
    (hk : TT defs 𝒱 c bd E X (k ((hin O σ).mrow h)) σ Ψ) : TT defs 𝒱 c bd E X (getMean X O h >>= k) σ Ψ := by
  refine T.load (M := X.M) .mean (r := (Rect.unit (s := S1x1x64x128) (O.o1 h) S1x1x1x128.size (O.i1 h)).toLoadRect) ?_
  exact hk
theorem getQs_bind {O : OfsF} {h : Fin 4} {k : Vec F S1x1x1x1 .f32 → Prog (TpuEff nD τ sig (Elt F) Λ .tc) β}
    (hk : TT defs 𝒱 c bd E X (k ((hin O σ).srow h)) σ Ψ) : TT defs 𝒱 c bd E X (getQs X O h >>= k) σ Ψ := by
  refine T.load (M := X.M) .qs (r := (Rect.unit (s := S1x1x64x1) (O.o2 h) S1x1x1x1.size (O.i2 h)).toLoadRect) ?_
  exact hk
theorem getKsc_bind {O : OfsF} {r : Fin 13} {k : Vec F S1x1x1x128 .f32 → Prog (TpuEff nD τ sig (Elt F) Λ .tc) β}
    (hk : TT defs 𝒱 c bd E X (k ((hin O σ).ks r)) σ Ψ) : TT defs 𝒱 c bd E X (getKsc X O r >>= k) σ Ψ := by
  refine T.load (M := X.M) .ksc (r := (Rect.unit (s := S1x16x32x128) (O.o5 r) S1x1x1x128.size (O.i5 r)).toLoadRect) ?_
  exact hk
theorem getK4_bind {O : OfsF} {k : Vec F S1x1x128x128 .fp8e4m3 → Prog (TpuEff nD τ sig (Elt F) Λ .tc) β}
    (hk : TT defs 𝒱 c bd E X (k (hin O σ).k4) σ Ψ) : TT defs 𝒱 c bd E X (getK4 X O >>= k) σ Ψ := by
  refine T.load (M := X.M) .kq (r := (Rect.unit (s := S1x16x4096x128) O.o4 S1x1x128x128.size O.i4).toLoadRect) ?_
  exact hk
theorem getK6_bind {O : OfsF} {r : Fin 6} {k : Vec F S1x1x256x128 .fp8e4m3 → Prog (TpuEff nD τ sig (Elt F) Λ .tc) β}
    (hk : TT defs 𝒱 c bd E X (k ((hin O σ).k6 r)) σ Ψ) : TT defs 𝒱 c bd E X (getK6 X O r >>= k) σ Ψ := by
  refine T.load (M := X.M) .kq (r := (Rect.unit (s := S1x16x4096x128) (O.o6 r) S1x1x256x128.size (O.i6 r)).toLoadRect) ?_
  exact hk

end Cert.Proof.Attn

end
-- ==== Proof.Attn.Stages.lean ====
/- What each stage of a grid point leaves in its buffers: the scores of a head, their weights, the value products. -/
module

public import proofs.«01_k».proof.Proof.Attn.Chunks

@[expose] public section

set_option maxHeartbeats 100000

noncomputable section

namespace Cert.Proof.Attn

open Idealize.ShloMosaic Idealize.ShloMosaic.TcCoe Idealize.SL.Sem
open Cert.KernelIdeal

variable {F : FTy → Type} [FloatOps F]

/-! ## The values -/

variable (SC : F .f32) (H : HIn F)

/-- The query codes. -/
def qwV : FVec F S512x128 .fp8e4m3 := shapeCast S512x128 H.q shapeCasts_S1x1x512x128_S512x128
/-- The query scales, times the score scale. -/
def qaV : FVec F S8x128 .f32 := mulf (pick ![qsRow (H.srow 0), qsRow (H.srow 1), qsRow (H.srow 2), qsRow (H.srow 3)]) (broadcast S8x128 SC)
/-- The query means. -/
def qmV : FVec F S16x128 .bf16 := meanRows ![meanRow (H.mrow 0), meanRow (H.mrow 1), meanRow (H.mrow 2), meanRow (H.mrow 3)]

/-- The newest key block's scores, of a row chunk. -/
def lastV (rc : Fin 16) : FVec F S32x128 .f32 :=
  affine (prod128 (qwV H) (shapeCast S128x128 H.k4 shapeCasts_S1x1x128x128_S128x128)) (scaleRows (qaV SC H) (kscRow (H.ks 0)))
    (corrRows SC (corr128 (qmV H) (shapeCast S128x128 H.k4 shapeCasts_S1x1x128x128_S128x128)) (kscRow (H.ks 0))) rc

/-- The scores of block `j` of the pair `r`, at the key scales of place `s`, of a row chunk. -/
def blkV (r : Fin 6) (j : Fin 2) (s : Fin 13) (rc : Fin 16) : FVec F S32x128 .f32 :=
  affine (extractStridedSlice S512x128 ![0, 128 * j.val] (prod256 (qwV H) (shapeCast S256x128 (H.k6 r) shapeCasts_S1x1x256x128_S256x128)) (slcS j))
    (scaleRows (qaV SC H) (kscRow (H.ks s)))
    (corrRows SC (extractStridedSlice S8x128 ![0, 128 * j.val] (corr256 (qmV H) (shapeCast S256x128 (H.k6 r) shapeCasts_S1x1x256x128_S256x128)) (slcC j)) (kscRow (H.ks s))) rc

/-- The scores of a key block, of a row chunk: the oldest block's hidden columns hold the newest block's. -/
def tV (rc : Fin 16) : Fin 12 → FVec F S32x128 .f32
  | 0 => select (visIx rc) (lastV SC H rc) (blkV SC H 0 0 1 rc)
  | 1 => blkV SC H 0 1 2 rc
  | 2 => blkV SC H 1 0 3 rc
  | 3 => blkV SC H 1 1 4 rc
  | 4 => blkV SC H 2 0 5 rc
  | 5 => blkV SC H 2 1 6 rc
  | 6 => blkV SC H 3 0 7 rc
  | 7 => blkV SC H 3 1 8 rc
  | 8 => blkV SC H 4 0 9 rc
  | 9 => blkV SC H 4 1 10 rc
  | 10 => blkV SC H 5 0 11 rc
  | 11 => blkV SC H 5 1 12 rc

/-- The running maxima of a row chunk after the first `n + 1` pairs of blocks. -/
def mxV (rc : Fin 16) : Nat → FVec F S32x128 .f32
  | 0 => maximumf (tV SC H rc 0) (tV SC H rc 1)
  | n + 1 => maximumf (maximumf (tV SC H rc ⟨2 * (n + 1) % 12, Nat.mod_lt _ (by decide)⟩) (tV SC H rc ⟨(2 * (n + 1) + 1) % 12, Nat.mod_lt _ (by decide)⟩)) (mxV rc n)

/-- The weights of a key block, of a row chunk. -/
def eV (rc : Fin 16) (kb : Fin 12) : FVec F S32x128 .f32 := expRow (tV SC H rc kb) (maxRow (mxV SC H rc 5))

/-- The codes of a key block, of a row chunk. -/
def pV (rc : Fin 16) : Fin 13 → FVec F S32x128 .fp8e4m3
  | 0 => select (visIx rc) zeroCode (codeRow (eV SC H rc 0))
  | 12 => select (visIx rc) (codeRow (eV SC H rc 0)) zeroCode
  | k => codeRow (eV SC H rc ⟨k.val % 12, Nat.mod_lt _ (by decide)⟩)

/-- The sums of the weights over the first `n + 1` key blocks. -/
def lV (rc : Fin 16) : Nat → FVec F S32x128 .f32
  | 0 => eV SC H rc 0
  | n + 1 => addf (lV rc n) (eV SC H rc ⟨(n + 1) % 12, Nat.mod_lt _ (by decide)⟩)

/-- A head's codes. -/
def pFull : FVec F S512x1664 .fp8e4m3 := fun i =>
  pV SC H ⟨(i 0).val / 32, by have : (i 0).val < 512 := (i 0).isLt; omega⟩ ⟨(i 1).val / 128, by have : (i 1).val < 1664 := (i 1).isLt; omega⟩
    (Fin.cons (⟨(i 0).val % 32, Nat.mod_lt _ (by decide)⟩ : Fin 32) (Fin.cons (⟨(i 1).val % 128, Nat.mod_lt _ (by decide)⟩ : Fin 128) finZeroElim))

/-- A head's reciprocal sums. -/
def rlFull : FVec F S512x128 .f32 := fun i =>
  recipRow (lV SC H ⟨(i 0).val / 32, by have : (i 0).val < 512 := (i 0).isLt; omega⟩ 11)
    (Fin.cons (⟨(i 0).val % 32, Nat.mod_lt _ (by decide)⟩ : Fin 32) (Fin.cons (i 1) finZeroElim))

/-- A head's rows of the scaled value products. -/
def outV (V : VIn F) : FVec F S512x128 .f32 :=
  outRows (pFull SC H) (shapeCast S1664x128 V.v shapeCasts_S1x1x1664x128_S1664x128) (shapeCast S1x128 V.vs shapeCasts_S1x1x128_S1x128) (rlFull SC H)

/-- The block of the output a query head's rows go to. -/
def emitV (V : VIn F) (h : Fin 4) : FVec F S1x128x128 .bf16 :=
  shapeCast S1x128x128 (truncf .bf16 (fun i => outV SC H V ((⟨![h.val, 0], S128x128.size, ![4, 1], inbO h⟩ : LoadRect S512x128).idx i)) bitsLt_bf16_f32) shapeCasts_S128x128_S1x128x128

/-! ## The stages -/

variable {nD : Nat} {τ : Topo} {sig : RefSig} {Λ : Labels}
variable {defs : Defs nD τ sig (Elt F) Λ} {𝒱 : Variants} {c : Dev nD} {bd : Option 𝒱.V} {E : Set ℕ}
variable {X : Ctx sig F} {par : Fin 2}

/-- The head's queries lie in the buffers of one parity. -/
def HasQ (SC : F .f32) (H : HIn F) (par : Fin 2) (σ : St F) : Prop :=
  σ (.qw par) = qwV H ∧ σ (.qa par) = qaV SC H ∧ σ (.qm par) = qmV H

/-- Contents equal but for some buffers. -/
def SameBut (bs : List Slot) (σ σ' : St F) : Prop := ∀ b, b ∉ bs → σ' b = σ b

theorem SameBut.refl (bs : List Slot) (σ : St F) : SameBut bs σ σ := fun _ _ => rfl
theorem SameBut.trans {bs : List Slot} {σ σ' σ'' : St F} (h : SameBut bs σ σ') (h' : SameBut bs σ' σ'') : SameBut bs σ σ'' :=
  fun b hb => (h' b hb).trans (h b hb)
theorem SameBut.mono {bs bs' : List Slot} {σ σ' : St F} (h : SameBut bs σ σ') (hb : bs ⊆ bs') : SameBut bs' σ σ' :=
  fun b hb' => h b fun e => hb' (hb e)
theorem SameBut.set {bs : List Slot} {σ σ' : St F} (h : SameBut bs σ σ') {b : Slot} (hb : b ∈ bs) (Y : b.shp.Idx → Elt F b.elt) : SameBut bs σ (σ'.set b Y) :=
  fun b' hb' => (Function.update_of_ne (fun e => hb' (by rw [e]; exact hb)) _ _).trans (h b' hb')

theorem takeQ_spec (O : OfsF) (σ : St F) :
    TT defs 𝒱 c bd E X (takeQ X par O) σ fun _ σ' => SameBut [.qw par, .qa par, .qm par] σ σ' ∧ HasQ X.SC (hin O σ) par σ' := by
  unfold takeQ
  refine getMean_bind (getQs_bind (getMean_bind (getQs_bind (getMean_bind (getQs_bind (getMean_bind (getQs_bind ?_)))))))
  refine T.load (M := X.M) .q (r := (Rect.unit (s := S1x16x512x128) O.o3 S1x1x512x128.size O.i3).toLoadRect) ?_
  refine putQw_bind (putQa_bind (last (putQm_bind (T.ret ⟨?_, ?_, ?_, ?_⟩))))
  · exact (((SameBut.refl _ σ).set (by simp) _).set (by simp) _).set (by simp) _
  · simp only [St.set_self, St.set_ne _ (show Slot.qw par ≠ Slot.qa par by simp), St.set_ne _ (show Slot.qw par ≠ Slot.qm par by simp)]
    rfl
  · simp only [St.set_self, St.set_ne _ (show Slot.qa par ≠ Slot.qm par by simp)]
    rfl
  · simp only [St.set_self]
    rfl

/-- A row chunk's scores and maxima are another's contents. -/
def RowEq (par : Fin 2) (rc : Fin 16) (σ σ' : St F) : Prop :=
  (∀ kb, chT rc kb (σ' (.t par)) = chT rc kb (σ (.t par))) ∧ chM rc (σ' (.mx par)) = chM rc (σ (.mx par))

/-- Stores of two chunks of scores and one of maxima: what the row chunks then hold. -/
theorem row_sets (σ : St F) (rc rc' : Fin 16) (k0 k1 : Fin 12) (a b m : FVec F S32x128 .f32) (σ' : St F)
    (hσ : σ' = ((σ.set (.t par) ((rT rc k0).overlay (σ (.t par)) a)).set (.t par) ((rT rc k1).overlay ((rT rc k0).overlay (σ (.t par)) a) b)).set (.mx par) ((rM rc).overlay (σ (.mx par)) m)) :
    (∀ kb, chT rc' kb (σ' (.t par)) = if rc' = rc ∧ kb = k1 then b else if rc' = rc ∧ kb = k0 then a else chT rc' kb (σ (.t par)))
      ∧ chM rc' (σ' (.mx par)) = if rc' = rc then m else chM rc' (σ (.mx par)) := by
  subst hσ
  constructor
  · intro kb
    rw [St.set_ne _ (show Slot.t par ≠ Slot.mx par by simp), St.set_self, chT_overlay, chT_overlay]
  · rw [St.set_self, chM_overlay]

/-- The row chunks of one pair of blocks, from what each chunk's step stores. -/
theorem rows_spec (f : Fin 16 → Prog (TpuEff nD τ sig (Elt F) Λ .tc) PUnit) (k0 k1 : Fin 12) (a b : Fin 16 → FVec F S32x128 .f32)
    (m : Fin 16 → FVec F S32x128 .f32 → FVec F S32x128 .f32)
    (hf : ∀ rc σ, TT defs 𝒱 c bd E X (f rc) σ fun _ σ' =>
      σ' = ((σ.set (.t par) ((rT rc k0).overlay (σ (.t par)) (a rc))).set (.t par) ((rT rc k1).overlay ((rT rc k0).overlay (σ (.t par)) (a rc)) (b rc))).set (.mx par) ((rM rc).overlay (σ (.mx par)) (m rc (chM rc (σ (.mx par))))))
    (σ : St F) :
    TT defs 𝒱 c bd E X (Attn.each rcs f) σ fun _ σ' => SameBut [.t par, .mx par] σ σ' ∧ ∀ rc,
      (∀ kb, chT rc kb (σ' (.t par)) = if kb = k1 then b rc else if kb = k0 then a rc else chT rc kb (σ (.t par)))
        ∧ chM rc (σ' (.mx par)) = m rc (chM rc (σ (.mx par))) := by
  refine T.mono (T.each f (fun rc σ' => SameBut [.t par, .mx par] σ σ' ∧ RowEq par rc σ σ')
    (fun rc σ' => SameBut [.t par, .mx par] σ σ' ∧ (∀ kb, chT rc kb (σ' (.t par)) = if kb = k1 then b rc else if kb = k0 then a rc else chT rc kb (σ (.t par)))
        ∧ chM rc (σ' (.mx par)) = m rc (chM rc (σ (.mx par))))
    (fun rc σ₁ σ₂ => SameBut [.t par, .mx par] σ₁ σ₂ ∧ ∀ rc', rc' ≠ rc → RowEq par rc' σ₁ σ₂) ?_ ?_ ?_ rcs (by decide) σ ?_ ?_) ?_
  · intro i j σ₁ σ₂ hj hR hG
    exact ⟨hG.1.trans hR.1, fun kb => ((hR.2 j hj).1 kb).trans (hG.2.1 kb), (hR.2 j hj).2.trans hG.2.2⟩
  · intro i j σ₁ σ₂ hj hR hG
    exact ⟨hG.1.trans hR.1, fun kb => ((hR.2 j hj).1 kb).trans (hG.2.1 kb), (hR.2 j hj).2.trans hG.2.2⟩
  · intro rc σ₁ hG
    refine T.mono (hf rc σ₁) fun _ σ₂ h => ?_
    have hr := fun rc' => row_sets (par := par) σ₁ rc rc' k0 k1 (a rc) (b rc) (m rc (chM rc (σ₁ (.mx par)))) σ₂ h
    have hs : SameBut [.t par, .mx par] σ₁ σ₂ := by
      rw [h]; exact ((((SameBut.refl _ σ₁).set (by simp) _).set (by simp) _).set (by simp) _)
    refine ⟨⟨hG.1.trans hs, ?_, ?_⟩, hs, fun rc' hrc => ⟨fun kb => ?_, ?_⟩⟩
    · intro kb
      rw [(hr rc).1 kb]
      simp only [true_and, hG.2.1 kb]
    · rw [(hr rc).2, if_pos rfl, hG.2.2]
    · rw [(hr rc').1 kb]
      simp only [hrc, false_and, if_false]
    · rw [(hr rc').2, if_neg hrc]
  · intro i _
    exact ⟨SameBut.refl _ _, fun _ => rfl, rfl⟩
  · intro i hi
    exact absurd (by revert i; decide) hi
  · intro _ σ' h
    exact ⟨(h 0).1, fun rc => (h rc).2⟩

/-- The scores of the first `n + 1` pairs of blocks lie in the buffers. -/
def HasS (SC : F .f32) (H : HIn F) (par : Fin 2) (n : Nat) (σ : St F) : Prop :=
  ∀ rc, (∀ kb : Fin 12, kb.val < 2 * (n + 1) → chT rc kb (σ (.t par)) = tV SC H rc kb) ∧ chM rc (σ (.mx par)) = mxV SC H rc n

theorem scores_step (O : OfsF) (σ σ₀ : St F) (hO : hin O σ₀ = H) (hQ : HasQ X.SC H par σ₀) (r : Fin 6) (k0 k1 : Fin 12) (s0 s1 : Fin 13) (n : Nat)
    (h0 : k0.val = 2 * (n + 1)) (h1 : k1.val = 2 * (n + 1) + 1)
    (e0 : ∀ rc, tV X.SC H rc k0 = blkV X.SC H r 0 s0 rc) (e1 : ∀ rc, tV X.SC H rc k1 = blkV X.SC H r 1 s1 rc)
    (em : ∀ rc, mxV X.SC H rc (n + 1) = maximumf (maximumf (tV X.SC H rc k0) (tV X.SC H rc k1)) (mxV X.SC H rc n))
    (hσ : SameBut [.t par, .mx par] σ₀ σ ∧ HasS X.SC H par n σ) :
    TT defs 𝒱 c bd E X (pair X par O (qwV H) r s0 s1 (scores1 X par k0 k1)) σ fun _ σ' => SameBut [.t par, .mx par] σ₀ σ' ∧ HasS X.SC H par (n + 1) σ' := by
  have hO' : hin O σ = H := by
    rw [← hO]; unfold hin
    rw [hσ.1 .mean (by simp), hσ.1 .qs (by simp), hσ.1 .q (by simp), hσ.1 .kq (by simp), hσ.1 .ksc (by simp)]
  have qa : σ (.qa par) = qaV X.SC H := (hσ.1 _ (by simp)).trans hQ.2.1
  have qm : σ (.qm par) = qmV H := (hσ.1 _ (by simp)).trans hQ.2.2
  unfold pair
  refine getK6_bind (getQm_bind (getKsc_bind (getQa_bind (getKsc_bind (getQa_bind ?_)))))
  rw [hO', qa, qm]
  refine T.mono (rows_spec (par := par) _ k0 k1 (fun rc => blkV X.SC H r 0 s0 rc) (fun rc => blkV X.SC H r 1 s1 rc)
    (fun rc M => maximumf (maximumf (blkV X.SC H r 0 s0 rc) (blkV X.SC H r 1 s1 rc)) M) ?_ σ) ?_
  · intro rc σ₁
    unfold scores1
    refine putT_bind (putT_bind (getM_bind (last (putMx_bind (T.ret ?_)))))
    simp only [St.set_self, St.set_ne _ (show Slot.mx par ≠ Slot.t par by simp)]
    rfl
  · intro _ σ' h
    refine ⟨hσ.1.trans h.1, fun rc => ⟨fun kb hkb => ?_, ?_⟩⟩
    · rw [(h.2 rc).1 kb]
      split
      · next e => rw [e, e1]
      · next n1 =>
        split
        · next e => rw [e, e0]
        · next n0 =>
          refine (hσ.2 rc).1 kb ?_
          have : kb.val ≠ k0.val := fun e => n0 (Fin.ext e)
          have : kb.val ≠ k1.val := fun e => n1 (Fin.ext e)
          omega
    · rw [(h.2 rc).2, em, e0, e1, (hσ.2 rc).2]

theorem scores_spec (O : OfsF) (σ : St F) (hO : hin O σ = H) (hQ : HasQ X.SC H par σ) :
    TT defs 𝒱 c bd E X (scores X par O) σ fun _ σ' => SameBut [.t par, .mx par] σ σ' ∧ HasS X.SC H par 5 σ' := by
  unfold scores
  refine getQw_bind (getK4_bind (getQm_bind (getKsc_bind (getQa_bind ?_))))
  rw [hO, hQ.1, hQ.2.1, hQ.2.2]
  refine T.bind (Φ := fun _ σ' => SameBut [.t par, .mx par] σ σ' ∧ HasS X.SC H par 0 σ') ?_ ?_
  · unfold pair
    refine getK6_bind (getQm_bind (getKsc_bind (getQa_bind (getKsc_bind (getQa_bind ?_)))))
    rw [hO, hQ.2.1, hQ.2.2]
    refine T.mono (rows_spec (par := par) _ 0 1 (fun rc => tV X.SC H rc 0) (fun rc => tV X.SC H rc 1)
      (fun rc M => maximumf (tV X.SC H rc 0) (tV X.SC H rc 1)) ?_ σ) ?_
    · intro rc σ₁
      unfold scores0
      refine putT_bind (putT_bind (last (putMx_bind (T.ret ?_))))
      simp only [St.set_self, St.set_ne _ (show Slot.mx par ≠ Slot.t par by simp)]
      have e0 : tV X.SC H rc 0 = select (visIx rc) (lastV X.SC H rc) (blkV X.SC H 0 0 1 rc) := rfl
      have e1 : tV X.SC H rc 1 = blkV X.SC H 0 1 2 rc := rfl
      rw [e0, e1]
      unfold lastV blkV
      rfl
    · intro _ σ' h
      refine ⟨h.1, fun rc => ⟨fun kb hkb => ?_, (h.2 rc).2⟩⟩
      rw [(h.2 rc).1 kb]
      have hk : kb = 0 ∨ kb = 1 := by
        rcases kb with ⟨v, hv⟩
        have : v < 2 := hkb
        rcases (by omega : v = 0 ∨ v = 1) with rfl | rfl
        · exact .inl rfl
        · exact .inr rfl
      rcases hk with rfl | rfl
      · rw [if_neg (by decide), if_pos rfl]
      · rw [if_pos rfl]
  · intro _ σ₁ h
    simp only [Attn.each]
    refine T.bind (scores_step H O σ₁ σ hO hQ 1 2 3 3 4 0 rfl rfl (fun _ => rfl) (fun _ => rfl) (fun _ => rfl) h) fun _ σ₂ h => ?_
    refine T.bind (scores_step H O σ₂ σ hO hQ 2 4 5 5 6 1 rfl rfl (fun _ => rfl) (fun _ => rfl) (fun _ => rfl) h) fun _ σ₃ h => ?_
    refine T.bind (scores_step H O σ₃ σ hO hQ 3 6 7 7 8 2 rfl rfl (fun _ => rfl) (fun _ => rfl) (fun _ => rfl) h) fun _ σ₄ h => ?_
    refine T.bind (scores_step H O σ₄ σ hO hQ 4 8 9 9 10 3 rfl rfl (fun _ => rfl) (fun _ => rfl) (fun _ => rfl) h) fun _ σ₅ h => ?_
    refine T.bind (scores_step H O σ₅ σ hO hQ 5 10 11 11 12 4 rfl rfl (fun _ => rfl) (fun _ => rfl) (fun _ => rfl) h) fun _ σ₆ h => ?_
    exact T.ret h

theorem first_spec (O : OfsF) (σ : St F) :
    TT defs 𝒱 c bd E X (first X par O) σ fun _ σ' =>
      SameBut [.qw par, .qa par, .qm par, .t par, .mx par] σ σ' ∧ HasS X.SC (hin O σ) par 5 σ' := by
  unfold first
  refine T.bind (takeQ_spec O σ) fun _ σ₁ h => ?_
  have hO' : hin O σ₁ = hin O σ := by
    unfold hin
    rw [h.1 .mean (by simp), h.1 .qs (by simp), h.1 .q (by simp), h.1 .kq (by simp), h.1 .ksc (by simp)]
  refine T.mono (scores_spec (hin O σ) O σ₁ hO' h.2) fun _ σ₂ h' => ?_
  exact ⟨(h.1.mono (by simp)).trans (h'.1.mono (by simp)), h'.2⟩

/-! ### The weights -/

/-- A row chunk's codes and reciprocal sums are another's contents. -/
def RowEqP (par : Fin 2) (rc : Fin 16) (σ σ' : St F) : Prop :=
  (∀ kb, chP rc kb (σ' (.p par)) = chP rc kb (σ (.p par))) ∧ chM rc (σ' (.rl par)) = chM rc (σ (.rl par))

/-- The weights' codes and reciprocal sums lie in the buffers. -/
def HasP (SC : F .f32) (H : HIn F) (par : Fin 2) (rc : Fin 16) (σ : St F) : Prop :=
  (∀ kb, chP rc kb (σ (.p par)) = pV SC H rc kb) ∧ chM rc (σ (.rl par)) = recipRow (lV SC H rc 11)

/-- Codes of the first `n + 1` blocks and of the last lie in the buffer, all other rows as before. -/
def MidP (SC : F .f32) (H : HIn F) (par : Fin 2) (rc : Fin 16) (n : Nat) (σ σ' : St F) : Prop :=
  SameBut [.p par] σ σ' ∧ (∀ kb : Fin 13, kb.val ≤ n ∨ kb = 12 → chP rc kb (σ' (.p par)) = pV SC H rc kb)
    ∧ ∀ rc', rc' ≠ rc → ∀ kb, chP rc' kb (σ' (.p par)) = chP rc' kb (σ (.p par))

theorem pV_mid (SC : F .f32) (H : HIn F) (rc : Fin 16) : ∀ k : Fin 12, k ≠ 0 → pV SC H rc ⟨k.val, by omega⟩ = codeRow (eV SC H rc k) := by
  intro k
  fin_cases k
  · intro h; exact absurd rfl h
  all_goals exact fun _ => rfl

theorem softmax_step (rc : Fin 16) (σ σ' : St F) (hS : HasS X.SC H par 5 σ) (n : Nat) (k : Fin 12) (k' : Fin 13) (hk : k.val = n + 1) (hk' : k'.val = n + 1)
    (hn : n + 1 < 12) (h : MidP X.SC H par rc n σ σ') :
    TT defs 𝒱 c bd E X (do
      let t ← getT X par rc k
      putP X par rc k' (codeRow (expRow t (maxRow (mxV X.SC H rc 5))))
      pure (addf (lV X.SC H rc n) (expRow t (maxRow (mxV X.SC H rc 5))))) σ'
      fun l σ'' => l = lV X.SC H rc (n + 1) ∧ MidP X.SC H par rc (n + 1) σ σ'' := by
  have ht : chT rc k (σ' (.t par)) = tV X.SC H rc k := by
    rw [h.1 _ (by simp)]; exact (hS rc).1 k (by have := k.isLt; omega)
  refine getT_bind (putP_bind (T.ret ?_))
  rw [ht]
  have e : (⟨(n + 1) % 12, Nat.mod_lt _ (by decide)⟩ : Fin 12) = k := Fin.ext (by rw [hk]; exact Nat.mod_eq_of_lt hn)
  have ep : pV X.SC H rc k' = codeRow (eV X.SC H rc k) := by
    have e' : k' = (⟨k.val, by omega⟩ : Fin 13) := Fin.ext (by rw [hk', hk])
    rw [e']
    exact pV_mid X.SC H rc k fun e => by rw [e] at hk; simp at hk
  refine ⟨?_, ?_, ?_, ?_⟩
  · show _ = addf (lV X.SC H rc n) (eV X.SC H rc _)
    rw [e]; rfl
  · exact h.1.set (by simp) _
  · intro kb hkb
    rw [St.set_self, chP_overlay]
    split
    · next e => rw [e.2, ep]; rfl
    · next e' =>
      refine h.2.1 kb ?_
      rcases hkb with hkb | hkb
      · have : kb.val ≠ k'.val := fun e => e' ⟨rfl, Fin.ext e⟩
        left; omega
      · exact .inr hkb
  · intro rc' hrc kb
    rw [St.set_self, chP_overlay, if_neg (fun e => hrc e.1)]
    exact h.2.2 rc' hrc kb

theorem softmaxRow_spec (rc : Fin 16) (σ : St F) (hS : HasS X.SC H par 5 σ) :
    TT defs 𝒱 c bd E X (softmaxRow X par rc) σ fun _ σ' =>
      SameBut [.p par, .rl par] σ σ' ∧ HasP X.SC H par rc σ' ∧ ∀ rc', rc' ≠ rc → RowEqP par rc' σ σ' := by
  unfold softmaxRow
  refine getM_bind (getT_bind (putP_bind (putP_bind ?_)))
  rw [(hS rc).2, (hS rc).1 0 (by decide)]
  have h0 : MidP X.SC H par rc 0 σ ((σ.set (.p par) ((rP rc 12).overlay (σ (.p par)) (select (visIx rc) (codeRow (expRow (tV X.SC H rc 0) (maxRow (mxV X.SC H rc 5)))) zeroCode))).set (.p par)
      ((rP rc 0).overlay ((σ.set (.p par) ((rP rc 12).overlay (σ (.p par)) (select (visIx rc) (codeRow (expRow (tV X.SC H rc 0) (maxRow (mxV X.SC H rc 5)))) zeroCode))) (.p par)) (select (visIx rc) zeroCode (codeRow (expRow (tV X.SC H rc 0) (maxRow (mxV X.SC H rc 5))))))) := by
    refine ⟨((SameBut.refl _ σ).set (by simp) _).set (by simp) _, ?_, ?_⟩
    · intro kb hkb
      rw [St.set_self, St.set_self, chP_overlay, chP_overlay]
      rcases hkb with hkb | rfl
      · obtain rfl : kb = 0 := Fin.ext (by simpa using hkb)
        rw [if_pos ⟨rfl, rfl⟩]; rfl
      · rw [if_neg (by simp), if_pos ⟨rfl, rfl⟩]; rfl
    · intro rc' hrc kb
      rw [St.set_self, St.set_self, chP_overlay, chP_overlay, if_neg (fun e => hrc e.1), if_neg (fun e => hrc e.1)]
  refine T.bind (Φ := fun l σ' => l = lV X.SC H rc 11 ∧ MidP X.SC H par rc 11 σ σ') ?_ ?_
  · simp only [Attn.thread]
    refine T.bind (softmax_step H rc σ _ hS 0 1 1 rfl rfl (by decide) h0) ?_
    rintro _ σ₁ ⟨rfl, h⟩
    refine T.bind (softmax_step H rc σ _ hS 1 2 2 rfl rfl (by decide) h) ?_
    rintro _ σ₂ ⟨rfl, h⟩
    refine T.bind (softmax_step H rc σ _ hS 2 3 3 rfl rfl (by decide) h) ?_
    rintro _ σ₃ ⟨rfl, h⟩
    refine T.bind (softmax_step H rc σ _ hS 3 4 4 rfl rfl (by decide) h) ?_
    rintro _ σ₄ ⟨rfl, h⟩
    refine T.bind (softmax_step H rc σ _ hS 4 5 5 rfl rfl (by decide) h) ?_
    rintro _ σ₅ ⟨rfl, h⟩
    refine T.bind (softmax_step H rc σ _ hS 5 6 6 rfl rfl (by decide) h) ?_
    rintro _ σ₆ ⟨rfl, h⟩
    refine T.bind (softmax_step H rc σ _ hS 6 7 7 rfl rfl (by decide) h) ?_
    rintro _ σ₇ ⟨rfl, h⟩
    refine T.bind (softmax_step H rc σ _ hS 7 8 8 rfl rfl (by decide) h) ?_
    rintro _ σ₈ ⟨rfl, h⟩
    refine T.bind (softmax_step H rc σ _ hS 8 9 9 rfl rfl (by decide) h) ?_
    rintro _ σ₉ ⟨rfl, h⟩
    refine T.bind (softmax_step H rc σ _ hS 9 10 10 rfl rfl (by decide) h) ?_
    rintro _ σ₁₀ ⟨rfl, h⟩
    refine T.bind (softmax_step H rc σ _ hS 10 11 11 rfl rfl (by decide) h) ?_
    rintro _ σ₁₁ ⟨rfl, h⟩
    exact T.ret ⟨rfl, h⟩
  · rintro _ σ' ⟨rfl, h⟩
    refine last (putRl_bind (T.ret ⟨?_, ⟨?_, ?_⟩, ?_⟩))
    · exact (h.1.mono (by simp)).set (by simp) _
    · intro kb
      rw [St.set_ne _ (by simp)]
      exact h.2.1 kb ((by decide : ∀ kb : Fin 13, kb.val ≤ 11 ∨ kb = 12) kb)
    · rw [St.set_self, chM_overlay, if_pos rfl]
    · intro rc' hrc
      refine ⟨fun kb => ?_, ?_⟩
      · rw [St.set_ne _ (by simp)]; exact h.2.2 rc' hrc kb
      · rw [St.set_self, chM_overlay, if_neg hrc, h.1 _ (by simp)]

theorem second_spec (σ : St F) (hS : HasS X.SC H par 5 σ) :
    TT defs 𝒱 c bd E X (second X par) σ fun _ σ' => SameBut [.p par, .rl par] σ σ' ∧ ∀ rc, HasP X.SC H par rc σ' := by
  unfold second
  refine T.mono (T.each (softmaxRow X par) (fun _ σ' => SameBut [.p par, .rl par] σ σ')
    (fun rc σ' => SameBut [.p par, .rl par] σ σ' ∧ HasP X.SC H par rc σ')
    (fun rc σ₁ σ₂ => SameBut [.p par, .rl par] σ₁ σ₂ ∧ ∀ rc', rc' ≠ rc → RowEqP par rc' σ₁ σ₂) ?_ ?_ ?_ rcs (by decide) σ ?_ ?_) ?_
  · intro i j σ₁ σ₂ hj hR hG
    exact hG.trans hR.1
  · intro i j σ₁ σ₂ hj hR hG
    exact ⟨hG.1.trans hR.1, fun kb => ((hR.2 j hj).1 kb).trans (hG.2.1 kb), (hR.2 j hj).2.trans hG.2.2⟩
  · intro rc σ₁ hG
    have hS' : HasS X.SC H par 5 σ₁ := fun rc => by
      rw [hG (.t par) (by simp), hG (.mx par) (by simp)]; exact hS rc
    exact T.mono (softmaxRow_spec H rc σ₁ hS') fun _ σ₂ h => ⟨⟨hG.trans h.1, h.2.1⟩, h.1, h.2.2⟩
  · intro i _
    exact SameBut.refl _ _
  · intro i hi
    exact absurd (by revert i; decide) hi
  · intro _ σ' h
    exact ⟨(h 0).1, fun rc => (h rc).2⟩

end Cert.Proof.Attn

end
-- ==== Proof.Attn.Tile.lean ====
/- What one grid point leaves in its output block: for each head, its rows of the scaled value products. -/
module

public import proofs.«01_k».proof.Proof.Attn.Stages

@[expose] public section

set_option maxHeartbeats 100000

noncomputable section

namespace Cert.Proof.Attn

open Idealize.ShloMosaic Idealize.ShloMosaic.TcCoe Idealize.SL.Sem
open Cert.KernelIdeal

variable {F : FTy → Type} [FloatOps F]

variable (SC : F .f32) (H : HIn F)

variable {nD : Nat} {τ : Topo} {sig : RefSig} {Λ : Labels}
variable {defs : Defs nD τ sig (Elt F) Λ} {𝒱 : Variants} {c : Dev nD} {bd : Option 𝒱.V} {E : Set ℕ}
variable {X : Ctx sig F} {par : Fin 2}

/-- The codes' buffer as a whole, from its chunks. -/
theorem pFull_of {σ : St F} (h : ∀ rc, HasP SC H par rc σ) : σ (.p par) = pFull SC H := by
  funext i
  have h0 : (i 0).val < 512 := (i 0).isLt
  have h1 : (i 1).val < 1664 := (i 1).isLt
  have e := congrFun ((h ⟨(i 0).val / 32, by omega⟩).1 ⟨(i 1).val / 128, by omega⟩)
    (Fin.cons (⟨(i 0).val % 32, Nat.mod_lt _ (by decide)⟩ : Fin 32) (Fin.cons (⟨(i 1).val % 128, Nat.mod_lt _ (by decide)⟩ : Fin 128) finZeroElim))
  refine Eq.trans (congrArg _ ?_) e
  funext a
  refine Fin.ext ?_
  revert a
  rw [Fin.forall_fin_two]
  constructor
  · show (i 0).val = 32 * ((i 0).val / 32) + 1 * ((i 0).val % 32); omega
  · show (i 1).val = 128 * ((i 1).val / 128) + 1 * ((i 1).val % 128); omega

/-- The reciprocal sums' buffer as a whole, from its chunks. -/
theorem rlFull_of {σ : St F} (h : ∀ rc, HasP SC H par rc σ) : σ (.rl par) = rlFull SC H := by
  funext i
  have h0 : (i 0).val < 512 := (i 0).isLt
  have e := congrFun ((h ⟨(i 0).val / 32, by omega⟩).2)
    (Fin.cons (⟨(i 0).val % 32, Nat.mod_lt _ (by decide)⟩ : Fin 32) (Fin.cons (i 1) finZeroElim))
  refine Eq.trans (congrArg _ ?_) e
  funext a
  refine Fin.ext ?_
  revert a
  rw [Fin.forall_fin_two]
  constructor
  · show (i 0).val = 32 * ((i 0).val / 32) + 1 * ((i 0).val % 32); omega
  · show (i 1).val = 0 + 1 * (i 1).val; omega

/-- The columns of the output block that hold a key head's four query heads. -/
def headCols (V : VIn F) : FVec F S1x128x8192 .bf16 := fun i =>
  emitV SC H V ⟨(i 2).val / 128 % 4, Nat.mod_lt _ (by decide)⟩
    (Fin.cons (i 0) (Fin.cons (i 1) (Fin.cons (⟨(i 2).val % 128, Nat.mod_lt _ (by decide)⟩ : Fin 128) finZeroElim)))

/-- The buffers the stages write. -/
abbrev work : List Slot := [.out, .o, .qw 0, .qw 1, .qa 0, .qa 1, .qm 0, .qm 1, .t 0, .t 1, .mx 0, .mx 1, .p 0, .p 1, .rl 0, .rl 1]

theorem hin_same (O : OfsF) {σ σ' : St F} (h : SameBut work σ σ') : hin O σ' = hin O σ := by
  unfold hin
  rw [h .mean (by simp), h .qs (by simp), h .q (by simp), h .kq (by simp), h .ksc (by simp)]

theorem vin_same (O : OfsV) {σ σ' : St F} (h : SameBut work σ σ') : vin O σ' = vin O σ := by
  unfold vin
  rw [h .vq (by simp), h .vsc (by simp)]

/-- The output block after the heads' stores: the columns of head `h` and block `kv` new, the others as they were. -/
theorem emit_overlay (O : OfsV) (h : Fin 4) (kv : Nat) (hO : O.o9 h = ![0, 0, 512 * kv + 128 * h.val]) (Y : FVec F S1x128x8192 .bf16) (w : FVec F S1x128x128 .bf16) (i : S1x128x8192.Idx) :
    (Rect.unit (s := S1x128x8192) (O.o9 h) S1x128x128.size (O.i9 h)).overlay Y w i
      = if (i 2).val / 128 = 4 * kv + h.val then w (Fin.cons (i 0) (Fin.cons (i 1) (Fin.cons (⟨(i 2).val % 128, Nat.mod_lt _ (by decide)⟩ : Fin 128) finZeroElim))) else Y i := by
  split
  · next e =>
    have e' : i = (Rect.unit (s := S1x128x8192) (O.o9 h) S1x128x128.size (O.i9 h)).emb
        (Fin.cons (i 0) (Fin.cons (i 1) (Fin.cons (⟨(i 2).val % 128, Nat.mod_lt _ (by decide)⟩ : Fin 128) finZeroElim))) := by
      funext a
      refine Fin.ext ?_
      revert a
      rw [Fin.forall_fin_succ, Fin.forall_fin_two]
      refine ⟨?_, ?_, ?_⟩
      · show (i 0).val = O.o9 h 0 + 1 * (i 0).val
        rw [show O.o9 h 0 = 0 from congrFun hO 0]; omega
      · show (i 1).val = O.o9 h 1 + 1 * (i 1).val
        rw [show O.o9 h 1 = 0 from congrFun hO 1]; omega
      · show (i 2).val = O.o9 h 2 + 1 * ((i 2).val % 128)
        rw [show O.o9 h 2 = 512 * kv + 128 * h.val from congrFun hO 2]; omega
    conv_lhs => rw [e']
    exact Rect.overlay_emb _ _ _ _
  · next e =>
    refine Rect.overlay_of_not_mem _ _ _ fun hm => e ?_
    obtain ⟨j, rfl⟩ := LoadRect.exists_idx_of_mem _ hm
    show (O.o9 h 2 + 1 * (j 2).val) / 128 = _
    rw [show O.o9 h 2 = 512 * kv + 128 * h.val from congrFun hO 2]
    have : (j 2).val < 128 := (j 2).isLt
    omega

theorem emit_bind {β : Type} {σ : St F} {Ψ : β → St F → Prop} (O : OfsV) (h : Fin 4) {k : PUnit → Prog (TpuEff nD τ sig (Elt F) Λ .tc) β}
    (hk : TT defs 𝒱 c bd E X (k ⟨⟩) (σ.set .out ((Rect.unit (s := S1x128x8192) (O.o9 h) S1x128x128.size (O.i9 h)).overlay (σ .out)
      (shapeCast S1x128x128 (truncf .bf16 (fun i => σ .o ((⟨![h.val, 0], S128x128.size, ![4, 1], inbO h⟩ : LoadRect S512x128).idx i)) bitsLt_bf16_f32) shapeCasts_S128x128_S1x128x128))) Ψ) :
    TT defs 𝒱 c bd E X (emit X O h >>= k) σ Ψ := by
  unfold emit
  rw [bind_assoc]
  refine T.load (M := X.M) .o (r := (⟨![h.val, 0], S128x128.size, ![4, 1], inbO h⟩ : LoadRect S512x128)) ?_
  rw [bind_assoc]
  refine T.load (M := X.M) .out (r := (Rect.unit (s := S1x128x8192) (O.o9 h) S1x128x128.size (O.i9 h)).toLoadRect) ?_
  refine T.store (M := X.M) .out (r := Rect.unit (s := S1x128x8192) (O.o9 h) S1x128x128.size (O.i9 h)) ?_
  exact hk

theorem values_spec (O : OfsV) (kv : Nat) (hO : ∀ h, O.o9 h = ![0, 0, 512 * kv + 128 * h.val]) (σ : St F) (hP : ∀ rc, HasP X.SC H par rc σ) :
    TT defs 𝒱 c bd E X (values X par O) σ fun _ σ' => SameBut [.o, .out] σ σ' ∧
      ∀ i : S1x128x8192.Idx, (σ' .out : FVec F S1x128x8192 .bf16) i = if (i 2).val / 512 = kv then headCols X.SC H (vin O σ) i else (σ .out : FVec F S1x128x8192 .bf16) i := by
  unfold values
  refine T.load (M := X.M) .vq (r := (Rect.unit (s := S1x16x4096x128) O.o7 S1x1x1664x128.size O.i7).toLoadRect) ?_
  refine T.load (M := X.M) (.p par) (r := (Rect.unit (s := S512x1664) ![0, 0] S512x1664.size inb_S512x1664_S512x1664_0_0).toLoadRect) ?_
  refine T.load (M := X.M) .vsc (r := (Rect.unit (s := S1x1x2048) O.o8 S1x1x128.size O.i8).toLoadRect) ?_
  refine T.load (M := X.M) (.rl par) (r := (Rect.unit (s := S512x128) ![0, 0] S512x128.size inb_S512x128_S512x128_0_0).toLoadRect) ?_
  refine T.load (M := X.M) .o (r := (Rect.unit (s := S512x128) ![0, 0] S512x128.size inb_S512x128_S512x128_0_0).toLoadRect) ?_
  refine T.store (M := X.M) .o (r := Rect.unit (s := S512x128) ![0, 0] S512x128.size inb_S512x128_S512x128_0_0) ?_
  rw [show (fun i => σ (.p par) ((Rect.unit (s := S512x1664) ![0, 0] S512x1664.size inb_S512x1664_S512x1664_0_0).toLoadRect.idx i)) = pFull X.SC H from
    (funext fun i => congrArg _ (idx_full _ _ i)).trans (pFull_of _ _ hP)]
  rw [show (fun i => σ (.rl par) ((Rect.unit (s := S512x128) ![0, 0] S512x128.size inb_S512x128_S512x128_0_0).toLoadRect.idx i)) = rlFull X.SC H from
    (funext fun i => congrArg _ (idx_full _ _ i)).trans (rlFull_of _ _ hP)]
  rw [Idealize.ShloMosaic.shapeCast_self]
  generalize hσ₁ : Function.update σ Slot.o _ = σ₁
  have ho : σ₁ .o = outV X.SC H (vin O σ) := by
    rw [← hσ₁, Function.update_self]; exact overlay_full _ _ _ _
  have hs : SameBut [.o, .out] σ σ₁ := by
    rw [← hσ₁]; exact (SameBut.refl _ σ).set (by simp) _
  have hout : σ₁ .out = σ .out := by
    rw [← hσ₁, Function.update_of_ne (by simp)]
  refine emit_bind O 0 (emit_bind O 1 (emit_bind O 2 (last (emit_bind O 3 (T.ret ⟨?_, ?_⟩)))))
  · exact (((hs.set (by simp) _).set (by simp) _).set (by simp) _).set (by simp) _
  · intro i
    simp only [St.set_self, St.set_ne _ (show Slot.o ≠ Slot.out by simp), ho, hout]
    rw [emit_overlay O 3 kv (hO 3), emit_overlay O 2 kv (hO 2), emit_overlay O 1 kv (hO 1), emit_overlay O 0 kv (hO 0)]
    have key : ∀ h : Fin 4, (i 2).val / 128 = 4 * kv + h.val →
        shapeCast S1x128x128 (truncf .bf16 (fun i => outV X.SC H (vin O σ) ((⟨![h.val, 0], S128x128.size, ![4, 1], inbO h⟩ : LoadRect S512x128).idx i)) bitsLt_bf16_f32) shapeCasts_S128x128_S1x128x128
          (Fin.cons (i 0) (Fin.cons (i 1) (Fin.cons (⟨(i 2).val % 128, Nat.mod_lt _ (by decide)⟩ : Fin 128) finZeroElim)))
        = headCols X.SC H (vin O σ) i := by
      intro h e
      have : (⟨(i 2).val / 128 % 4, Nat.mod_lt _ (by decide)⟩ : Fin 4) = h := Fin.ext (by show (i 2).val / 128 % 4 = h.val; omega)
      unfold headCols
      rw [this]; rfl
    split
    · next e => rw [if_pos (by have : ((3 : Fin 4)).val = 3 := rfl; omega)]; exact key 3 e
    · next e3 =>
      split
      · next e => rw [if_pos (by have : ((2 : Fin 4)).val = 2 := rfl; omega)]; exact key 2 e
      · next e2 =>
        split
        · next e => rw [if_pos (by have : ((1 : Fin 4)).val = 1 := rfl; omega)]; exact key 1 e
        · next e1 =>
          split
          · next e => rw [if_pos (by have : ((0 : Fin 4)).val = 0 := rfl; omega)]; exact key 0 e
          · next e0 =>
            rw [if_neg]
            have a3 : ((3 : Fin 4)).val = 3 := rfl
            have a2 : ((2 : Fin 4)).val = 2 := rfl
            have a1 : ((1 : Fin 4)).val = 1 := rfl
            have a0 : ((0 : Fin 4)).val = 0 := rfl
            omega

theorem HasS.frame {SC : F .f32} {H : HIn F} {n : Nat} {σ σ' : St F} (h : HasS SC H par n σ) {bs : List Slot} (hs : SameBut bs σ σ')
    (ht : Slot.t par ∉ bs) (hm : Slot.mx par ∉ bs) : HasS SC H par n σ' := fun rc => by
  rw [hs _ ht, hs _ hm]; exact h rc

theorem HasP.frame {SC : F .f32} {H : HIn F} {σ σ' : St F} (h : ∀ rc, HasP SC H par rc σ) {bs : List Slot} (hs : SameBut bs σ σ')
    (ht : Slot.p par ∉ bs) (hm : Slot.rl par ∉ bs) : ∀ rc, HasP SC H par rc σ' := fun rc => by
  unfold HasP
  rw [hs _ ht, hs _ hm]; exact h rc

/-- The whole output block, from each head's inputs. -/
def blockOut (K : Nat → HIn F) (V : Nat → VIn F) : FVec F S1x128x8192 .bf16 := fun i =>
  headCols SC (K ((i 2).val / 512)) (V ((i 2).val / 512)) i

/-- The state between two trips of the heads' loop: the weights of head `m` and the scores of head `m + 1` taken,
    the output of the heads before `m` stored. -/
def Mid (K : Nat → HIn F) (V : Nat → VIn F) (σ₀ : St F) (m : Nat) (σ : St F) : Prop :=
  SameBut work σ₀ σ ∧ (∀ rc, HasP SC (K m) 0 rc σ) ∧ HasS SC (K (m + 1)) 1 5 σ
    ∧ ∀ i : S1x128x8192.Idx, (i 2).val / 512 < m → (σ .out : FVec F S1x128x8192 .bf16) i = blockOut SC K V i

theorem done_step {K : Nat → HIn F} {V : Nat → VIn F} {m : Nat} {Y Y' : FVec F S1x128x8192 .bf16} {v : VIn F} (hv : v = V m)
    (h : ∀ i : S1x128x8192.Idx, (i 2).val / 512 < m → Y i = blockOut SC K V i)
    (h' : ∀ i : S1x128x8192.Idx, Y' i = if (i 2).val / 512 = m then headCols SC (K m) v i else Y i) :
    ∀ i : S1x128x8192.Idx, (i 2).val / 512 < m + 1 → Y' i = blockOut SC K V i := by
  intro i hi
  rw [h' i]
  split
  · next e => subst hv; rw [← e]; rfl
  · next e => exact h i (by omega)

theorem work_sub (par : Fin 2) : [Slot.qw par, .qa par, .qm par, .t par, .mx par] ⊆ work := by
  revert par; decide
theorem work_sub' (par : Fin 2) : [Slot.p par, .rl par] ⊆ work := by
  revert par; decide
theorem work_sub'' : [Slot.o, .out] ⊆ work := by decide

/-- One grid point: the output block is each head's rows. -/
theorem tile_spec {lb ub st : BitVec 32} (hok : Scf.OK lb ub st) (F0 F1 : OfsF) (FL : Fin (Scf.trips lb ub st) → Fin 2 → OfsF)
    (VL : Fin (Scf.trips lb ub st) → Fin 2 → OfsV) (V14 V15 : OfsV) (htr : Scf.trips lb ub st = 7)
    (σ₀ : St F) (K : Nat → HIn F) (V : Nat → VIn F)
    (h0 : hin F0 σ₀ = K 0) (h1 : hin F1 σ₀ = K 1) (hF : ∀ n d, hin (FL n d) σ₀ = K (2 * n.val + 2 + d.val))
    (hV : ∀ n d, vin (VL n d) σ₀ = V (2 * n.val + d.val)) (h14 : vin V14 σ₀ = V 14) (h15 : vin V15 σ₀ = V 15)
    (oV : ∀ n d h, (VL n d).o9 h = ![0, 0, 512 * (2 * n.val + d.val) + 128 * h.val])
    (o14 : ∀ h, V14.o9 h = ![0, 0, 512 * 14 + 128 * h.val]) (o15 : ∀ h, V15.o9 h = ![0, 0, 512 * 15 + 128 * h.val]) :
    TT defs 𝒱 c bd E X (tile X hok F0 F1 FL VL V14 V15) σ₀ fun _ σ' => SameBut work σ₀ σ' ∧ σ' .out = blockOut X.SC K V := by
  unfold tile
  refine T.bind (first_spec F0 σ₀) fun _ σ₁ a₁ => ?_
  rw [h0] at a₁
  have w₁ : SameBut work σ₀ σ₁ := a₁.1.mono (work_sub 0)
  refine T.bind (first_spec F1 σ₁) fun _ σ₂ a₂ => ?_
  rw [hin_same F1 w₁, h1] at a₂
  have w₂ : SameBut work σ₀ σ₂ := w₁.trans (a₂.1.mono (work_sub 1))
  refine T.bind (second_spec (K 0) σ₂ (a₁.2.frame a₂.1 (by simp) (by simp))) fun _ σ₃ a₃ => ?_
  have w₃ : SameBut work σ₀ σ₃ := w₂.trans (a₃.1.mono (work_sub' 0))
  have m₀ : Mid X.SC K V σ₀ (2 * 0) σ₃ := ⟨w₃, a₃.2, a₂.2.frame a₃.1 (by simp) (by simp), fun i hi => absurd hi (by omega)⟩
  refine T.bind (T.loop hok _ (fun n σ => Mid X.SC K V σ₀ (2 * n) σ) ?_ m₀) fun _ σ₄ m => ?_
  · intro n σ m
    refine T.bind (values_spec (K (2 * n.val)) (VL n 0) (2 * n.val) (fun h => oV n 0 h) σ m.2.1) fun _ s₁ b₁ => ?_
    have x₁ : SameBut work σ₀ s₁ := m.1.trans (b₁.1.mono work_sub'')
    have d₁ := done_step X.SC (K := K) (V := V) ((vin_same _ m.1).trans (hV n 0)) m.2.2.2 b₁.2
    refine T.bind (second_spec (K (2 * n.val + 1)) s₁ (m.2.2.1.frame b₁.1 (by simp) (by simp))) fun _ s₂ b₂ => ?_
    have x₂ : SameBut work σ₀ s₂ := x₁.trans (b₂.1.mono (work_sub' 1))
    refine T.bind (first_spec (FL n 0) s₂) fun _ s₃ b₃ => ?_
    rw [hin_same _ x₂, hF n 0] at b₃
    have x₃ : SameBut work σ₀ s₃ := x₂.trans (b₃.1.mono (work_sub 0))
    refine T.bind (values_spec (K (2 * n.val + 1)) (VL n 1) (2 * n.val + 1) (fun h => oV n 1 h) s₃ (HasP.frame b₂.2 b₃.1 (by simp) (by simp))) fun _ s₄ b₄ => ?_
    have x₄ : SameBut work σ₀ s₄ := x₃.trans (b₄.1.mono work_sub'')
    have d₄ := done_step X.SC (K := K) (V := V) (m := 2 * n.val + 1) (Y := s₃ .out) ((vin_same _ x₃).trans (hV n 1))
      (by rw [b₃.1 .out (by simp), b₂.1 .out (by simp)]; exact d₁) b₄.2
    refine T.bind (second_spec (K (2 * n.val + 2)) s₄ (b₃.2.frame b₄.1 (by simp) (by simp))) fun _ s₅ b₅ => ?_
    have x₅ : SameBut work σ₀ s₅ := x₄.trans (b₅.1.mono (work_sub' 0))
    refine T.mono (first_spec (FL n 1) s₅) fun _ s₆ b₆ => ?_
    rw [hin_same _ x₅, hF n 1] at b₆
    have x₆ : SameBut work σ₀ s₆ := x₅.trans (b₆.1.mono (work_sub 1))
    refine ⟨x₆, HasP.frame b₅.2 b₆.1 (by simp) (by simp), b₆.2, ?_⟩
    rw [b₆.1 .out (by simp), b₅.1 .out (by simp)]
    exact d₄
  · rw [htr] at m
    refine T.bind (values_spec (K 14) V14 14 o14 σ₄ m.2.1) fun _ s₁ b₁ => ?_
    have x₁ : SameBut work σ₀ s₁ := m.1.trans (b₁.1.mono work_sub'')
    have d₁ := done_step X.SC (K := K) (V := V) ((vin_same _ m.1).trans h14) m.2.2.2 b₁.2
    refine T.bind (second_spec (K 15) s₁ (m.2.2.1.frame b₁.1 (by simp) (by simp))) fun _ s₂ b₂ => ?_
    have x₂ : SameBut work σ₀ s₂ := x₁.trans (b₂.1.mono (work_sub' 1))
    refine T.mono (values_spec (K 15) V15 15 o15 s₂ b₂.2) fun _ s₃ b₃ => ?_
    have x₃ : SameBut work σ₀ s₃ := x₂.trans (b₃.1.mono work_sub'')
    have d₃ := done_step X.SC (K := K) (V := V) (m := 15) (Y := s₂ .out) ((vin_same _ x₂).trans h15)
      (by rw [b₂.1 .out (by simp)]; exact d₁) b₃.2
    refine ⟨x₃, funext fun i => d₃ i ?_⟩
    have : (i 2).val < 8192 := (i 2).isLt
    omega

end Cert.Proof.Attn

end
-- ==== Proof.Attn.Value.lean ====
/- What one grid point computes, as a function of the blocks it is given; and a triple on the point's buffers as a weakest
   precondition on the buffers one by one. -/
module

public import proofs.«01_k».proof.Proof.Attn.Tile

@[expose] public section

noncomputable section

namespace Cert.Proof.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal

/-! ## Parts of an array, by their offset -/

/-- The element of an array at natural indices (taken modulo the array's sizes, all positive). -/
def at' {s : Shape} {α : Type} (X : s.Idx → α) (hs : ∀ a, 0 < s.size a) (n : Fin s.rank → Nat) : α :=
  X fun a => ⟨n a % s.size a, Nat.mod_lt _ (hs a)⟩

theorem at'_of {s : Shape} {α : Type} (X : s.Idx → α) (hs : ∀ a, 0 < s.size a) (n : Fin s.rank → Nat) (j : s.Idx)
    (h : ∀ a, (j a).val = n a) : X j = at' X hs n := by
  unfold at'
  congr 1
  funext a
  ext
  show (j a).val = n a % s.size a
  rw [← h a, Nat.mod_eq_of_lt (j a).isLt]

/-- The part of an array of sizes `sz` at offset `off`. -/
def sub {s : Shape} {α : Type} (X : s.Idx → α) (hs : ∀ a, 0 < s.size a) (sz off : Fin s.rank → Nat) : (⟨s.rank, sz⟩ : Shape).Idx → α :=
  fun i => at' X hs fun a => off a + (i a).val

theorem sub_of {s : Shape} {α : Type} (X : s.Idx → α) (hs : ∀ a, 0 < s.size a) (sz off off' : Fin s.rank → Nat)
    (inb : ∀ a, off a + sz a ≤ s.size a) (h : off = off') :
    (fun i => X ((Rect.unit (s := s) off sz inb).idx i)) = sub X hs sz off' := by
  subst h
  funext i
  refine at'_of X hs _ _ fun a => ?_
  show off a + 1 * (i a).val = _
  rw [one_mul]

variable {F : FTy → Type} [FloatOps F]

/-- The blocks a grid point is given. -/
@[ext] structure Blk (F : FTy → Type) where
  q : Vec F S1x16x512x128 .fp8e4m3
  qs : Vec F S1x1x64x1 .f32
  mean : Vec F S1x1x64x128 .bf16
  kq : Vec F S1x16x4096x128 .fp8e4m3
  vq : Vec F S1x16x4096x128 .fp8e4m3
  ksc : Vec F S1x16x32x128 .f32
  vsc : Vec F S1x1x2048 .f32

/-- The blocks among a grid point's buffers. -/
def Blk.of (σ : St F) : Blk F := ⟨σ .q, σ .qs, σ .mean, σ .kq, σ .vq, σ .ksc, σ .vsc⟩

/-- The key block whose scales are the `r`-th read: the newest block of the window first, then the others in order. -/
def kscIx (r : Fin 13) : Nat := if r.val = 0 then 12 else r.val - 1

theorem pos1 : ∀ a, 0 < S1x16x512x128.size a := by decide
theorem pos2 : ∀ a, 0 < S1x1x64x1.size a := by decide
theorem pos3 : ∀ a, 0 < S1x1x64x128.size a := by decide
theorem pos4 : ∀ a, 0 < S1x16x4096x128.size a := by decide
theorem pos5 : ∀ a, 0 < S1x16x32x128.size a := by decide
theorem pos6 : ∀ a, 0 < S1x1x2048.size a := by decide

/-- Key head `kv`'s queries, keys and scales at query tile `i`. -/
def headK (B : Blk F) (i kv : Nat) : HIn F where
  mrow h := sub B.mean pos3 S1x1x1x128.size ![0, 0, 4 * kv + h.val, 0]
  srow h := sub B.qs pos2 S1x1x1x1.size ![0, 0, 4 * kv + h.val, 0]
  q := sub B.q pos1 S1x1x512x128.size ![0, kv, 0, 0]
  k4 := sub B.kq pos4 S1x1x128x128.size ![0, kv, 128 * i + 1536, 0]
  ks r := sub B.ksc pos5 S1x1x1x128.size ![0, kv, i + kscIx r, 0]
  k6 r := sub B.kq pos4 S1x1x256x128.size ![0, kv, 128 * i + 256 * r.val, 0]

/-- Key head `kv`'s values and scales at query tile `i`. -/
def headV (B : Blk F) (i kv : Nat) : VIn F where
  v := sub B.vq pos4 S1x1x1664x128.size ![0, kv, 128 * i, 0]
  vs := sub B.vsc pos6 S1x1x128.size ![0, 0, 128 * kv]

/-- The output block of query tile `i`. -/
def tileOut (SC : F .f32) (B : Blk F) (i : Nat) : FVec F S1x128x8192 .bf16 := blockOut SC (headK B i) (headV B i)

theorem hin_eq (O : OfsF) (σ : St F) (i kv : Nat) (e1 : ∀ h : Fin 4, O.o1 h = ![0, 0, 4 * kv + h.val, 0])
    (e2 : ∀ h : Fin 4, O.o2 h = ![0, 0, 4 * kv + h.val, 0]) (e3 : O.o3 = ![0, kv, 0, 0]) (e4 : O.o4 = ![0, kv, 128 * i + 1536, 0])
    (e5 : ∀ r : Fin 13, O.o5 r = ![0, kv, i + kscIx r, 0]) (e6 : ∀ r : Fin 6, O.o6 r = ![0, kv, 128 * i + 256 * r.val, 0]) :
    hin O σ = headK (Blk.of σ) i kv := by
  have m1 : (hin O σ).mrow = (headK (Blk.of σ) i kv).mrow := funext fun h => sub_of (σ .mean) pos3 S1x1x1x128.size _ _ (O.i1 h) (e1 h)
  have m2 : (hin O σ).srow = (headK (Blk.of σ) i kv).srow := funext fun h => sub_of (σ .qs) pos2 S1x1x1x1.size _ _ (O.i2 h) (e2 h)
  have m3 : (hin O σ).q = (headK (Blk.of σ) i kv).q := sub_of (σ .q) pos1 S1x1x512x128.size _ _ O.i3 e3
  have m4 : (hin O σ).k4 = (headK (Blk.of σ) i kv).k4 := sub_of (σ .kq) pos4 S1x1x128x128.size _ _ O.i4 e4
  have m5 : (hin O σ).ks = (headK (Blk.of σ) i kv).ks := funext fun r => sub_of (σ .ksc) pos5 S1x1x1x128.size _ _ (O.i5 r) (e5 r)
  have m6 : (hin O σ).k6 = (headK (Blk.of σ) i kv).k6 := funext fun r => sub_of (σ .kq) pos4 S1x1x256x128.size _ _ (O.i6 r) (e6 r)
  generalize hin O σ = x at *
  generalize headK (Blk.of σ) i kv = y at *
  cases x; cases y
  subst m1 m2 m3 m4 m5 m6
  rfl

theorem vin_eq (O : OfsV) (σ : St F) (i kv : Nat) (e7 : O.o7 = ![0, kv, 128 * i, 0]) (e8 : O.o8 = ![0, 0, 128 * kv]) :
    vin O σ = headV (Blk.of σ) i kv := by
  have m1 : (vin O σ).v = (headV (Blk.of σ) i kv).v := sub_of (σ .vq) pos4 S1x1x1664x128.size _ _ O.i7 e7
  have m2 : (vin O σ).vs = (headV (Blk.of σ) i kv).vs := sub_of (σ .vsc) pos6 S1x1x128.size _ _ O.i8 e8
  generalize vin O σ = x at *
  generalize headV (Blk.of σ) i kv = y at *
  cases x; cases y
  subst m1 m2
  rfl

/-! ## The buffers one by one -/

section Buffers

variable {nD : Nat} {τ : Topo} {sig : RefSig} {Λ : Labels}
variable {defs : Defs nD τ sig (Elt F) Λ} {𝒱 : Variants} {bd : Option 𝒱.V} {E : Set ℕ} {X : Ctx sig F}

local notation "𝕄" => MT nD τ sig Unit (Elt F) ℕ (UR sig nD τ) ℕ

/-- The given blocks' buffers, owned at the blocks. -/
def Ins (c : Dev nD) (M : ∀ b : Slot, Memref sig .tc .vmem b.shp b.elt) (B : Blk F) : sProp 𝕄 :=
  iprop(owns (c : Thread nD τ) (M .q) fullShare B.q ∗ owns (c : Thread nD τ) (M .qs) fullShare B.qs ∗ owns (c : Thread nD τ) (M .mean) fullShare B.mean
    ∗ owns (c : Thread nD τ) (M .kq) fullShare B.kq ∗ owns (c : Thread nD τ) (M .vq) fullShare B.vq ∗ owns (c : Thread nD τ) (M .ksc) fullShare B.ksc
    ∗ owns (c : Thread nD τ) (M .vsc) fullShare B.vsc)

/-- A working buffer, owned at some contents. -/
abbrev Some' (c : Dev nD) (M : ∀ b : Slot, Memref sig .tc .vmem b.shp b.elt) (b : Slot) : sProp 𝕄 :=
  iprop(∃ d, owns (c : Thread nD τ) (M b) fullShare d)

/-- The working buffers, owned at some contents. -/
def Scr (c : Dev nD) (M : ∀ b : Slot, Memref sig .tc .vmem b.shp b.elt) : sProp 𝕄 :=
  iprop(Some' (F := F) (τ := τ) c M .o ∗ Some' (F := F) (τ := τ) c M (.qw 0) ∗ Some' (F := F) (τ := τ) c M (.qw 1)
    ∗ Some' (F := F) (τ := τ) c M (.qa 0) ∗ Some' (F := F) (τ := τ) c M (.qa 1) ∗ Some' (F := F) (τ := τ) c M (.qm 0) ∗ Some' (F := F) (τ := τ) c M (.qm 1)
    ∗ Some' (F := F) (τ := τ) c M (.t 0) ∗ Some' (F := F) (τ := τ) c M (.t 1) ∗ Some' (F := F) (τ := τ) c M (.mx 0) ∗ Some' (F := F) (τ := τ) c M (.mx 1)
    ∗ Some' (F := F) (τ := τ) c M (.p 0) ∗ Some' (F := F) (τ := τ) c M (.p 1) ∗ Some' (F := F) (τ := τ) c M (.rl 0) ∗ Some' (F := F) (τ := τ) c M (.rl 1))

theorem own_eq (c : Dev nD) (M : ∀ b : Slot, Memref sig .tc .vmem b.shp b.elt) (σ : St F) :
    (Own c M σ : sProp 𝕄) = iprop(owns (c : Thread nD τ) (M .q) fullShare (σ .q) ∗ owns (c : Thread nD τ) (M .qs) fullShare (σ .qs) ∗ owns (c : Thread nD τ) (M .mean) fullShare (σ .mean)
        ∗ owns (c : Thread nD τ) (M .kq) fullShare (σ .kq) ∗ owns (c : Thread nD τ) (M .vq) fullShare (σ .vq) ∗ owns (c : Thread nD τ) (M .ksc) fullShare (σ .ksc)
        ∗ owns (c : Thread nD τ) (M .vsc) fullShare (σ .vsc) ∗ owns (c : Thread nD τ) (M .out) fullShare (σ .out) ∗ owns (c : Thread nD τ) (M .o) fullShare (σ .o)
        ∗ owns (c : Thread nD τ) (M (.qw 0)) fullShare (σ (.qw 0)) ∗ owns (c : Thread nD τ) (M (.qw 1)) fullShare (σ (.qw 1)) ∗ owns (c : Thread nD τ) (M (.qa 0)) fullShare (σ (.qa 0))
        ∗ owns (c : Thread nD τ) (M (.qa 1)) fullShare (σ (.qa 1)) ∗ owns (c : Thread nD τ) (M (.qm 0)) fullShare (σ (.qm 0)) ∗ owns (c : Thread nD τ) (M (.qm 1)) fullShare (σ (.qm 1))
        ∗ owns (c : Thread nD τ) (M (.t 0)) fullShare (σ (.t 0)) ∗ owns (c : Thread nD τ) (M (.t 1)) fullShare (σ (.t 1)) ∗ owns (c : Thread nD τ) (M (.mx 0)) fullShare (σ (.mx 0))
        ∗ owns (c : Thread nD τ) (M (.mx 1)) fullShare (σ (.mx 1)) ∗ owns (c : Thread nD τ) (M (.p 0)) fullShare (σ (.p 0)) ∗ owns (c : Thread nD τ) (M (.p 1)) fullShare (σ (.p 1))
        ∗ owns (c : Thread nD τ) (M (.rl 0)) fullShare (σ (.rl 0)) ∗ owns (c : Thread nD τ) (M (.rl 1)) fullShare (σ (.rl 1))) :=
  bigSep_univ_eq_bigSepL [Slot.q, .qs, .mean, .kq, .vq, .ksc, .vsc, .out, .o, .qw 0, .qw 1, .qa 0, .qa 1, .qm 0, .qm 1, .t 0, .t 1,
    .mx 0, .mx 1, .p 0, .p 1, .rl 0, .rl 1] (by decide) (by decide) _

/-- The family's ownership, buffer by buffer. -/
theorem own_end (c : Dev nD) (M : ∀ b : Slot, Memref sig .tc .vmem b.shp b.elt) (B : Blk F) (σ : St F) (h : Blk.of σ = B) :
    (Own c M σ : sProp 𝕄) ⊢ iprop(Ins c M B ∗ owns (c : Thread nD τ) (M .out) fullShare (σ .out) ∗ Scr c M) := by
  subst h
  rw [own_eq]
  unfold Ins Scr
  iintro ⟨H0, H1, H2, H3, H4, H5, H6, H7, H8, H9, H10, H11, H12, H13, H14, H15, H16, H17, H18, H19, H20, H21, H22⟩
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  iexists _; iexact H22

/-- The contents with the given ones in each buffer. -/
def mk (B : Blk F) (d0 : Vec F S1x128x8192 .bf16) (d1 : Vec F S512x128 .f32) (d2 d3 : Vec F S512x128 .fp8e4m3) (d4 d5 : Vec F S8x128 .f32)
    (d6 d7 : Vec F S16x128 .bf16) (d8 d9 : Vec F S512x1536 .f32) (d10 d11 : Vec F S512x128 .f32) (d12 d13 : Vec F S512x1664 .fp8e4m3)
    (d14 d15 : Vec F S512x128 .f32) : St F
  | .q => B.q | .qs => B.qs | .mean => B.mean | .kq => B.kq | .vq => B.vq | .ksc => B.ksc | .vsc => B.vsc | .out => d0 | .o => d1
  | .qw 0 => d2 | .qw 1 => d3 | .qa 0 => d4 | .qa 1 => d5 | .qm 0 => d6 | .qm 1 => d7 | .t 0 => d8 | .t 1 => d9
  | .mx 0 => d10 | .mx 1 => d11 | .p 0 => d12 | .p 1 => d13 | .rl 0 => d14 | .rl 1 => d15

/-- A triple whose program leaves the given blocks and writes `Y` to the output, with the buffers owned one by one. -/
theorem run_of (c : Dev nD) {p : Prog (TpuEff nD τ sig (Elt F) Λ .tc) PUnit} (B : Blk F) (Y : Vec F S1x128x8192 .bf16)
    (h : ∀ σ₀ : St F, Blk.of σ₀ = B → TT defs 𝒱 c bd E X p σ₀ fun _ σ' => SameBut work σ₀ σ' ∧ σ' .out = Y) (K : PUnit → sProp 𝕄) :
    iprop(Ins c X.M B ∗ Some' (F := F) (τ := τ) c X.M .out ∗ Scr c X.M
        ∗ (iprop(Ins c X.M B ∗ owns (c : Thread nD τ) (X.M .out) fullShare Y ∗ Scr c X.M) -∗ K ⟨⟩))
      ⊢ wp frame (wpE defs 𝒱 (c : Thread nD τ) bd) E p K := by
  unfold Ins Scr
  iintro ⟨⟨H0, H1, H2, H3, H4, H5, H6⟩, ⟨%d0, H7⟩, ⟨⟨%d1, H8⟩, ⟨%d2, H9⟩, ⟨%d3, H10⟩, ⟨%d4, H11⟩, ⟨%d5, H12⟩, ⟨%d6, H13⟩, ⟨%d7, H14⟩, ⟨%d8, H15⟩, ⟨%d9, H16⟩, ⟨%d10, H17⟩, ⟨%d11, H18⟩, ⟨%d12, H19⟩, ⟨%d13, H20⟩, ⟨%d14, H21⟩, ⟨%d15, H22⟩⟩, Hk⟩
  have hT := h (mk B d0 d1 d2 d3 d4 d5 d6 d7 d8 d9 d10 d11 d12 d13 d14 d15) rfl
  iapply (wp_wand_r (Q := fun _ => iprop(∃ σ', ⌜SameBut work (mk B d0 d1 d2 d3 d4 d5 d6 d7 d8 d9 d10 d11 d12 d13 d14 d15) σ' ∧ σ' .out = Y⌝ ∗ Own c X.M σ')) frame (wpE defs 𝒱 (c : Thread nD τ) bd) E)
  isplitr [Hk]
  · iapply (show (Own c X.M (mk B d0 d1 d2 d3 d4 d5 d6 d7 d8 d9 d10 d11 d12 d13 d14 d15) : sProp 𝕄) ⊢ _ from hT)
    rw [own_eq]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    iexact H22
  · iintro %a ⟨%σ', %hσ, H⟩
    obtain ⟨hs, rfl⟩ := hσ
    obtain ⟨⟩ := a
    iapply Hk
    iapply (own_end c X.M B σ' (by
      ext1
      · exact hs .q (by decide)
      · exact hs .qs (by decide)
      · exact hs .mean (by decide)
      · exact hs .kq (by decide)
      · exact hs .vq (by decide)
      · exact hs .ksc (by decide)
      · exact hs .vsc (by decide)))
    iexact H

end Buffers

/-! ## The arrays -/

/-- The arrays the blocks are cut from. -/
@[ext] structure Arr (F : FTy → Type) where
  q : Vec F S4x16x10240x128 .fp8e4m3
  qs : Vec F S4x20x64x1 .f32
  mean : Vec F S4x20x64x128 .bf16
  kq : Vec F S4x16x4096x128 .fp8e4m3
  vq : Vec F S4x16x4096x128 .fp8e4m3
  ksc : Vec F S4x16x32x128 .f32
  vsc : Vec F S4x1x2048 .f32

theorem apos1 : ∀ a, 0 < S4x16x10240x128.size a := by decide
theorem apos2 : ∀ a, 0 < S4x20x64x1.size a := by decide
theorem apos3 : ∀ a, 0 < S4x20x64x128.size a := by decide
theorem apos4 : ∀ a, 0 < S4x16x4096x128.size a := by decide
theorem apos5 : ∀ a, 0 < S4x16x32x128.size a := by decide
theorem apos6 : ∀ a, 0 < S4x1x2048.size a := by decide

/-- The blocks of batch `b` and query tile `i`. -/
def Arr.blk (A : Arr F) (b i : Nat) : Blk F where
  q := sub A.q apos1 S1x16x512x128.size ![b, 0, 512 * i, 0]
  qs := sub A.qs apos2 S1x1x64x1.size ![b, i, 0, 0]
  mean := sub A.mean apos3 S1x1x64x128.size ![b, i, 0, 0]
  kq := sub A.kq apos4 S1x16x4096x128.size ![b, 0, 0, 0]
  vq := sub A.vq apos4 S1x16x4096x128.size ![b, 0, 0, 0]
  ksc := sub A.ksc apos5 S1x16x32x128.size ![b, 0, 0, 0]
  vsc := sub A.vsc apos6 S1x1x2048.size ![b, 0, 0]

/-- A row and a column of an output block. -/
def outIx (r : Nat) (d : Fin 8192) : S1x128x8192.Idx :=
  Fin.cons (0 : Fin 1) (Fin.cons (⟨r % 128, Nat.mod_lt _ (by decide)⟩ : Fin 128) (Fin.cons d finZeroElim))

/-- The whole output: row `n` of batch `b` is row `n % 128` of query tile `n / 128`. -/
def result (SC : F .f32) (A : Arr F) : FVec F S4x2560x8192 .bf16 := fun j =>
  tileOut SC (A.blk (j 0).val ((j 1).val / 128)) ((j 1).val / 128)
    (outIx (j 1).val (j 2))

/-- A tile's output block is the whole output's part at it. -/
theorem result_at (SC : F .f32) (A : Arr F) (j : S4x2560x8192.Idx) (y : S1x128x8192.Idx) (b i : Nat) (h0 : (j 0).val = b)
    (h1 : (j 1).val = 128 * i + (y 1).val) (h2 : (j 2).val = (y 2).val) : tileOut SC (A.blk b i) i y = result SC A j := by
  have hy : (y 1).val < 128 := (y 1).isLt
  have e1 : (j 1).val / 128 = i := by omega
  have e2 : (j 1).val % 128 = (y 1).val := by omega
  have e : y = outIx (j 1).val (j 2) := by
    funext a
    revert a
    simp only [Fin.forall_fin_succ]
    refine ⟨?_, ?_, ?_, fun a => a.elim0⟩
    · exact Fin.ext (by have : (y 0).val < 1 := (y 0).isLt; show (y 0).val = 0; omega)
    · exact Fin.ext e2.symm
    · exact Fin.ext h2.symm
  unfold result
  rw [← e, h0, e1]

end Cert.Proof.Attn

end
-- ==== Proof.Attn.Run.lean ====
/- The run of `@main` of `Kernel`: each grid point's body leaves its output block, so the result array is `Attn.result`
   of the argument arrays. -/
module

public import proofs.«01_k».proof.Proof.Attn.Text
public import proofs.«01_k».proof.Proof.Attn.Value
public import proofs.«01_k».proof.Proof.Gen.Kernel.Frame
public import Idealize.ShloMosaic.Lib.Tactic
public import Idealize.ShloMosaic.Lib.Pipeline.ValueKit.Geometry

@[expose] public section

noncomputable section

namespace Cert.Proof.Attn.Kernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ΦA)
open Cert.Kernel Cert.Kernel.Gen

variable {F : FTy → Type} [FloatOps F]

local notation "𝕄" => MT nD τ sig Unit (Elt F) ℕ (UR sig nD τ) ℕ

abbrev 𝒱₀ : Variants := Variants.none

/-- The score scale. -/
abbrev SC : F .f32 := Scalar.ofBits .f32 0x3E0293EE#32

/-! ## What the body's accesses read -/

theorem trips_eq : k0_t1_loop.trips = 7 := by decide +kernel

theorem ksc0 : ∀ (i : grid0.Coords) (r : Fin 13), k0_off2 i (k0_off2_at r).1 (k0_off2_at r).2 = ![0, 0, (i 1).val + kscIx r, 0] := by
  decide +kernel
theorem ksc1 : ∀ (i : grid0.Coords) (r : Fin 13), k0_off5 i (k0_off5_at r).1 (k0_off5_at r).2 = ![0, 1, (i 1).val + kscIx r, 0] := by
  decide +kernel
theorem kscL : ∀ (i : grid0.Coords) (n : Fin k0_t1_loop.trips) (d : Fin 2) (r : Fin 13),
    k0_off14 i n (k0_off14_at ⟨13 * d.val + r.val, by omega⟩).1 (k0_off14_at ⟨13 * d.val + r.val, by omega⟩).2.1
      (k0_off14_at ⟨13 * d.val + r.val, by omega⟩).2.2 = ![0, 2 * n.val + 2 + d.val, (i 1).val + kscIx r, 0] := by
  decide +kernel

theorem hin0 (i : grid0.Coords) (σ : St F) : hin (F0 i) σ = headK (Blk.of σ) (i 1).val 0 :=
  hin_eq _ _ _ _
    (fun h => by show ![0, 0, h.val, 0] = ![0, 0, 4 * 0 + h.val, 0]; rw [show 4 * 0 + h.val = h.val by omega])
    (fun h => by show ![0, 0, h.val, 0] = ![0, 0, 4 * 0 + h.val, 0]; rw [show 4 * 0 + h.val = h.val by omega])
    rfl (k0_off1_eq i) (ksc0 i) (k0_off3_eq i)

theorem hin1 (i : grid0.Coords) (σ : St F) : hin (F1 i) σ = headK (Blk.of σ) (i 1).val 1 :=
  hin_eq _ _ _ _ (fun h => rfl) (fun h => rfl) rfl (k0_off4_eq i) (ksc1 i) (k0_off6_eq i)

theorem hinL (i : grid0.Coords) (σ : St F) (n : Fin k0_t1_loop.trips) (d : Fin 2) :
    hin (FL i n d) σ = headK (Blk.of σ) (i 1).val (2 * n.val + 2 + d.val) :=
  hin_eq _ _ _ _
    (fun h => (k0_off10_eq n d h).trans (by rw [show 8 * n.val + 4 * d.val + h.val + 8 = 4 * (2 * n.val + 2 + d.val) + h.val by omega]))
    (fun h => (k0_off11_eq n d h).trans (by rw [show 8 * n.val + 4 * d.val + h.val + 8 = 4 * (2 * n.val + 2 + d.val) + h.val by omega]))
    ((k0_off12_eq n d).trans (by rw [show 2 * n.val + d.val + 2 = 2 * n.val + 2 + d.val by omega]))
    ((k0_off13_eq i n d).trans (by rw [show 2 * n.val + d.val + 2 = 2 * n.val + 2 + d.val by omega]))
    (kscL i n d)
    (fun r => (k0_off15_eq i n d r).trans (by rw [show 2 * n.val + d.val + 2 = 2 * n.val + 2 + d.val by omega]))

theorem vinL (i : grid0.Coords) (σ : St F) (n : Fin k0_t1_loop.trips) (d : Fin 2) :
    vin (VL i n d) σ = headV (Blk.of σ) (i 1).val (2 * n.val + d.val) :=
  vin_eq _ _ _ _ (k0_off7_eq i n d)
    ((k0_off8_eq n d).trans (by rw [show 256 * n.val + 128 * d.val = 128 * (2 * n.val + d.val) by omega]))

theorem vin14 (i : grid0.Coords) (σ : St F) : vin (V14 i) σ = headV (Blk.of σ) (i 1).val 14 := vin_eq _ _ _ _ (k0_off16_eq i) rfl
theorem vin15 (i : grid0.Coords) (σ : St F) : vin (V15 i) σ = headV (Blk.of σ) (i 1).val 15 := vin_eq _ _ _ _ (k0_off17_eq i) rfl

theorem outL (i : grid0.Coords) (n : Fin k0_t1_loop.trips) (d : Fin 2) (h : Fin 4) :
    (VL i n d).o9 h = ![0, 0, 512 * (2 * n.val + d.val) + 128 * h.val] :=
  (k0_off9_eq n d h).trans (by rw [show 1024 * n.val + 512 * d.val + 128 * h.val = 512 * (2 * n.val + d.val) + 128 * h.val by omega])

/-! ## The body -/

/-- The kernel body on whole buffers leaves the blocks it is given and writes `tileOut` of them. -/
theorem kernel_run (c : Dev nD) (i : grid0.Coords) (E : Set ℕ)
    (q : Memref sig .tc .vmem S1x16x512x128 .fp8e4m3) (hq : q.IsWhole)
    (qs : Memref sig .tc .vmem S1x1x64x1 .f32) (hqs : qs.IsWhole)
    (mean : Memref sig .tc .vmem S1x1x64x128 .bf16) (hmean : mean.IsWhole)
    (kq : Memref sig .tc .vmem S1x16x4096x128 .fp8e4m3) (hkq : kq.IsWhole)
    (vq : Memref sig .tc .vmem S1x16x4096x128 .fp8e4m3) (hvq : vq.IsWhole)
    (ksc : Memref sig .tc .vmem S1x16x32x128 .f32) (hksc : ksc.IsWhole)
    (vsc : Memref sig .tc .vmem S1x1x2048 .f32) (hvsc : vsc.IsWhole)
    (out : Memref sig .tc .vmem S1x128x8192 .bf16) (hout : out.IsWhole)
    (o : Memref sig .tc .vmem S512x128 .f32) (ho : o.IsWhole)
    (qw : Memref sig .tc .vmem S512x128 .fp8e4m3) (hqw : qw.IsWhole)
    (qw1 : Memref sig .tc .vmem S512x128 .fp8e4m3) (hqw1 : qw1.IsWhole)
    (qa : Memref sig .tc .vmem S8x128 .f32) (hqa : qa.IsWhole)
    (qa1 : Memref sig .tc .vmem S8x128 .f32) (hqa1 : qa1.IsWhole)
    (qm : Memref sig .tc .vmem S16x128 .bf16) (hqm : qm.IsWhole)
    (qm1 : Memref sig .tc .vmem S16x128 .bf16) (hqm1 : qm1.IsWhole)
    (t : Memref sig .tc .vmem S512x1536 .f32) (ht : t.IsWhole)
    (t1 : Memref sig .tc .vmem S512x1536 .f32) (ht1 : t1.IsWhole)
    (mx : Memref sig .tc .vmem S512x128 .f32) (hmx : mx.IsWhole)
    (mx1 : Memref sig .tc .vmem S512x128 .f32) (hmx1 : mx1.IsWhole)
    (p : Memref sig .tc .vmem S512x1664 .fp8e4m3) (hp : p.IsWhole)
    (p1 : Memref sig .tc .vmem S512x1664 .fp8e4m3) (hp1 : p1.IsWhole)
    (rl : Memref sig .tc .vmem S512x128 .f32) (hrl : rl.IsWhole)
    (rl1 : Memref sig .tc .vmem S512x128 .f32) (hrl1 : rl1.IsWhole)
    (B : Blk F) (K : PUnit → sProp 𝕄) :
    iprop((owns (c : Thread nD τ) q fullShare B.q ∗ owns (c : Thread nD τ) qs fullShare B.qs ∗ owns (c : Thread nD τ) mean fullShare B.mean
          ∗ owns (c : Thread nD τ) kq fullShare B.kq ∗ owns (c : Thread nD τ) vq fullShare B.vq ∗ owns (c : Thread nD τ) ksc fullShare B.ksc
          ∗ owns (c : Thread nD τ) vsc fullShare B.vsc)
        ∗ (∃ d, owns (c : Thread nD τ) out fullShare d)
        ∗ Scr c (ctx (F := F) q hq qs hqs mean hmean kq hkq vq hvq ksc hksc vsc hvsc out hout o ho qw hqw qw1 hqw1 qa hqa qa1 hqa1 qm hqm qm1 hqm1 t ht t1 ht1 mx hmx mx1 hmx1 p hp p1 hp1 rl hrl rl1 hrl1).M
        ∗ (iprop((owns (c : Thread nD τ) q fullShare B.q ∗ owns (c : Thread nD τ) qs fullShare B.qs ∗ owns (c : Thread nD τ) mean fullShare B.mean
            ∗ owns (c : Thread nD τ) kq fullShare B.kq ∗ owns (c : Thread nD τ) vq fullShare B.vq ∗ owns (c : Thread nD τ) ksc fullShare B.ksc
            ∗ owns (c : Thread nD τ) vsc fullShare B.vsc)
            ∗ owns (c : Thread nD τ) out fullShare (tileOut SC B (i 1).val)
            ∗ Scr c (ctx (F := F) q hq qs hqs mean hmean kq hkq vq hvq ksc hksc vsc hvsc out hout o ho qw hqw qw1 hqw1 qa hqa qa1 hqa1 qm hqm qm1 hqm1 t ht t1 ht1 mx hmx mx1 hmx1 p hp p1 hp1 rl hrl rl1 hrl1).M) -∗ K ⟨⟩))
      ⊢ wp frame (wpE (defs₀ (F := F)) 𝒱₀ (c : Thread nD τ) none) E
          (cc0_attention (F := F) i q hq qs hqs mean hmean kq hkq vq hvq ksc hksc vsc hvsc out hout o ho qw hqw qw1 hqw1 qa hqa qa1 hqa1 qm hqm qm1 hqm1 t ht t1 ht1 mx hmx mx1 hmx1 p hp p1 hp1 rl hrl rl1 hrl1) K := by
  rw [body_eq]
  refine run_of (X := ctx (F := F) q hq qs hqs mean hmean kq hkq vq hvq ksc hksc vsc hvsc out hout o ho qw hqw qw1 hqw1 qa hqa qa1 hqa1 qm hqm qm1 hqm1 t ht t1 ht1 mx hmx mx1 hmx1 p hp p1 hp1 rl hrl rl1 hrl1)
    c B (tileOut SC B (i 1).val) (fun σ₀ h => ?_) K
  subst h
  exact tile_spec k0_t1_ok (F0 i) (F1 i) (FL i) (VL i) (V14 i) (V15 i) trips_eq σ₀ (headK (Blk.of σ₀) (i 1).val) (headV (Blk.of σ₀) (i 1).val)
    (hin0 i σ₀) (hin1 i σ₀) (hinL i σ₀) (vinL i σ₀) (vin14 i σ₀) (vin15 i σ₀) (outL i) (fun h => rfl) (fun h => rfl)

/-! ## The grid -/

variable (m : (ℓ : Loc nD τ sig) → Buf (Elt F) ℓ) (ρ : Dev nD → PrngReg)

/-- The blocks a point is given. -/
def blks (c : Dev nD) (t : Fin cfg0.N) : Blk F :=
  ⟨iblk m c 0 t, iblk m c 1 t, iblk m c 2 t, iblk m c 3 t, iblk m c 4 t, iblk m c 5 t, iblk m c 6 t⟩

/-- What the body leaves in the output's buffer at a point. -/
def outsAt (c : Dev nD) (t : Fin cfg0.N) : Vec F S1x128x8192 .bf16 := tileOut SC (blks m c t) (grid0.coords t 1).val

/-- Each input's buffer ends at its block and the output's at `outsAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outsAt m c t
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outsAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- The scratch buffers among the body's buffers are the call's scratch. -/
theorem scr_eq (c : Dev nD) (M : ∀ b : Slot, Memref sig .tc .vmem b.shp b.elt)
    (h : M .o = Memref.whole cc0_scratch0 ∧ M (.qw 0) = Memref.whole cc0_scratch1 ∧ M (.qw 1) = Memref.whole cc0_scratch2
      ∧ M (.qa 0) = Memref.whole cc0_scratch3 ∧ M (.qa 1) = Memref.whole cc0_scratch4 ∧ M (.qm 0) = Memref.whole cc0_scratch5
      ∧ M (.qm 1) = Memref.whole cc0_scratch6 ∧ M (.t 0) = Memref.whole cc0_scratch7 ∧ M (.t 1) = Memref.whole cc0_scratch8
      ∧ M (.mx 0) = Memref.whole cc0_scratch9 ∧ M (.mx 1) = Memref.whole cc0_scratch10 ∧ M (.p 0) = Memref.whole cc0_scratch11
      ∧ M (.p 1) = Memref.whole cc0_scratch12 ∧ M (.rl 0) = Memref.whole cc0_scratch13 ∧ M (.rl 1) = Memref.whole cc0_scratch14) :
    (Pipeline.scopedRest (Ix := Unit) (Name := ℕ) (U := UR sig nD τ) (Lvl := ℕ) (Val := Elt F) spec0 c : sProp 𝕄) = Scr c M := by
  obtain ⟨h0, h1, h2, h3, h4, h5, h6, h7, h8, h9, h10, h11, h12, h13, h14⟩ := h
  rw [scopedRest0_eq]
  unfold Scr Some'
  rw [h0, h1, h2, h3, h4, h5, h6, h7, h8, h9, h10, h11, h12, h13, h14]
  simp only [← owns_whole]
  rfl

theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    show (dats m 0 c).Φ t.castSucc = iprop(Pipeline.scopedRest (Ix := Unit) (Name := ℕ) (U := UR sig nD τ) (Lvl := ℕ) (Val := Elt F) spec0 c ∗ ∃ r, prngReg c r) from rfl,
    after0_0, after0_1, after0_2, after0_3, after0_4, after0_5, after0_6, after0_7]
  unfold outsAt
  iintro ⟨⟨HΦ, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (kernel_run c (grid0.coords t) Set.univ _ _ _ _ _ _ _ _ _ _ _ _ _ _ _ _ _ _ _ _ _ _ _ _ _ _ _ _ _ _ _ _ _ _ _ _ _ _ _ _ _ _ _ _ _ _ (blks m c t) _)
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  isplitl [H7]; · iexists _; iexact H7
  rw [← scr_eq c _ ⟨rfl, rfl, rfl, rfl, rfl, rfl, rfl, rfl, rfl, rfl, rfl, rfl, rfl, rfl, rfl⟩]
  isplitl [HΦ]; · iexact HΦ
  iintro ⟨⟨H0, H1, H2, H3, H4, H5, H6⟩, H7, HΦ⟩
  isplitl [HΦ Hr]
  · isplitl [HΦ]; · iexact HΦ
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option backward.isDefEq.respectTransparency.types false in
/-- Every run ends with the pipeline's arrays at the contents its blocks give and every semaphore at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl) (hΦ := fun _ _ => rfl)

end Cert.Proof.Attn.Kernel

end
-- ==== Proof.Attn.TextIdeal.lean ====
/- The printed kernel `KernelIdeal` is `Attn.tile` at its buffers, offsets and score scale. -/
module

public import proofs.«01_k».proof.Proof.Attn.Program
public import proofs.«01_k».proof.Proof.Gen.KernelIdeal
public import Idealize.ShloMosaic.Lib.Pipeline.Regions

@[expose] public section

noncomputable section

namespace Cert.Proof.Attn.KernelIdeal

open Idealize.ShloMosaic Idealize.ShloMosaic.TcCoe Idealize.ShloMosaic.Pipeline Idealize.SL.Sem
open Cert.KernelIdeal Cert.KernelIdeal.Gen

variable {F : FTy → Type} [FloatOps F] [Named F]

/-- The printed buffers, by name. -/
def ctx
    (q : Memref sig .tc .vmem S1x16x512x128 .fp8e4m3) (hq : q.IsWhole)
    (qs : Memref sig .tc .vmem S1x1x64x1 .f32) (hqs : qs.IsWhole)
    (mean : Memref sig .tc .vmem S1x1x64x128 .bf16) (hmean : mean.IsWhole)
    (kq : Memref sig .tc .vmem S1x16x4096x128 .fp8e4m3) (hkq : kq.IsWhole)
    (vq : Memref sig .tc .vmem S1x16x4096x128 .fp8e4m3) (hvq : vq.IsWhole)
    (ksc : Memref sig .tc .vmem S1x16x32x128 .f32) (hksc : ksc.IsWhole)
    (vsc : Memref sig .tc .vmem S1x1x2048 .f32) (hvsc : vsc.IsWhole)
    (out : Memref sig .tc .vmem S1x128x8192 .bf16) (hout : out.IsWhole)
    (o : Memref sig .tc .vmem S512x128 .f32) (ho : o.IsWhole)
    (qw : Memref sig .tc .vmem S512x128 .fp8e4m3) (hqw : qw.IsWhole)
    (qw1 : Memref sig .tc .vmem S512x128 .fp8e4m3) (hqw1 : qw1.IsWhole)
    (qa : Memref sig .tc .vmem S8x128 .f32) (hqa : qa.IsWhole)
    (qa1 : Memref sig .tc .vmem S8x128 .f32) (hqa1 : qa1.IsWhole)
    (qm : Memref sig .tc .vmem S16x128 .bf16) (hqm : qm.IsWhole)
    (qm1 : Memref sig .tc .vmem S16x128 .bf16) (hqm1 : qm1.IsWhole)
    (t : Memref sig .tc .vmem S512x1536 .f32) (ht : t.IsWhole)
    (t1 : Memref sig .tc .vmem S512x1536 .f32) (ht1 : t1.IsWhole)
    (mx : Memref sig .tc .vmem S512x128 .f32) (hmx : mx.IsWhole)
    (mx1 : Memref sig .tc .vmem S512x128 .f32) (hmx1 : mx1.IsWhole)
    (p : Memref sig .tc .vmem S512x1664 .fp8e4m3) (hp : p.IsWhole)
    (p1 : Memref sig .tc .vmem S512x1664 .fp8e4m3) (hp1 : p1.IsWhole)
    (rl : Memref sig .tc .vmem S512x128 .f32) (hrl : rl.IsWhole)
    (rl1 : Memref sig .tc .vmem S512x128 .f32) (hrl1 : rl1.IsWhole) : Ctx sig F where
  M := fun | .q => q | .qs => qs | .mean => mean | .kq => kq | .vq => vq | .ksc => ksc | .vsc => vsc | .out => out | .o => o | .qw 0 => qw | .qw 1 => qw1 | .qa 0 => qa | .qa 1 => qa1 | .qm 0 => qm | .qm 1 => qm1 | .t 0 => t | .t 1 => t1 | .mx 0 => mx | .mx 1 => mx1 | .p 0 => p | .p 1 => p1 | .rl 0 => rl | .rl 1 => rl1
  W := fun | .q => hq | .qs => hqs | .mean => hmean | .kq => hkq | .vq => hvq | .ksc => hksc | .vsc => hvsc | .out => hout | .o => ho | .qw 0 => hqw | .qw 1 => hqw1 | .qa 0 => hqa | .qa 1 => hqa1 | .qm 0 => hqm | .qm 1 => hqm1 | .t 0 => ht | .t 1 => ht1 | .mx 0 => hmx | .mx 1 => hmx1 | .p 0 => hp | .p 1 => hp1 | .rl 0 => hrl | .rl 1 => hrl1
  SC := Named.named κ "score_scale" 0x3E0293EE#32

/-- The offsets of head 0. -/
def F0 (i : grid0.Coords) : OfsF where
  o1 h := ![0, 0, h.val, 0]
  o2 h := ![0, 0, h.val, 0]
  o3 := ![0, 0, 0, 0]
  o4 := k0_off1 i
  o5 r := k0_off2 i (k0_off2_at r).1 (k0_off2_at r).2
  o6 r := k0_off3 i (BitVec.ofNat 32 (2 * r.val))
  i1 := by decide +kernel
  i2 := by decide +kernel
  i3 := by decide +kernel
  i4 := k0_off1_inb i
  i5 := k0_off2_inb i
  i6 := k0_off3_inb i

/-- The offsets of head 1. -/
def F1 (i : grid0.Coords) : OfsF where
  o1 h := ![0, 0, 4 + h.val, 0]
  o2 h := ![0, 0, 4 + h.val, 0]
  o3 := ![0, 1, 0, 0]
  o4 := k0_off4 i
  o5 r := k0_off5 i (k0_off5_at r).1 (k0_off5_at r).2
  o6 r := k0_off6 i (BitVec.ofNat 32 (2 * r.val))
  i1 := by decide +kernel
  i2 := by decide +kernel
  i3 := by decide +kernel
  i4 := k0_off4_inb i
  i5 := k0_off5_inb i
  i6 := k0_off6_inb i

/-- The offsets of the heads the loop's trip `n` takes the scores of. -/
def FL (i : grid0.Coords) (n : Fin k0_t1_loop.trips) (d : Fin 2) : OfsF where
  o1 h := k0_off10 n (BitVec.ofNat 32 d.val) (BitVec.ofNat 32 h.val)
  o2 h := k0_off11 n (BitVec.ofNat 32 d.val) (BitVec.ofNat 32 h.val)
  o3 := k0_off12 n (BitVec.ofNat 32 d.val)
  o4 := k0_off13 i n (BitVec.ofNat 32 d.val)
  o5 r := k0_off14 i n (k0_off14_at ⟨13 * d.val + r.val, by omega⟩).1 (k0_off14_at ⟨13 * d.val + r.val, by omega⟩).2.1 (k0_off14_at ⟨13 * d.val + r.val, by omega⟩).2.2
  o6 r := k0_off15 i n (BitVec.ofNat 32 d.val) (BitVec.ofNat 32 (2 * r.val))
  i1 := k0_off10_inb n d
  i2 := k0_off11_inb n d
  i3 := k0_off12_inb n d
  i4 := k0_off13_inb i n d
  i5 r := k0_off14_inb i n ⟨13 * d.val + r.val, by omega⟩
  i6 := k0_off15_inb i n d

/-- The offsets of the heads the loop's trip `n` sums the values of. -/
def VL (i : grid0.Coords) (n : Fin k0_t1_loop.trips) (d : Fin 2) : OfsV where
  o7 := k0_off7 i n (BitVec.ofNat 32 d.val)
  o8 := k0_off8 n (BitVec.ofNat 32 d.val)
  o9 h := k0_off9 n (BitVec.ofNat 32 d.val) (BitVec.ofNat 32 (128 * h.val))
  i7 := k0_off7_inb i n d
  i8 := k0_off8_inb n d
  i9 := k0_off9_inb n d
  p9 := k0_off9_packedbf16 n d

/-- The offsets of head 14's values. -/
def V14 (i : grid0.Coords) : OfsV where
  o7 := k0_off16 i
  o8 := ![0, 0, 1792]
  o9 h := ![0, 0, 7168 + 128 * h.val]
  i7 := k0_off16_inb i
  i8 := by decide +kernel
  i9 := by decide +kernel
  p9 := by
    rw [Fin.forall_fin_succ, Fin.forall_fin_succ, Fin.forall_fin_two]
    exact ⟨packedbf16_S1x128x8192_S1x128x128_0_0_7168, packedbf16_S1x128x8192_S1x128x128_0_0_7296, packedbf16_S1x128x8192_S1x128x128_0_0_7424,
      packedbf16_S1x128x8192_S1x128x128_0_0_7552⟩

/-- The offsets of head 15's values. -/
def V15 (i : grid0.Coords) : OfsV where
  o7 := k0_off17 i
  o8 := ![0, 0, 1920]
  o9 h := ![0, 0, 7680 + 128 * h.val]
  i7 := k0_off17_inb i
  i8 := by decide +kernel
  i9 := by decide +kernel
  p9 := by
    rw [Fin.forall_fin_succ, Fin.forall_fin_succ, Fin.forall_fin_two]
    exact ⟨packedbf16_S1x128x8192_S1x128x128_0_0_7680, packedbf16_S1x128x8192_S1x128x128_0_0_7808, packedbf16_S1x128x8192_S1x128x128_0_0_7936,
      packedbf16_S1x128x8192_S1x128x128_0_0_8064⟩

variable (i : grid0.Coords)
    (q : Memref sig .tc .vmem S1x16x512x128 .fp8e4m3) (hq : q.IsWhole)
    (qs : Memref sig .tc .vmem S1x1x64x1 .f32) (hqs : qs.IsWhole)
    (mean : Memref sig .tc .vmem S1x1x64x128 .bf16) (hmean : mean.IsWhole)
    (kq : Memref sig .tc .vmem S1x16x4096x128 .fp8e4m3) (hkq : kq.IsWhole)
    (vq : Memref sig .tc .vmem S1x16x4096x128 .fp8e4m3) (hvq : vq.IsWhole)
    (ksc : Memref sig .tc .vmem S1x16x32x128 .f32) (hksc : ksc.IsWhole)
    (vsc : Memref sig .tc .vmem S1x1x2048 .f32) (hvsc : vsc.IsWhole)
    (out : Memref sig .tc .vmem S1x128x8192 .bf16) (hout : out.IsWhole)
    (o : Memref sig .tc .vmem S512x128 .f32) (ho : o.IsWhole)
    (qw : Memref sig .tc .vmem S512x128 .fp8e4m3) (hqw : qw.IsWhole)
    (qw1 : Memref sig .tc .vmem S512x128 .fp8e4m3) (hqw1 : qw1.IsWhole)
    (qa : Memref sig .tc .vmem S8x128 .f32) (hqa : qa.IsWhole)
    (qa1 : Memref sig .tc .vmem S8x128 .f32) (hqa1 : qa1.IsWhole)
    (qm : Memref sig .tc .vmem S16x128 .bf16) (hqm : qm.IsWhole)
    (qm1 : Memref sig .tc .vmem S16x128 .bf16) (hqm1 : qm1.IsWhole)
    (t : Memref sig .tc .vmem S512x1536 .f32) (ht : t.IsWhole)
    (t1 : Memref sig .tc .vmem S512x1536 .f32) (ht1 : t1.IsWhole)
    (mx : Memref sig .tc .vmem S512x128 .f32) (hmx : mx.IsWhole)
    (mx1 : Memref sig .tc .vmem S512x128 .f32) (hmx1 : mx1.IsWhole)
    (p : Memref sig .tc .vmem S512x1664 .fp8e4m3) (hp : p.IsWhole)
    (p1 : Memref sig .tc .vmem S512x1664 .fp8e4m3) (hp1 : p1.IsWhole)
    (rl : Memref sig .tc .vmem S512x128 .f32) (hrl : rl.IsWhole)
    (rl1 : Memref sig .tc .vmem S512x128 .f32) (hrl1 : rl1.IsWhole)

/-- The printed statements after the heads' loop, up to the middle of the last head's weights. -/
def mid (v9188 : BitVec 32) : Prog (TpuEff nD τ sig (Elt F) Λ₀ .tc) (Σ' (v9260 : IVec S32x128 32), FVec F S32x128 .f32) := do
  let v9220 : BitVec 32 ← k0_part509 i q hq qs hqs mean hmean kq hkq vq hvq ksc hksc vsc hvsc out hout o ho qw hqw qw1 hqw1 qa hqa qa1 hqa1 qm hqm qm1 hqm1 t ht t1 ht1 mx hmx mx1 hmx1 p hp p1 hp1 rl hrl rl1 hrl1 v9188
  let ⟨v9260, v9261⟩ : Σ' (v9260 : IVec S32x128 32), Vec F S32x128 .f32 ← k0_part510 i q hq qs hqs mean hmean kq hkq vq hvq ksc hksc vsc hvsc out hout o ho qw hqw qw1 hqw1 qa hqa qa1 hqa1 qm hqm qm1 hqm1 t ht t1 ht1 mx hmx mx1 hmx1 p hp p1 hp1 rl hrl rl1 hrl1 v9220
  let ⟨v9267, v9297, v9298, v9299⟩ : Σ' (v9267 : FVec F S32x128 .f32) (v9297 : FVec F S32x128 .f32) (v9298 : FVec F S32x128 .f32), FVec F S32x128 .f32 ← k0_part511 i q hq qs hqs mean hmean kq hkq vq hvq ksc hksc vsc hvsc out hout o ho qw hqw qw1 hqw1 qa hqa qa1 hqa1 qm hqm qm1 hqm1 t ht t1 ht1 mx hmx mx1 hmx1 p hp p1 hp1 rl hrl rl1 hrl1 v9260 v9261
  let ⟨v9328, v9336⟩ : Σ' (v9328 : FVec F S32x128 .f32), FVec F S32x128 .f32 ← k0_part512 i q hq qs hqs mean hmean kq hkq vq hvq ksc hksc vsc hvsc out hout o ho qw hqw qw1 hqw1 qa hqa qa1 hqa1 qm hqm qm1 hqm1 t ht t1 ht1 mx hmx mx1 hmx1 p hp p1 hp1 rl hrl rl1 hrl1 v9267 v9297 v9298 v9299
  let v9368 : FVec F S32x128 .f32 ← k0_part513 i q hq qs hqs mean hmean kq hkq vq hvq ksc hksc vsc hvsc out hout o ho qw hqw qw1 hqw1 qa hqa qa1 hqa1 qm hqm qm1 hqm1 t ht t1 ht1 mx hmx mx1 hmx1 p hp p1 hp1 rl hrl rl1 hrl1 v9267 v9328 v9336
  let ⟨v9410, v9411⟩ : Σ' (v9410 : FVec F S32x128 .f32), Vec F S32x128 .f32 ← k0_part514 i q hq qs hqs mean hmean kq hkq vq hvq ksc hksc vsc hvsc out hout o ho qw hqw qw1 hqw1 qa hqa qa1 hqa1 qm hqm qm1 hqm1 t ht t1 ht1 mx hmx mx1 hmx1 p hp p1 hp1 rl hrl rl1 hrl1 v9267 v9368
  let ⟨v9441, v9448⟩ : Σ' (v9441 : FVec F S32x128 .f32), Vec F S32x128 .f32 ← k0_part515 i q hq qs hqs mean hmean kq hkq vq hvq ksc hksc vsc hvsc out hout o ho qw hqw qw1 hqw1 qa hqa qa1 hqa1 qm hqm qm1 hqm1 t ht t1 ht1 mx hmx mx1 hmx1 p hp p1 hp1 rl hrl rl1 hrl1 v9260 v9410 v9411
  let ⟨v9481, v9487⟩ : Σ' (v9481 : FVec F S32x128 .f32), FVec F S32x128 .fp8e4m3 ← k0_part516 i q hq qs hqs mean hmean kq hkq vq hvq ksc hksc vsc hvsc out hout o ho qw hqw qw1 hqw1 qa hqa qa1 hqa1 qm hqm qm1 hqm1 t ht t1 ht1 mx hmx mx1 hmx1 p hp p1 hp1 rl hrl rl1 hrl1 v9410 v9441 v9448
  let ⟨v9521, v9524⟩ : Σ' (v9521 : FVec F S32x128 .f32), FVec F S32x128 .fp8e4m3 ← k0_part517 i q hq qs hqs mean hmean kq hkq vq hvq ksc hksc vsc hvsc out hout o ho qw hqw qw1 hqw1 qa hqa qa1 hqa1 qm hqm qm1 hqm1 t ht t1 ht1 mx hmx mx1 hmx1 p hp p1 hp1 rl hrl rl1 hrl1 v9410 v9481 v9487
  let ⟨v9553, v9556, v9559, v9560, v9562⟩ : Σ' (v9553 : FVec F S32x128 .f32) (v9556 : FVec F S32x128 .f32) (v9559 : FVec F S32x128 .fp8e4m3) (v9560 : FVec F S32x128 .fp8e4m3), IVec S32x128 1 ← k0_part518 i q hq qs hqs mean hmean kq hkq vq hvq ksc hksc vsc hvsc out hout o ho qw hqw qw1 hqw1 qa hqa qa1 hqa1 qm hqm qm1 hqm1 t ht t1 ht1 mx hmx mx1 hmx1 p hp p1 hp1 rl hrl rl1 hrl1 v9260 v9410 v9521 v9524
  let ⟨v9594, v9597⟩ : Σ' (v9594 : FVec F S32x128 .f32), FVec F S32x128 .fp8e4m3 ← k0_part519 i q hq qs hqs mean hmean kq hkq vq hvq ksc hksc vsc hvsc out hout o ho qw hqw qw1 hqw1 qa hqa qa1 hqa1 qm hqm qm1 hqm1 t ht t1 ht1 mx hmx mx1 hmx1 p hp p1 hp1 rl hrl rl1 hrl1 v9553 v9556 v9559 v9560 v9562
  let ⟨v9634, v9637⟩ : Σ' (v9634 : FVec F S32x128 .f32), FVec F S32x128 .fp8e4m3 ← k0_part520 i q hq qs hqs mean hmean kq hkq vq hvq ksc hksc vsc hvsc out hout o ho qw hqw qw1 hqw1 qa hqa qa1 hqa1 qm hqm qm1 hqm1 t ht t1 ht1 mx hmx mx1 hmx1 p hp p1 hp1 rl hrl rl1 hrl1 v9553 v9594 v9597
  let ⟨v9673, v9674⟩ : Σ' (v9673 : FVec F S32x128 .f32), FVec F S32x128 .f32 ← k0_part521 i q hq qs hqs mean hmean kq hkq vq hvq ksc hksc vsc hvsc out hout o ho qw hqw qw1 hqw1 qa hqa qa1 hqa1 qm hqm qm1 hqm1 t ht t1 ht1 mx hmx mx1 hmx1 p hp p1 hp1 rl hrl rl1 hrl1 v9553 v9634 v9637
  let ⟨v9696, v9699, v9710, v9711⟩ : Σ' (v9696 : FVec F S32x128 .f32) (v9699 : FVec F S32x128 .f32) (v9710 : FVec F S32x128 .fp8e4m3), Vec F S32x128 .fp8e4m3 ← k0_part522 i q hq qs hqs mean hmean kq hkq vq hvq ksc hksc vsc hvsc out hout o ho qw hqw qw1 hqw1 qa hqa qa1 hqa1 qm hqm qm1 hqm1 t ht t1 ht1 mx hmx mx1 hmx1 p hp p1 hp1 rl hrl rl1 hrl1 v9260 v9673 v9674
  let ⟨v9747, v9749⟩ : Σ' (v9747 : FVec F S32x128 .f32), FVec F S32x128 .f32 ← k0_part523 i q hq qs hqs mean hmean kq hkq vq hvq ksc hksc vsc hvsc out hout o ho qw hqw qw1 hqw1 qa hqa qa1 hqa1 qm hqm qm1 hqm1 t ht t1 ht1 mx hmx mx1 hmx1 p hp p1 hp1 rl hrl rl1 hrl1 v9696 v9699 v9710 v9711
  let ⟨v9777, v9786⟩ : Σ' (v9777 : FVec F S32x128 .f32), FVec F S32x128 .f32 ← k0_part524 i q hq qs hqs mean hmean kq hkq vq hvq ksc hksc vsc hvsc out hout o ho qw hqw qw1 hqw1 qa hqa qa1 hqa1 qm hqm qm1 hqm1 t ht t1 ht1 mx hmx mx1 hmx1 p hp p1 hp1 rl hrl rl1 hrl1 v9696 v9747 v9749
  let v9817 : FVec F S32x128 .f32 ← k0_part525 i q hq qs hqs mean hmean kq hkq vq hvq ksc hksc vsc hvsc out hout o ho qw hqw qw1 hqw1 qa hqa qa1 hqa1 qm hqm qm1 hqm1 t ht t1 ht1 mx hmx mx1 hmx1 p hp p1 hp1 rl hrl rl1 hrl1 v9696 v9777 v9786
  let ⟨v9839, v9859, v9860, v9861⟩ : Σ' (v9839 : FVec F S32x128 .f32) (v9859 : FVec F S32x128 .f32) (v9860 : FVec F S32x128 .f32), FVec F S32x128 .f32 ← k0_part526 i q hq qs hqs mean hmean kq hkq vq hvq ksc hksc vsc hvsc out hout o ho qw hqw qw1 hqw1 qa hqa qa1 hqa1 qm hqm qm1 hqm1 t ht t1 ht1 mx hmx mx1 hmx1 p hp p1 hp1 rl hrl rl1 hrl1 v9260 v9817
  let ⟨v9890, v9898⟩ : Σ' (v9890 : FVec F S32x128 .f32), FVec F S32x128 .f32 ← k0_part527 i q hq qs hqs mean hmean kq hkq vq hvq ksc hksc vsc hvsc out hout o ho qw hqw qw1 hqw1 qa hqa qa1 hqa1 qm hqm qm1 hqm1 t ht t1 ht1 mx hmx mx1 hmx1 p hp p1 hp1 rl hrl rl1 hrl1 v9839 v9859 v9860 v9861
  let v9930 : FVec F S32x128 .f32 ← k0_part528 i q hq qs hqs mean hmean kq hkq vq hvq ksc hksc vsc hvsc out hout o ho qw hqw qw1 hqw1 qa hqa qa1 hqa1 qm hqm qm1 hqm1 t ht t1 ht1 mx hmx mx1 hmx1 p hp p1 hp1 rl hrl rl1 hrl1 v9839 v9890 v9898
  let v9972 : FVec F S32x128 .f32 ← k0_part529 i q hq qs hqs mean hmean kq hkq vq hvq ksc hksc vsc hvsc out hout o ho qw hqw qw1 hqw1 qa hqa qa1 hqa1 qm hqm qm1 hqm1 t ht t1 ht1 mx hmx mx1 hmx1 p hp p1 hp1 rl hrl rl1 hrl1 v9839 v9930
  pure ⟨v9260, v9972⟩

/-- The printed statements from there on. -/
def tail (r : Σ' (v9260 : IVec S32x128 32), FVec F S32x128 .f32) : Prog (TpuEff nD τ sig (Elt F) Λ₀ .tc) PUnit := do
  let _ ← k0_part577 i q hq qs hqs mean hmean kq hkq vq hvq ksc hksc vsc hvsc out hout o ho qw hqw qw1 hqw1 qa hqa qa1 hqa1 qm hqm qm1 hqm1 t ht t1 ht1 mx hmx mx1 hmx1 p hp p1 hp1 rl hrl rl1 hrl1 (BitVec.ofNat 32 (i 1).val) r.1 r.2
  emit (ctx (F := F) q hq qs hqs mean hmean kq hkq vq hvq ksc hksc vsc hvsc out hout o ho qw hqw qw1 hqw1 qa hqa qa1 hqa1 qm hqm qm1 hqm1 t ht t1 ht1 mx hmx mx1 hmx1 p hp p1 hp1 rl hrl rl1 hrl1) (V15 i) 3

/-- The printed statements after the loop are the last two heads' values around the last head's weights. -/
theorem post_eq : (mid (F := F) i q hq qs hqs mean hmean kq hkq vq hvq ksc hksc vsc hvsc out hout o ho qw hqw qw1 hqw1 qa hqa qa1 hqa1 qm hqm qm1 hqm1 t ht t1 ht1 mx hmx mx1 hmx1 p hp p1 hp1 rl hrl rl1 hrl1 (Scalar.muli (BitVec.ofNat 32 (i 1).val) 128#32) >>= tail (F := F) i q hq qs hqs mean hmean kq hkq vq hvq ksc hksc vsc hvsc out hout o ho qw hqw qw1 hqw1 qa hqa qa1 hqa1 qm hqm qm1 hqm1 t ht t1 ht1 mx hmx mx1 hmx1 p hp p1 hp1 rl hrl rl1 hrl1) =
    (do
      values (ctx (F := F) q hq qs hqs mean hmean kq hkq vq hvq ksc hksc vsc hvsc out hout o ho qw hqw qw1 hqw1 qa hqa qa1 hqa1 qm hqm qm1 hqm1 t ht t1 ht1 mx hmx mx1 hmx1 p hp p1 hp1 rl hrl rl1 hrl1) 0 (V14 i)
      second (ctx (F := F) q hq qs hqs mean hmean kq hkq vq hvq ksc hksc vsc hvsc out hout o ho qw hqw qw1 hqw1 qa hqa qa1 hqa1 qm hqm qm1 hqm1 t ht t1 ht1 mx hmx mx1 hmx1 p hp p1 hp1 rl hrl rl1 hrl1) 1
      values (ctx (F := F) q hq qs hqs mean hmean kq hkq vq hvq ksc hksc vsc hvsc out hout o ho qw hqw qw1 hqw1 qa hqa qa1 hqa1 qm hqm qm1 hqm1 t ht t1 ht1 mx hmx mx1 hmx1 p hp p1 hp1 rl hrl rl1 hrl1) 1 (V15 i)) := by
  chain_rfl

/-- The heads' loop. -/
def loop : Prog (TpuEff nD τ sig (Elt F) Λ₀ .tc) PUnit :=
  Scf.for k0_t1_loop.lb k0_t1_loop.ub k0_t1_loop.st k0_t1_ok PUnit.unit fun n (_ : PUnit) => do
    values (ctx (F := F) q hq qs hqs mean hmean kq hkq vq hvq ksc hksc vsc hvsc out hout o ho qw hqw qw1 hqw1 qa hqa qa1 hqa1 qm hqm qm1 hqm1 t ht t1 ht1 mx hmx mx1 hmx1 p hp p1 hp1 rl hrl rl1 hrl1) 0 (VL i n 0)
    second (ctx (F := F) q hq qs hqs mean hmean kq hkq vq hvq ksc hksc vsc hvsc out hout o ho qw hqw qw1 hqw1 qa hqa qa1 hqa1 qm hqm qm1 hqm1 t ht t1 ht1 mx hmx mx1 hmx1 p hp p1 hp1 rl hrl rl1 hrl1) 1
    first (ctx (F := F) q hq qs hqs mean hmean kq hkq vq hvq ksc hksc vsc hvsc out hout o ho qw hqw qw1 hqw1 qa hqa qa1 hqa1 qm hqm qm1 hqm1 t ht t1 ht1 mx hmx mx1 hmx1 p hp p1 hp1 rl hrl rl1 hrl1) 0 (FL i n 0)
    values (ctx (F := F) q hq qs hqs mean hmean kq hkq vq hvq ksc hksc vsc hvsc out hout o ho qw hqw qw1 hqw1 qa hqa qa1 hqa1 qm hqm qm1 hqm1 t ht t1 ht1 mx hmx mx1 hmx1 p hp p1 hp1 rl hrl rl1 hrl1) 1 (VL i n 1)
    second (ctx (F := F) q hq qs hqs mean hmean kq hkq vq hvq ksc hksc vsc hvsc out hout o ho qw hqw qw1 hqw1 qa hqa qa1 hqa1 qm hqm qm1 hqm1 t ht t1 ht1 mx hmx mx1 hmx1 p hp p1 hp1 rl hrl rl1 hrl1) 0
    first (ctx (F := F) q hq qs hqs mean hmean kq hkq vq hvq ksc hksc vsc hvsc out hout o ho qw hqw qw1 hqw1 qa hqa qa1 hqa1 qm hqm qm1 hqm1 t ht t1 ht1 mx hmx mx1 hmx1 p hp p1 hp1 rl hrl rl1 hrl1) 1 (FL i n 1)

/-- The printed body, the statements after the loop grouped as they are printed. -/
theorem text_eq : cc0_attention (F := F) i q hq qs hqs mean hmean kq hkq vq hvq ksc hksc vsc hvsc out hout o ho qw hqw qw1 hqw1 qa hqa qa1 hqa1 qm hqm qm1 hqm1 t ht t1 ht1 mx hmx mx1 hmx1 p hp p1 hp1 rl hrl rl1 hrl1 =
    (do
      first (ctx (F := F) q hq qs hqs mean hmean kq hkq vq hvq ksc hksc vsc hvsc out hout o ho qw hqw qw1 hqw1 qa hqa qa1 hqa1 qm hqm qm1 hqm1 t ht t1 ht1 mx hmx mx1 hmx1 p hp p1 hp1 rl hrl rl1 hrl1) 0 (F0 i)
      first (ctx (F := F) q hq qs hqs mean hmean kq hkq vq hvq ksc hksc vsc hvsc out hout o ho qw hqw qw1 hqw1 qa hqa qa1 hqa1 qm hqm qm1 hqm1 t ht t1 ht1 mx hmx mx1 hmx1 p hp p1 hp1 rl hrl rl1 hrl1) 1 (F1 i)
      second (ctx (F := F) q hq qs hqs mean hmean kq hkq vq hvq ksc hksc vsc hvsc out hout o ho qw hqw qw1 hqw1 qa hqa qa1 hqa1 qm hqm qm1 hqm1 t ht t1 ht1 mx hmx mx1 hmx1 p hp p1 hp1 rl hrl rl1 hrl1) 0
      ((loop (F := F) i q hq qs hqs mean hmean kq hkq vq hvq ksc hksc vsc hvsc out hout o ho qw hqw qw1 hqw1 qa hqa qa1 hqa1 qm hqm qm1 hqm1 t ht t1 ht1 mx hmx mx1 hmx1 p hp p1 hp1 rl hrl rl1 hrl1 >>= fun _ => pure (Scalar.muli (BitVec.ofNat 32 (i 1).val) 128#32)) >>= mid (F := F) i q hq qs hqs mean hmean kq hkq vq hvq ksc hksc vsc hvsc out hout o ho qw hqw qw1 hqw1 qa hqa qa1 hqa1 qm hqm qm1 hqm1 t ht t1 ht1 mx hmx mx1 hmx1 p hp p1 hp1 rl hrl rl1 hrl1) >>= tail (F := F) i q hq qs hqs mean hmean kq hkq vq hvq ksc hksc vsc hvsc out hout o ho qw hqw qw1 hqw1 qa hqa qa1 hqa1 qm hqm qm1 hqm1 t ht t1 ht1 mx hmx mx1 hmx1 p hp p1 hp1 rl hrl rl1 hrl1) := by
  chain_rfl

/-- The body of the printed kernel, its text folded. -/
theorem body_eq : cc0_attention (F := F) i q hq qs hqs mean hmean kq hkq vq hvq ksc hksc vsc hvsc out hout o ho qw hqw qw1 hqw1 qa hqa qa1 hqa1 qm hqm qm1 hqm1 t ht t1 ht1 mx hmx mx1 hmx1 p hp p1 hp1 rl hrl rl1 hrl1 =
    tile (ctx (F := F) q hq qs hqs mean hmean kq hkq vq hvq ksc hksc vsc hvsc out hout o ho qw hqw qw1 hqw1 qa hqa qa1 hqa1 qm hqm qm1 hqm1 t ht t1 ht1 mx hmx mx1 hmx1 p hp p1 hp1 rl hrl rl1 hrl1) k0_t1_ok (F0 i) (F1 i) (FL i) (VL i) (V14 i) (V15 i) := by
  refine (text_eq (F := F) i q hq qs hqs mean hmean kq hkq vq hvq ksc hksc vsc hvsc out hout o ho qw hqw qw1 hqw1 qa hqa qa1 hqa1 qm hqm qm1 hqm1 t ht t1 ht1 mx hmx mx1 hmx1 p hp p1 hp1 rl hrl rl1 hrl1).trans ?_
  rw [bind_assoc3 _ _ _ _ _ (post_eq (F := F) i q hq qs hqs mean hmean kq hkq vq hvq ksc hksc vsc hvsc out hout o ho qw hqw qw1 hqw1 qa hqa qa1 hqa1 qm hqm qm1 hqm1 t ht t1 ht1 mx hmx mx1 hmx1 p hp p1 hp1 rl hrl rl1 hrl1)]
  rfl

end Cert.Proof.Attn.KernelIdeal

end
-- ==== Proof.Attn.RunIdeal.lean ====
/- The run of `@main` of `KernelIdeal`: each grid point's body leaves its output block, so the result array is `Attn.result`
   of the argument arrays. -/
module

public import proofs.«01_k».proof.Proof.Attn.TextIdeal
public import proofs.«01_k».proof.Proof.Attn.Value
public import proofs.«01_k».proof.Proof.Gen.KernelIdeal.Frame
public import Idealize.ShloMosaic.Lib.Tactic
public import Idealize.ShloMosaic.Lib.Pipeline.ValueKit.Geometry

@[expose] public section

noncomputable section

namespace Cert.Proof.Attn.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ΦA)
open Cert.KernelIdeal Cert.KernelIdeal.Gen

variable {F : FTy → Type} [FloatOps F] [Named F]

local notation "𝕄" => MT nD τ sig Unit (Elt F) ℕ (UR sig nD τ) ℕ

abbrev 𝒱₀ : Variants := Variants.none

/-- The score scale. -/
abbrev SC : F .f32 := Named.named κ "score_scale" 0x3E0293EE#32

/-! ## What the body's accesses read -/

theorem trips_eq : k0_t1_loop.trips = 7 := by decide +kernel

theorem ksc0 : ∀ (i : grid0.Coords) (r : Fin 13), k0_off2 i (k0_off2_at r).1 (k0_off2_at r).2 = ![0, 0, (i 1).val + kscIx r, 0] := by
  decide +kernel
theorem ksc1 : ∀ (i : grid0.Coords) (r : Fin 13), k0_off5 i (k0_off5_at r).1 (k0_off5_at r).2 = ![0, 1, (i 1).val + kscIx r, 0] := by
  decide +kernel
theorem kscL : ∀ (i : grid0.Coords) (n : Fin k0_t1_loop.trips) (d : Fin 2) (r : Fin 13),
    k0_off14 i n (k0_off14_at ⟨13 * d.val + r.val, by omega⟩).1 (k0_off14_at ⟨13 * d.val + r.val, by omega⟩).2.1
      (k0_off14_at ⟨13 * d.val + r.val, by omega⟩).2.2 = ![0, 2 * n.val + 2 + d.val, (i 1).val + kscIx r, 0] := by
  decide +kernel

theorem hin0 (i : grid0.Coords) (σ : St F) : hin (F0 i) σ = headK (Blk.of σ) (i 1).val 0 :=
  hin_eq _ _ _ _
    (fun h => by show ![0, 0, h.val, 0] = ![0, 0, 4 * 0 + h.val, 0]; rw [show 4 * 0 + h.val = h.val by omega])
    (fun h => by show ![0, 0, h.val, 0] = ![0, 0, 4 * 0 + h.val, 0]; rw [show 4 * 0 + h.val = h.val by omega])
    rfl (k0_off1_eq i) (ksc0 i) (k0_off3_eq i)

theorem hin1 (i : grid0.Coords) (σ : St F) : hin (F1 i) σ = headK (Blk.of σ) (i 1).val 1 :=
  hin_eq _ _ _ _ (fun h => rfl) (fun h => rfl) rfl (k0_off4_eq i) (ksc1 i) (k0_off6_eq i)

theorem hinL (i : grid0.Coords) (σ : St F) (n : Fin k0_t1_loop.trips) (d : Fin 2) :
    hin (FL i n d) σ = headK (Blk.of σ) (i 1).val (2 * n.val + 2 + d.val) :=
  hin_eq _ _ _ _
    (fun h => (k0_off10_eq n d h).trans (by rw [show 8 * n.val + 4 * d.val + h.val + 8 = 4 * (2 * n.val + 2 + d.val) + h.val by omega]))
    (fun h => (k0_off11_eq n d h).trans (by rw [show 8 * n.val + 4 * d.val + h.val + 8 = 4 * (2 * n.val + 2 + d.val) + h.val by omega]))
    ((k0_off12_eq n d).trans (by rw [show 2 * n.val + d.val + 2 = 2 * n.val + 2 + d.val by omega]))
    ((k0_off13_eq i n d).trans (by rw [show 2 * n.val + d.val + 2 = 2 * n.val + 2 + d.val by omega]))
    (kscL i n d)
    (fun r => (k0_off15_eq i n d r).trans (by rw [show 2 * n.val + d.val + 2 = 2 * n.val + 2 + d.val by omega]))

theorem vinL (i : grid0.Coords) (σ : St F) (n : Fin k0_t1_loop.trips) (d : Fin 2) :
    vin (VL i n d) σ = headV (Blk.of σ) (i 1).val (2 * n.val + d.val) :=
  vin_eq _ _ _ _ (k0_off7_eq i n d)
    ((k0_off8_eq n d).trans (by rw [show 256 * n.val + 128 * d.val = 128 * (2 * n.val + d.val) by omega]))

theorem vin14 (i : grid0.Coords) (σ : St F) : vin (V14 i) σ = headV (Blk.of σ) (i 1).val 14 := vin_eq _ _ _ _ (k0_off16_eq i) rfl
theorem vin15 (i : grid0.Coords) (σ : St F) : vin (V15 i) σ = headV (Blk.of σ) (i 1).val 15 := vin_eq _ _ _ _ (k0_off17_eq i) rfl

theorem outL (i : grid0.Coords) (n : Fin k0_t1_loop.trips) (d : Fin 2) (h : Fin 4) :
    (VL i n d).o9 h = ![0, 0, 512 * (2 * n.val + d.val) + 128 * h.val] :=
  (k0_off9_eq n d h).trans (by rw [show 1024 * n.val + 512 * d.val + 128 * h.val = 512 * (2 * n.val + d.val) + 128 * h.val by omega])

/-! ## The body -/

/-- The kernel body on whole buffers leaves the blocks it is given and writes `tileOut` of them. -/
theorem kernel_run (c : Dev nD) (i : grid0.Coords) (E : Set ℕ)
    (q : Memref sig .tc .vmem S1x16x512x128 .fp8e4m3) (hq : q.IsWhole)
    (qs : Memref sig .tc .vmem S1x1x64x1 .f32) (hqs : qs.IsWhole)
    (mean : Memref sig .tc .vmem S1x1x64x128 .bf16) (hmean : mean.IsWhole)
    (kq : Memref sig .tc .vmem S1x16x4096x128 .fp8e4m3) (hkq : kq.IsWhole)
    (vq : Memref sig .tc .vmem S1x16x4096x128 .fp8e4m3) (hvq : vq.IsWhole)
    (ksc : Memref sig .tc .vmem S1x16x32x128 .f32) (hksc : ksc.IsWhole)
    (vsc : Memref sig .tc .vmem S1x1x2048 .f32) (hvsc : vsc.IsWhole)
    (out : Memref sig .tc .vmem S1x128x8192 .bf16) (hout : out.IsWhole)
    (o : Memref sig .tc .vmem S512x128 .f32) (ho : o.IsWhole)
    (qw : Memref sig .tc .vmem S512x128 .fp8e4m3) (hqw : qw.IsWhole)
    (qw1 : Memref sig .tc .vmem S512x128 .fp8e4m3) (hqw1 : qw1.IsWhole)
    (qa : Memref sig .tc .vmem S8x128 .f32) (hqa : qa.IsWhole)
    (qa1 : Memref sig .tc .vmem S8x128 .f32) (hqa1 : qa1.IsWhole)
    (qm : Memref sig .tc .vmem S16x128 .bf16) (hqm : qm.IsWhole)
    (qm1 : Memref sig .tc .vmem S16x128 .bf16) (hqm1 : qm1.IsWhole)
    (t : Memref sig .tc .vmem S512x1536 .f32) (ht : t.IsWhole)
    (t1 : Memref sig .tc .vmem S512x1536 .f32) (ht1 : t1.IsWhole)
    (mx : Memref sig .tc .vmem S512x128 .f32) (hmx : mx.IsWhole)
    (mx1 : Memref sig .tc .vmem S512x128 .f32) (hmx1 : mx1.IsWhole)
    (p : Memref sig .tc .vmem S512x1664 .fp8e4m3) (hp : p.IsWhole)
    (p1 : Memref sig .tc .vmem S512x1664 .fp8e4m3) (hp1 : p1.IsWhole)
    (rl : Memref sig .tc .vmem S512x128 .f32) (hrl : rl.IsWhole)
    (rl1 : Memref sig .tc .vmem S512x128 .f32) (hrl1 : rl1.IsWhole)
    (B : Blk F) (K : PUnit → sProp 𝕄) :
    iprop((owns (c : Thread nD τ) q fullShare B.q ∗ owns (c : Thread nD τ) qs fullShare B.qs ∗ owns (c : Thread nD τ) mean fullShare B.mean
          ∗ owns (c : Thread nD τ) kq fullShare B.kq ∗ owns (c : Thread nD τ) vq fullShare B.vq ∗ owns (c : Thread nD τ) ksc fullShare B.ksc
          ∗ owns (c : Thread nD τ) vsc fullShare B.vsc)
        ∗ (∃ d, owns (c : Thread nD τ) out fullShare d)
        ∗ Scr c (ctx (F := F) q hq qs hqs mean hmean kq hkq vq hvq ksc hksc vsc hvsc out hout o ho qw hqw qw1 hqw1 qa hqa qa1 hqa1 qm hqm qm1 hqm1 t ht t1 ht1 mx hmx mx1 hmx1 p hp p1 hp1 rl hrl rl1 hrl1).M
        ∗ (iprop((owns (c : Thread nD τ) q fullShare B.q ∗ owns (c : Thread nD τ) qs fullShare B.qs ∗ owns (c : Thread nD τ) mean fullShare B.mean
            ∗ owns (c : Thread nD τ) kq fullShare B.kq ∗ owns (c : Thread nD τ) vq fullShare B.vq ∗ owns (c : Thread nD τ) ksc fullShare B.ksc
            ∗ owns (c : Thread nD τ) vsc fullShare B.vsc)
            ∗ owns (c : Thread nD τ) out fullShare (tileOut SC B (i 1).val)
            ∗ Scr c (ctx (F := F) q hq qs hqs mean hmean kq hkq vq hvq ksc hksc vsc hvsc out hout o ho qw hqw qw1 hqw1 qa hqa qa1 hqa1 qm hqm qm1 hqm1 t ht t1 ht1 mx hmx mx1 hmx1 p hp p1 hp1 rl hrl rl1 hrl1).M) -∗ K ⟨⟩))
      ⊢ wp frame (wpE (defs₀ (F := F)) 𝒱₀ (c : Thread nD τ) none) E
          (cc0_attention (F := F) i q hq qs hqs mean hmean kq hkq vq hvq ksc hksc vsc hvsc out hout o ho qw hqw qw1 hqw1 qa hqa qa1 hqa1 qm hqm qm1 hqm1 t ht t1 ht1 mx hmx mx1 hmx1 p hp p1 hp1 rl hrl rl1 hrl1) K := by
  rw [body_eq]
  refine run_of (X := ctx (F := F) q hq qs hqs mean hmean kq hkq vq hvq ksc hksc vsc hvsc out hout o ho qw hqw qw1 hqw1 qa hqa qa1 hqa1 qm hqm qm1 hqm1 t ht t1 ht1 mx hmx mx1 hmx1 p hp p1 hp1 rl hrl rl1 hrl1)
    c B (tileOut SC B (i 1).val) (fun σ₀ h => ?_) K
  subst h
  exact tile_spec k0_t1_ok (F0 i) (F1 i) (FL i) (VL i) (V14 i) (V15 i) trips_eq σ₀ (headK (Blk.of σ₀) (i 1).val) (headV (Blk.of σ₀) (i 1).val)
    (hin0 i σ₀) (hin1 i σ₀) (hinL i σ₀) (vinL i σ₀) (vin14 i σ₀) (vin15 i σ₀) (outL i) (fun h => rfl) (fun h => rfl)

/-! ## The grid -/

variable (m : (ℓ : Loc nD τ sig) → Buf (Elt F) ℓ) (ρ : Dev nD → PrngReg)

/-- The blocks a point is given. -/
def blks (c : Dev nD) (t : Fin cfg0.N) : Blk F :=
  ⟨iblk m c 0 t, iblk m c 1 t, iblk m c 2 t, iblk m c 3 t, iblk m c 4 t, iblk m c 5 t, iblk m c 6 t⟩

/-- What the body leaves in the output's buffer at a point. -/
def outsAt (c : Dev nD) (t : Fin cfg0.N) : Vec F S1x128x8192 .bf16 := tileOut SC (blks m c t) (grid0.coords t 1).val

/-- Each input's buffer ends at its block and the output's at `outsAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outsAt m c t
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outsAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- The scratch buffers among the body's buffers are the call's scratch. -/
theorem scr_eq (c : Dev nD) (M : ∀ b : Slot, Memref sig .tc .vmem b.shp b.elt)
    (h : M .o = Memref.whole cc0_scratch0 ∧ M (.qw 0) = Memref.whole cc0_scratch1 ∧ M (.qw 1) = Memref.whole cc0_scratch2
      ∧ M (.qa 0) = Memref.whole cc0_scratch3 ∧ M (.qa 1) = Memref.whole cc0_scratch4 ∧ M (.qm 0) = Memref.whole cc0_scratch5
      ∧ M (.qm 1) = Memref.whole cc0_scratch6 ∧ M (.t 0) = Memref.whole cc0_scratch7 ∧ M (.t 1) = Memref.whole cc0_scratch8
      ∧ M (.mx 0) = Memref.whole cc0_scratch9 ∧ M (.mx 1) = Memref.whole cc0_scratch10 ∧ M (.p 0) = Memref.whole cc0_scratch11
      ∧ M (.p 1) = Memref.whole cc0_scratch12 ∧ M (.rl 0) = Memref.whole cc0_scratch13 ∧ M (.rl 1) = Memref.whole cc0_scratch14) :
    (Pipeline.scopedRest (Ix := Unit) (Name := ℕ) (U := UR sig nD τ) (Lvl := ℕ) (Val := Elt F) spec0 c : sProp 𝕄) = Scr c M := by
  obtain ⟨h0, h1, h2, h3, h4, h5, h6, h7, h8, h9, h10, h11, h12, h13, h14⟩ := h
  rw [scopedRest0_eq]
  unfold Scr Some'
  rw [h0, h1, h2, h3, h4, h5, h6, h7, h8, h9, h10, h11, h12, h13, h14]
  simp only [← owns_whole]
  rfl

theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    show (dats m 0 c).Φ t.castSucc = iprop(Pipeline.scopedRest (Ix := Unit) (Name := ℕ) (U := UR sig nD τ) (Lvl := ℕ) (Val := Elt F) spec0 c ∗ ∃ r, prngReg c r) from rfl,
    after0_0, after0_1, after0_2, after0_3, after0_4, after0_5, after0_6, after0_7]
  unfold outsAt
  iintro ⟨⟨HΦ, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (kernel_run c (grid0.coords t) Set.univ _ _ _ _ _ _ _ _ _ _ _ _ _ _ _ _ _ _ _ _ _ _ _ _ _ _ _ _ _ _ _ _ _ _ _ _ _ _ _ _ _ _ _ _ _ _ (blks m c t) _)
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  isplitl [H7]; · iexists _; iexact H7
  rw [← scr_eq c _ ⟨rfl, rfl, rfl, rfl, rfl, rfl, rfl, rfl, rfl, rfl, rfl, rfl, rfl, rfl, rfl⟩]
  isplitl [HΦ]; · iexact HΦ
  iintro ⟨⟨H0, H1, H2, H3, H4, H5, H6⟩, H7, HΦ⟩
  isplitl [HΦ Hr]
  · isplitl [HΦ]; · iexact HΦ
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option backward.isDefEq.respectTransparency.types false in
/-- Every run ends with the pipeline's arrays at the contents its blocks give and every semaphore at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl) (hΦ := fun _ _ => rfl)

end Cert.Proof.Attn.KernelIdeal

end
-- ==== Proof.Attn.FinalIdeal.lean ====
/- The arrays `KernelIdeal` ends with: the result array is `Attn.result` of the argument arrays, which are unchanged. -/
module

public import proofs.«01_k».proof.Proof.Attn.RunIdeal
public import Idealize.ShloMosaic.Lib.Pipeline.ValueKit.Geometry

@[expose] public section

noncomputable section

namespace Cert.Proof.Attn.KernelIdeal

open Idealize.ShloMosaic Idealize.ShloMosaic.TcCoe Idealize.SL.Sem
open Idealize.ShloMosaic.Pipeline (Dat)
open Cert.KernelIdeal Cert.KernelIdeal.Gen

variable {F : FTy → Type} [FloatOps F] [Named F]
variable (m : (ℓ : Loc nD τ sig) → Buf (Elt F) ℓ) (ρ : Dev nD → PrngReg)

/-- The argument arrays. -/
def args (c : Dev nD) : Arr F :=
  ⟨V m c main_arg0, V m c main_arg1, V m c main_arg2, V m c main_arg3, V m c main_arg4, V m c main_arg5, V m c main_arg6⟩

theorem index0 : ∀ t : Fin cfg0.N, win0_0.index t = ![(grid0.coords t 0).val, 0, (grid0.coords t 1).val, 0] := (by decide +kernel : ∀ t : Fin grid0.N, _)
theorem index1 : ∀ t : Fin cfg0.N, win0_1.index t = ![(grid0.coords t 0).val, (grid0.coords t 1).val, 0, 0] := (by decide +kernel : ∀ t : Fin grid0.N, _)
theorem index2 : ∀ t : Fin cfg0.N, win0_2.index t = ![(grid0.coords t 0).val, (grid0.coords t 1).val, 0, 0] := (by decide +kernel : ∀ t : Fin grid0.N, _)
theorem index3 : ∀ t : Fin cfg0.N, win0_3.index t = ![(grid0.coords t 0).val, 0, 0, 0] := (by decide +kernel : ∀ t : Fin grid0.N, _)
theorem index4 : ∀ t : Fin cfg0.N, win0_4.index t = ![(grid0.coords t 0).val, 0, 0, 0] := (by decide +kernel : ∀ t : Fin grid0.N, _)
theorem index5 : ∀ t : Fin cfg0.N, win0_5.index t = ![(grid0.coords t 0).val, 0, 0, 0] := (by decide +kernel : ∀ t : Fin grid0.N, _)
theorem index6 : ∀ t : Fin cfg0.N, win0_6.index t = ![(grid0.coords t 0).val, 0, 0] := (by decide +kernel : ∀ t : Fin grid0.N, _)
theorem index7 : ∀ t : Fin cfg0.N, win0_7.index t = ![(grid0.coords t 0).val, (grid0.coords t 1).val, 0] := (by decide +kernel : ∀ t : Fin grid0.N, _)

theorem iblk0 (c : Dev nD) (t : Fin cfg0.N) : iblk m c 0 t = ((args m c).blk (grid0.coords t 0).val (grid0.coords t 1).val).q := by
  funext y
  refine at'_of _ apos1 _ _ fun a => ?_
  blk_simp [index0]
  revert a
  simp only [Fin.forall_fin_succ]
  refine ⟨?_, ?_, ?_, ?_, fun a => a.elim0⟩ <;> simp <;> omega

theorem iblk1 (c : Dev nD) (t : Fin cfg0.N) : iblk m c 1 t = ((args m c).blk (grid0.coords t 0).val (grid0.coords t 1).val).qs := by
  funext y
  refine at'_of _ apos2 _ _ fun a => ?_
  blk_simp [index1]
  revert a
  simp only [Fin.forall_fin_succ]
  refine ⟨?_, ?_, ?_, ?_, fun a => a.elim0⟩ <;> simp <;> omega

theorem iblk2 (c : Dev nD) (t : Fin cfg0.N) : iblk m c 2 t = ((args m c).blk (grid0.coords t 0).val (grid0.coords t 1).val).mean := by
  funext y
  refine at'_of _ apos3 _ _ fun a => ?_
  blk_simp [index2]
  revert a
  simp only [Fin.forall_fin_succ]
  refine ⟨?_, ?_, ?_, ?_, fun a => a.elim0⟩ <;> simp <;> omega

theorem iblk3 (c : Dev nD) (t : Fin cfg0.N) : iblk m c 3 t = ((args m c).blk (grid0.coords t 0).val (grid0.coords t 1).val).kq := by
  funext y
  refine at'_of _ apos4 _ _ fun a => ?_
  blk_simp [index3]
  revert a
  simp only [Fin.forall_fin_succ]
  refine ⟨?_, ?_, ?_, ?_, fun a => a.elim0⟩ <;> simp <;> omega

theorem iblk4 (c : Dev nD) (t : Fin cfg0.N) : iblk m c 4 t = ((args m c).blk (grid0.coords t 0).val (grid0.coords t 1).val).vq := by
  funext y
  refine at'_of _ apos4 _ _ fun a => ?_
  blk_simp [index4]
  revert a
  simp only [Fin.forall_fin_succ]
  refine ⟨?_, ?_, ?_, ?_, fun a => a.elim0⟩ <;> simp <;> omega

theorem iblk5 (c : Dev nD) (t : Fin cfg0.N) : iblk m c 5 t = ((args m c).blk (grid0.coords t 0).val (grid0.coords t 1).val).ksc := by
  funext y
  refine at'_of _ apos5 _ _ fun a => ?_
  blk_simp [index5]
  revert a
  simp only [Fin.forall_fin_succ]
  refine ⟨?_, ?_, ?_, ?_, fun a => a.elim0⟩ <;> simp <;> omega

theorem iblk6 (c : Dev nD) (t : Fin cfg0.N) : iblk m c 6 t = ((args m c).blk (grid0.coords t 0).val (grid0.coords t 1).val).vsc := by
  funext y
  refine at'_of _ apos6 _ _ fun a => ?_
  blk_simp [index6]
  revert a
  simp only [Fin.forall_fin_succ]
  refine ⟨?_, ?_, ?_, fun a => a.elim0⟩ <;> simp <;> omega

theorem blks_eq (c : Dev nD) (t : Fin cfg0.N) : blks m c t = (args m c).blk (grid0.coords t 0).val (grid0.coords t 1).val := by
  unfold blks
  rw [iblk0, iblk1, iblk2, iblk3, iblk4, iblk5, iblk6]

/-- The result array after the last point. -/
theorem final_out (c : Dev nD) : (dats m 0 c).arrAt 7 cfg0.N = result SC (args m c) := by
  refine (dats m 0 c).arrAt_eq_of_covers 7 _ (by decide +kernel) fun t hf y => ?_
  blk_simp
  rw [after0_7]
  unfold outsAt
  rw [blks_eq]
  refine result_at SC (args m c) _ y _ _ ?_ ?_ ?_
  all_goals
    idx_bounds y
    blk_simp [index7]
    try simp
    try omega

/-- Every run ends with the result array at `Attn.result` of the argument arrays. -/
theorem run_result : θ_run defs (onTc (τ := τ) (main (F := F))) (s₀ m ρ) (fun r => ∀ c : Dev nD,
      r.2.mem ((c : Thread nD τ).loc main_v0) = result SC (args m c)) :=
  (θ_run defs _ _).mono (fun r h c => ((h.1 c).1 7).trans (final_out m c)) (run_main m ρ)

end Cert.Proof.Attn.KernelIdeal

end
-- ==== Proof.Attn.Math.lean ====
/- The arithmetic of one query row over the extended reals: the kernel's base-two softmax over the merged key blocks of
   the window, against the softmax over all the keys with the ones outside the window masked. -/
module

public import Idealize.ShloMosaic.Lib.Pointwise
public import Mathlib.Analysis.SpecialFunctions.Pow.Real

@[expose] public section

noncomputable section

namespace Cert.Proof.Attn

open Idealize.ShloMosaic

/-! ## Constants -/

theorem bits_negInf : Ideal.ofBits .f32 0xFF800000#32 = ⊥ := by simp [Ideal.ofBits, Ideal.ieee]
theorem bits_eight : Ideal.ofBits .f32 0x41000000#32 = ((8 : ℝ) : EReal) := by
  simp [Ideal.ofBits, Ideal.ieee]; rw [← EReal.coe_mul]; norm_num
theorem bits_256 : Ideal.ofBits .f32 0x43800000#32 = ((256 : ℝ) : EReal) := by
  simp [Ideal.ofBits, Ideal.ieee]; rw [← EReal.coe_mul]; norm_num
theorem bits_448 : Ideal.ofBits .f32 0x43E00000#32 = ((448 : ℝ) : EReal) := by
  simp [Ideal.ofBits, Ideal.ieee]; rw [← EReal.coe_mul]; norm_num
theorem bits_inv256 : Ideal.ofBits .f32 0x3B800000#32 = (((256 : ℝ)⁻¹ : ℝ) : EReal) := by
  simp [Ideal.ofBits, Ideal.ieee]; rw [← EReal.coe_mul]; norm_num

/-- One over the square root of the head dimension. -/
def SM : ℝ := (Real.sqrt 128)⁻¹
/-- One over the logarithm of two. -/
def L2 : ℝ := (Real.log 2)⁻¹

theorem SM_nonneg : 0 ≤ SM := inv_nonneg.mpr (Real.sqrt_nonneg _)
theorem L2_pos : 0 < L2 := inv_pos.mpr (Real.log_pos (by norm_num))

/-! ## Extended reals -/

/-- A finite nonnegative factor distributes over any sum. -/
theorem add_mul_coe (x y : EReal) {c : ℝ} (hc : 0 ≤ c) : (x + y) * (c : EReal) = x * c + y * c :=
  EReal.right_distrib_of_nonneg_of_ne_top (EReal.coe_nonneg.mpr hc) (EReal.coe_ne_top c) x y

theorem sum_mul_coe {ι : Type} (s : Finset ι) (f : ι → EReal) {c : ℝ} (hc : 0 ≤ c) :
    (∑ i ∈ s, f i) * (c : EReal) = ∑ i ∈ s, f i * c := by
  classical
  induction s using Finset.induction_on with
  | empty => simp
  | insert a s ha ih => rw [Finset.sum_insert ha, Finset.sum_insert ha, add_mul_coe _ _ hc, ih]

theorem mono_mul_coe {c : ℝ} (hc : 0 ≤ c) : Monotone fun x : EReal => x * (c : EReal) :=
  fun _ _ h => mul_le_mul_of_nonneg_right h (EReal.coe_nonneg.mpr hc)

theorem bot_mul_coe {c : ℝ} (hc : 0 < c) : (⊥ : EReal) * (c : EReal) = ⊥ := EReal.bot_mul_coe_of_pos hc
theorem top_mul_coe {c : ℝ} (hc : 0 < c) : (⊤ : EReal) * (c : EReal) = ⊤ := EReal.top_mul_coe_of_pos hc

/-- The base-two weight of the rescaled score, with the maximum lowered by eight, is 256 times the weight. -/
theorem exp2_shift (x m : EReal) :
    Ideal.exp2 (x * (L2 : EReal) - (m * (L2 : EReal) - ((8 : ℝ) : EReal))) = Ideal.exp (x - m) * ((256 : ℝ) : EReal) := by
  have h256 : (0 : ℝ) < 256 := by norm_num
  have e8 : ((8 : ℝ) : EReal) ≠ ⊤ := EReal.coe_ne_top _
  induction m using EReal.rec with
  | bot =>
    rw [bot_mul_coe L2_pos]
    have : (⊥ : EReal) - ((8 : ℝ) : EReal) = ⊥ := by simp [sub_eq_add_neg]
    rw [this]
    induction x using EReal.rec with
    | bot => rw [bot_mul_coe L2_pos]; simp [sub_eq_add_neg]
    | top => rw [top_mul_coe L2_pos]; simp [sub_eq_add_neg, top_mul_coe h256]
    | coe x => rw [← EReal.coe_mul]; simp [sub_eq_add_neg, top_mul_coe h256, -EReal.coe_mul]
  | top =>
    rw [top_mul_coe L2_pos]
    have : (⊤ : EReal) - ((8 : ℝ) : EReal) = ⊤ := by rw [EReal.top_sub_coe]
    rw [this]
    simp
  | coe m =>
    induction x using EReal.rec with
    | bot => rw [bot_mul_coe L2_pos]; simp [sub_eq_add_neg]
    | top => rw [top_mul_coe L2_pos, ← EReal.coe_mul, ← EReal.coe_sub, EReal.top_sub_coe, EReal.top_sub_coe]; simp [top_mul_coe h256]
    | coe x =>
      rw [← EReal.coe_mul, ← EReal.coe_mul, ← EReal.coe_sub, ← EReal.coe_sub, ← EReal.coe_sub, Ideal.exp2_coe, Ideal.exp_coe, ← EReal.coe_mul]
      congr 1
      show (2 : ℝ) ^ (_ : ℝ) = _
      have hl : Real.log 2 ≠ 0 := (Real.log_pos (by norm_num)).ne'
      have e : x * L2 - (m * L2 - 8) = (x - m) * L2 + 8 := by ring
      rw [e, Real.rpow_add (by norm_num), show (2 : ℝ) ^ (8 : ℝ) = 256 by norm_num [show (8 : ℝ) = ((8 : ℕ) : ℝ) by norm_num, Real.rpow_natCast],
        Real.rpow_def_of_pos (by norm_num)]
      congr 2
      unfold L2
      field_simp

theorem exp_nonneg (x : EReal) : 0 ≤ Ideal.exp x := by
  induction x using EReal.rec with
  | bot => simp
  | top => simp
  | coe x => rw [Ideal.exp_coe]; exact EReal.coe_nonneg.mpr (Real.exp_pos x).le

/-- The reciprocal of 256 times a sum. -/
theorem div_256 (l : EReal) : Ideal.div 1 (l * ((256 : ℝ) : EReal)) = (((256 : ℝ)⁻¹ : ℝ) : EReal) * Ideal.div 1 l := by
  unfold Ideal.div
  have h : ((256 : ℝ) : EReal) ≠ 0 := by norm_cast
  by_cases hl : l = 0
  · subst hl
    simp only [zero_mul, if_true, zero_lt_one]
    rw [mul_comm, top_mul_coe (by norm_num)]
  · rw [if_neg (mul_ne_zero hl h), if_neg hl, one_mul, one_mul, EReal.mul_inv, EReal.coe_inv, mul_comm]

/-! ## The window -/

/-- Key `j` is visible to token `tok` of query tile `i`. -/
def Vis (i tok j : ℕ) : Prop := 128 * i + tok < j ∧ j ≤ 128 * i + tok + 1536

instance (i tok j : ℕ) : Decidable (Vis i tok j) := by unfold Vis; infer_instance

/-- The key at column `c` of the `kb`-th of the twelve merged blocks: block 0 holds the newest block's visible columns. -/
def keyAt (i tok : ℕ) (kb : Fin 12) (c : Fin 128) : ℕ :=
  if kb.val = 0 ∧ c.val ≤ tok then 128 * i + 1536 + c.val else 128 * i + 128 * kb.val + c.val

theorem keyAt_vis {i tok : ℕ} (ht : tok < 128) (kb : Fin 12) (c : Fin 128) : Vis i tok (keyAt i tok kb c) := by
  unfold keyAt Vis
  split <;> omega

theorem keyAt_lt {i tok : ℕ} (hi : i < 20) (kb : Fin 12) (c : Fin 128) : keyAt i tok kb c < 4096 := by
  unfold keyAt
  split <;> omega

theorem exists_keyAt {i tok j : ℕ} (ht : tok < 128) (h : Vis i tok j) : ∃ kb c, keyAt i tok kb c = j := by
  unfold Vis at h
  by_cases hj : 128 * i + 1536 ≤ j
  · refine ⟨0, ⟨j - (128 * i + 1536), by omega⟩, ?_⟩
    unfold keyAt
    rw [if_pos ⟨rfl, by show j - (128 * i + 1536) ≤ tok; omega⟩]
    show 128 * i + 1536 + (j - (128 * i + 1536)) = j
    omega
  · refine ⟨⟨(j - 128 * i) / 128, by omega⟩, ⟨(j - 128 * i) % 128, by omega⟩, ?_⟩
    unfold keyAt
    rw [if_neg (by show ¬((j - 128 * i) / 128 = 0 ∧ (j - 128 * i) % 128 ≤ tok); omega)]
    show 128 * i + 128 * ((j - 128 * i) / 128) + (j - 128 * i) % 128 = j
    omega

theorem keyAt_newest {i tok : ℕ} {c : Fin 128} (h : c.val ≤ tok) : keyAt i tok 0 c = 128 * i + 1536 + c.val := if_pos ⟨rfl, h⟩
theorem keyAt_oldest {i tok : ℕ} {c : Fin 128} (h : ¬ c.val ≤ tok) : keyAt i tok 0 c = 128 * i + c.val := if_neg fun hh => h hh.2
theorem keyAt_other {i tok : ℕ} {kb : Fin 12} {c : Fin 128} (h : kb.val ≠ 0) : keyAt i tok kb c = 128 * i + 128 * kb.val + c.val :=
  if_neg fun hh => h hh.1

/-- The greatest of the merged blocks' entries is the greatest of the visible ones. -/
theorem fold_max_window {i tok : ℕ} (hi : i < 20) (ht : tok < 128) (t : ℕ → EReal) (mx : Fin 128 → EReal)
    (hmx : ∀ c z, mx c ≤ z ↔ ∀ kb, t (keyAt i tok kb c) ≤ z) :
    Finset.univ.fold max ⊥ mx = Finset.univ.fold max ⊥ (fun j : Fin 4096 => if Vis i tok j.val then t j.val else ⊥) := by
  have e (n : ℕ) (f : Fin n → EReal) : Finset.univ.fold max ⊥ f = Finset.univ.sup f := rfl
  rw [e, e]
  apply le_antisymm
  · refine Finset.sup_le fun c _ => (hmx c _).mpr fun kb => ?_
    refine le_trans ?_ (Finset.le_sup (Finset.mem_univ (⟨keyAt i tok kb c, keyAt_lt hi kb c⟩ : Fin 4096)))
    simp only [if_pos (keyAt_vis ht kb c)]
    exact le_rfl
  · refine Finset.sup_le fun j _ => ?_
    split
    · obtain ⟨kb, c, h⟩ := exists_keyAt ht ‹_›
      rw [← h]
      exact ((hmx c _).mp le_rfl kb).trans (Finset.le_sup (Finset.mem_univ c))
    · exact bot_le

/-- Rescaling the entries rescales the greatest. -/
theorem fold_max_mul {n : ℕ} {c : ℝ} (hc : 0 < c) (f : Fin n → EReal) :
    Finset.univ.fold max ⊥ (fun j => f j * (c : EReal)) = Finset.univ.fold max ⊥ f * (c : EReal) := by
  show Finset.univ.sup _ = Finset.univ.sup f * (c : EReal)
  exact ((Finset.comp_sup_eq_sup_comp_of_is_total (fun x : EReal => x * (c : EReal)) (mono_mul_coe hc.le) (bot_mul_coe hc))).symm

/-- A sum over the keys of a function that is zero outside the window is the sum over the window's thirteen blocks. -/
theorem sum_window {i tok : ℕ} (hi : i < 20) (ht : tok < 128) (f : ℕ → EReal) (hf : ∀ j, ¬ Vis i tok j → f j = 0) :
    ∑ j : Fin 4096, f j.val = ∑ j : Fin 1664, f (128 * i + j.val) := by
  rw [Fin.sum_univ_eq_sum_range f 4096, Fin.sum_univ_eq_sum_range (fun j => f (128 * i + j)) 1664]
  rw [Finset.range_eq_Ico, ← Finset.sum_Ico_consecutive f (show 0 ≤ 128 * i by omega) (show 128 * i ≤ 4096 by omega),
    ← Finset.sum_Ico_consecutive f (show 128 * i ≤ 128 * i + 1664 by omega) (show 128 * i + 1664 ≤ 4096 by omega)]
  rw [Finset.sum_eq_zero (s := Finset.Ico 0 (128 * i)), Finset.sum_eq_zero (s := Finset.Ico (128 * i + 1664) 4096),
    Finset.sum_Ico_eq_sum_range, zero_add, add_zero, show 128 * i + 1664 - 128 * i = 1664 by omega]
  · intro j hj; rw [Finset.mem_Ico] at hj; exact hf j (by unfold Vis; omega)
  · intro j hj; rw [Finset.mem_Ico] at hj; exact hf j (by unfold Vis; omega)

/-- The sum over the thirteen blocks is the sum over the twelve merged ones. -/
theorem sum_blocks {i tok : ℕ} (ht : tok < 128) (f : ℕ → EReal) (hf : ∀ j, ¬ Vis i tok j → f j = 0) :
    ∑ j : Fin 1664, f (128 * i + j.val) = ∑ c : Fin 128, ∑ kb : Fin 12, f (keyAt i tok kb c) := by
  have e : ∑ j : Fin 1664, f (128 * i + j.val) = ∑ kb : Fin 13, ∑ c : Fin 128, f (128 * i + 128 * kb.val + c.val) := by
    rw [← Fintype.sum_prod_type' (f := fun (kb : Fin 13) (c : Fin 128) => f (128 * i + 128 * kb.val + c.val))]
    refine (Fintype.sum_equiv (finProdFinEquiv (m := 13) (n := 128)) _ _ fun x => ?_).symm
    show _ = f (128 * i + (x.2.val + 128 * x.1.val))
    congr 1
    omega
  rw [e, Finset.sum_comm]
  refine Finset.sum_congr rfl fun c _ => ?_
  rw [Fin.sum_univ_castSucc, Fin.sum_univ_succ, Fin.sum_univ_succ (n := 11)]
  have hs (k : Fin 11) : f (keyAt i tok k.succ c) = f (128 * i + 128 * (Fin.castSucc k.succ : Fin 13).val + c.val) := by
    unfold keyAt
    rw [if_neg (by rw [Fin.val_succ]; omega)]
    rfl
  simp only [hs]
  by_cases hc : c.val ≤ tok
  · have h1 : keyAt i tok 0 c = 128 * i + 1536 + c.val := if_pos ⟨rfl, hc⟩
    rw [h1, hf (128 * i + 128 * (Fin.castSucc (0 : Fin 12) : Fin 13).val + c.val) (by unfold Vis; simp; omega), zero_add, add_comm]
    rfl
  · have h1 : keyAt i tok 0 c = 128 * i + 0 + c.val := if_neg (by simp only [not_and]; intro _; exact hc)
    rw [h1, hf (128 * i + 128 * (Fin.last 12 : Fin 13).val + c.val) (by unfold Vis; simp; omega), add_zero]
    rfl

/-! ## A query row -/

/-- What a query row's output in one dimension is made of: the products of its query codes and means with the keys, its
    scale, the key scales, the values in that dimension, and their scale. -/
@[ext] structure Row where
  S : ℕ → EReal
  C : ℕ → EReal
  a : EReal
  w : ℕ → EReal
  v : ℕ → EReal
  vs : EReal

namespace Row

variable (R : Row) (i tok : ℕ)

/-- The score of a key. -/
def score (j : ℕ) : EReal := (R.a * R.S j * R.w j + R.C j * R.w j) * (SM : EReal)
/-- The score of a key the way the kernel scales it. -/
def t (j : ℕ) : EReal := R.S j * (R.a * ((SM * L2 : ℝ) : EReal) * R.w j) + R.C j * (R.w j * ((SM * L2 : ℝ) : EReal))

theorem t_eq (j : ℕ) : R.t j = R.score j * (L2 : EReal) := by
  unfold t score
  rw [EReal.coe_mul, mul_assoc (_ + _), ← EReal.coe_mul, add_mul_coe _ _ (mul_nonneg SM_nonneg L2_pos.le), EReal.coe_mul]
  congr 1
  · ac_rfl
  · ac_rfl

/-- The masked scores' maximum. -/
def m : EReal := Finset.univ.fold max ⊥ (fun j : Fin 4096 => if Vis i tok j.val then R.score j.val else ⊥)
/-- The masked weights. -/
def p (j : ℕ) : EReal := if Vis i tok j then Ideal.exp (R.score j - R.m i tok) else 0
/-- The sum of the masked weights. -/
def l : EReal := ∑ j : Fin 4096, R.p i tok j.val
/-- The output over all the keys. -/
def out : EReal :=
  (∑ j : Fin 4096, min ((448 : ℝ) : EReal) (max 0 (R.p i tok j.val * ((256 : ℝ) : EReal))) * R.v j.val) * (((256 : ℝ)⁻¹ : ℝ) : EReal)
    * R.vs * Ideal.div 1 (R.l i tok)

/-- The weight the kernel gives a key, from its row maximum. -/
def e (mx : EReal) (j : ℕ) : EReal := Ideal.exp2 (R.t j - (mx - ((8 : ℝ) : EReal)))
/-- The kernel's code of a key. -/
def code (mx : EReal) (j : ℕ) : EReal := if Vis i tok j then min (R.e mx j) ((448 : ℝ) : EReal) else 0
theorem code_of_vis {i tok j : ℕ} (mx : EReal) (h : Vis i tok j) : R.code i tok mx j = min (R.e mx j) ((448 : ℝ) : EReal) := if_pos h
theorem code_of_hidden {i tok j : ℕ} (mx : EReal) (h : ¬ Vis i tok j) : R.code i tok mx j = 0 := if_neg h
/-- The kernel's output, from its row maximum. -/
def kout (mx : EReal) : EReal :=
  (∑ j : Fin 1664, R.code i tok mx (128 * i + j.val) * R.v (128 * i + j.val)) * R.vs
    * Ideal.div 1 (∑ c : Fin 128, ∑ kb : Fin 12, R.e mx (keyAt i tok kb c))

/-- The kernel's row is the row over all the keys. -/
theorem kout_eq {i tok : ℕ} (hi : i < 20) (ht : tok < 128) (mx : Fin 128 → EReal)
    (hmx : ∀ c z, mx c ≤ z ↔ ∀ kb, R.t (keyAt i tok kb c) ≤ z) :
    R.kout i tok (Finset.univ.fold max ⊥ mx) = R.out i tok := by
  have hM : Finset.univ.fold max ⊥ mx = R.m i tok * (L2 : EReal) := by
    rw [fold_max_window hi ht R.t mx hmx]
    unfold m
    rw [← fold_max_mul L2_pos]
    congr 1
    funext j
    split
    · exact R.t_eq _
    · rw [bot_mul_coe L2_pos]
  have he (j : ℕ) : R.e (Finset.univ.fold max ⊥ mx) j = Ideal.exp (R.score j - R.m i tok) * ((256 : ℝ) : EReal) := by
    unfold e
    rw [hM, t_eq, exp2_shift]
  have hp (j : ℕ) (h : Vis i tok j) : R.e (Finset.univ.fold max ⊥ mx) j = R.p i tok j * ((256 : ℝ) : EReal) := by
    rw [he]; unfold p; rw [if_pos h]
  have hp0 (j : ℕ) (h : ¬ Vis i tok j) : R.p i tok j = 0 := if_neg h
  have hl : (∑ c : Fin 128, ∑ kb : Fin 12, R.e (Finset.univ.fold max ⊥ mx) (keyAt i tok kb c)) = R.l i tok * ((256 : ℝ) : EReal) := by
    unfold l
    rw [sum_window hi ht (R.p i tok) hp0, sum_blocks ht (R.p i tok) hp0, sum_mul_coe _ _ (by norm_num)]
    refine Finset.sum_congr rfl fun c _ => ?_
    rw [sum_mul_coe _ _ (by norm_num)]
    exact Finset.sum_congr rfl fun kb _ => hp _ (keyAt_vis ht kb c)
  have hc (j : ℕ) : R.code i tok (Finset.univ.fold max ⊥ mx) j = min ((448 : ℝ) : EReal) (max 0 (R.p i tok j * ((256 : ℝ) : EReal))) := by
    unfold code
    split
    · rw [hp j ‹_›, min_comm, max_eq_right]
      unfold p
      rw [if_pos ‹_›]
      exact mul_nonneg (exp_nonneg _) (EReal.coe_nonneg.mpr (by norm_num))
    · rw [hp0 j ‹_›, zero_mul, max_self, min_eq_right (EReal.coe_nonneg.mpr (by norm_num))]
  unfold kout out
  rw [hl, div_256]
  simp only [hc]
  rw [← sum_window hi ht (fun j => min ((448 : ℝ) : EReal) (max 0 (R.p i tok j * ((256 : ℝ) : EReal))) * R.v j) (fun j h => by
    rw [hp0 j h, zero_mul, max_self, min_eq_right (EReal.coe_nonneg.mpr (by norm_num)), zero_mul])]
  ac_rfl

end Row

end Cert.Proof.Attn

end
-- ==== Proof.Attn.KernelValue.lean ====
/- The attention tile's values read at an index, over the extended reals. -/
module

public import proofs.«01_k».proof.Proof.Attn.Value
public import proofs.«01_k».proof.Proof.Attn.Math
public import Idealize.ShloMosaic.Lib.Tactic.WordOmega

@[expose] public section

set_option maxRecDepth 16384

noncomputable section

namespace Cert.Proof.Attn

open Idealize.ShloMosaic Idealize.ShloMosaic.TcCoe
open Cert.KernelIdeal

theorem headIx_at (s : Fin 8) (c : Fin 128) : headIx (ix2 s c) = BitVec.ofNat 32 (s.val % 4) := by
  pointwise [headIx]
  revert s; decide

theorem pick_at (w : Fin 4 → FVec Ideal S1x128 .f32) (s : Fin 8) (c : Fin 128) :
    pick w (ix2 s c) = w ⟨s.val % 4, Nat.mod_lt _ (by decide)⟩ (ix2 0 c) := by
  pointwise [pick, headIx_at]
  have key (h : Fin 4) : Scalar.select (IntOp.cmpi .eq (BitVec.ofNat 32 h.val) 3#32) (w 3 (ix2 0 c))
      (Scalar.select (IntOp.cmpi .eq (BitVec.ofNat 32 h.val) 2#32) (w 2 (ix2 0 c))
        (Scalar.select (IntOp.cmpi .eq (BitVec.ofNat 32 h.val) 1#32) (w 1 (ix2 0 c)) (w 0 (ix2 0 c)))) = w h (ix2 0 c) := by
    fin_cases h <;> rfl
  exact key ⟨s.val % 4, _⟩

theorem meanRows_at (w : Fin 4 → FVec Ideal S1x128 .f32) (s : Fin 16) (c : Fin 128) :
    meanRows w (ix2 s c) = w ⟨s.val % 4, Nat.mod_lt _ (by decide)⟩ (ix2 0 c) := by
  pointwise [meanRows, pick_at]
  split
  · rfl
  · refine congrArg (fun h => w h (ix2 0 c)) (Fin.ext ?_)
    show (s.val - 8) % 4 = s.val % 4
    omega

theorem diffIx_at (r : Fin 32) (c : Fin 128) : diffIx (ix2 r c) = BitVec.ofNat 32 c.val - BitVec.ofNat 32 (r.val / 4) := by
  pointwise [diffIx]
  refine congrArg (BitVec.ofNat 32 c.val - ·) ?_
  revert r; decide +kernel

theorem sle_words (c d e : ℕ) (hc : c < 128) (hd : d < 128) (he : e < 128) :
    IntOp.cmpi .sle (BitVec.ofNat 32 c - BitVec.ofNat 32 d) (BitVec.ofNat 32 e) = BitVec.ofBool (decide (c ≤ d + e)) := by
  show BitVec.ofBool (BitVec.sle _ _) = _
  congr 1
  rw [BitVec.sle_eq_decide]
  congr 1
  rw [WordCmp.toInt_ofNat_of_lt (by omega), BitVec.toInt_sub, WordCmp.toInt_ofNat_of_lt (by omega), WordCmp.toInt_ofNat_of_lt (by omega)]
  rw [Int.bmod_def]
  apply propext
  omega

theorem visIx_at (rc : Fin 16) (r : Fin 32) (c : Fin 128) :
    visIx rc (ix2 r c) = BitVec.ofBool (decide (c.val ≤ r.val / 4 + 8 * rc.val)) := by
  pointwise [visIx, diffIx_at]
  exact sle_words _ _ _ c.isLt (by omega) (by omega)

/-- A selection by the edge blocks' mask. -/
theorem vis_select {α : Type} (X Y : S32x128.Idx → α) (rc : Fin 16) (r : Fin 32) (c : Fin 128) :
    select (visIx rc) X Y (ix2 r c) = if c.val ≤ r.val / 4 + 8 * rc.val then X (ix2 r c) else Y (ix2 r c) := by
  show Scalar.select (visIx rc (ix2 r c)) _ _ = _
  rw [visIx_at]
  by_cases h : c.val ≤ r.val / 4 + 8 * rc.val <;> simp [h, Scalar.select]

theorem affine_at (s : FVec Ideal S512x128 .f32) (a c : FVec Ideal S8x128 .f32) (rc : Fin 16) (r : Fin 32) (k : Fin 128) :
    affine s a c rc (ix2 r k) = s (ix2 ⟨32 * rc.val + r.val, by omega⟩ k) * a (ix2 ⟨r.val % 8, by omega⟩ k) + c (ix2 ⟨r.val % 8, by omega⟩ k) := by
  pointwise [affine]

theorem scaleRows_at (qa : FVec Ideal S8x128 .f32) (ksc : FVec Ideal S1x128 .f32) (s : Fin 8) (k : Fin 128) :
    scaleRows qa ksc (ix2 s k) = qa (ix2 s k) * ksc (ix2 0 k) := by
  pointwise [scaleRows]

theorem corrRows_at (SC : Ideal .f32) (corr : FVec Ideal S8x128 .f32) (ksc : FVec Ideal S1x128 .f32) (s : Fin 8) (k : Fin 128) :
    corrRows SC corr ksc (ix2 s k) = corr (ix2 s k) * (ksc (ix2 0 k) * SC) := by
  pointwise [corrRows]

theorem corr128_at (qm : FVec Ideal S16x128 .bf16) (k : FVec Ideal S128x128 .fp8e4m3) (s : Fin 8) (c : Fin 128) :
    corr128 qm k (ix2 s c) = ∑ d : Fin 128, qm (ix2 ⟨s.val, by omega⟩ d) * k (ix2 c d) := by
  pointwise [corr128]

theorem corr256_at (qm : FVec Ideal S16x128 .bf16) (k : FVec Ideal S256x128 .fp8e4m3) (s : Fin 8) (c : Fin 256) :
    corr256 qm k (ix2 s c) = ∑ d : Fin 128, qm (ix2 ⟨s.val, by omega⟩ d) * k (ix2 c d) := by
  pointwise [corr256]

theorem prod128_at (q : FVec Ideal S512x128 .fp8e4m3) (k : FVec Ideal S128x128 .fp8e4m3) (r : Fin 512) (c : Fin 128) :
    prod128 q k (ix2 r c) = ∑ d : Fin 128, q (ix2 r d) * k (ix2 c d) := by
  pointwise [prod128]

theorem prod256_at (q : FVec Ideal S512x128 .fp8e4m3) (k : FVec Ideal S256x128 .fp8e4m3) (r : Fin 512) (c : Fin 256) :
    prod256 q k (ix2 r c) = ∑ d : Fin 128, q (ix2 r d) * k (ix2 c d) := by
  pointwise [prod256]

theorem maxRow_at (mx : FVec Ideal S32x128 .f32) (r : Fin 32) (k : Fin 128) :
    maxRow mx (ix2 r k) = Finset.univ.fold max ⊥ (fun c : Fin 128 => mx (ix2 r c)) - ((8 : ℝ) : EReal) := by
  pointwise [maxRow, bits_negInf, bits_eight]

theorem recipRow_at (l : FVec Ideal S32x128 .f32) (r : Fin 32) (k : Fin 128) :
    recipRow l (ix2 r k) = Ideal.div 1 (∑ c : Fin 128, l (ix2 r c)) := by
  pointwise [recipRow]

theorem outRows_at (p : FVec Ideal S512x1664 .fp8e4m3) (v : FVec Ideal S1664x128 .fp8e4m3) (vs : FVec Ideal S1x128 .f32) (rl : FVec Ideal S512x128 .f32)
    (r : Fin 512) (d : Fin 128) :
    outRows p v vs rl (ix2 r d) = (∑ j : Fin 1664, p (ix2 r j) * v (ix2 j d)) * vs (ix2 0 d) * rl (ix2 r d) := by
  pointwise [outRows]

theorem codeRow_at (e : FVec Ideal S32x128 .f32) (r : Fin 32) (k : Fin 128) : codeRow e (ix2 r k) = min (e (ix2 r k)) ((448 : ℝ) : EReal) := by
  pointwise [codeRow, bits_448]

theorem zeroCode_at (r : Fin 32) (k : Fin 128) : (zeroCode (F := Ideal)) (ix2 r k) = (0 : EReal) := by
  pointwise [zeroCode]
  simp [Ideal.ofBits, Ideal.e4m3fn]

theorem expRow_at (t mb : FVec Ideal S32x128 .f32) (r : Fin 32) (k : Fin 128) : expRow t mb (ix2 r k) = Ideal.exp2 (t (ix2 r k) - mb (ix2 r k)) := by
  pointwise [expRow]
  rfl

/-! ## The operands of one head at one query tile -/

theorem meanRow_at (x : Vec Ideal S1x1x1x128 .bf16) (e : Fin 128) : meanRow x (ix2 0 e) = (x (ix4 0 0 0 e) : EReal) := by
  pointwise [meanRow]
theorem qsRow_at (x : Vec Ideal S1x1x1x1 .f32) (e : Fin 128) : qsRow x (ix2 0 e) = (x (ix4 0 0 0 0) : EReal) := by
  pointwise [qsRow]
theorem kscRow_at (x : Vec Ideal S1x1x1x128 .f32) (e : Fin 128) : kscRow x (ix2 0 e) = (x (ix4 0 0 0 e) : EReal) := by
  pointwise [kscRow]

/-- A vector of four values of a function. -/
theorem four_at {α : Type} (f : Fin 4 → α) (h : Fin 4) : ![f 0, f 1, f 2, f 3] h = f h := by
  revert h; simp [Fin.forall_fin_succ]

section Head

variable (SC : Ideal .f32) (H : HIn Ideal)

theorem qaV_at (s : Fin 8) (c : Fin 128) :
    qaV SC H (ix2 s c) = (H.srow ⟨s.val % 4, Nat.mod_lt _ (by decide)⟩ (ix4 0 0 0 0) : EReal) * SC := by
  pointwise [qaV, pick_at]
  refine congrArg (· * SC) ?_
  exact (congrFun (four_at (fun h => qsRow (H.srow h)) _) _).trans (qsRow_at _ _)

theorem qmV_at (s : Fin 16) (e : Fin 128) :
    qmV H (ix2 s e) = (H.mrow ⟨s.val % 4, Nat.mod_lt _ (by decide)⟩ (ix4 0 0 0 e) : EReal) := by
  pointwise [qmV, meanRows_at]
  exact (congrFun (four_at (fun h => meanRow (H.mrow h)) _) _).trans (meanRow_at _ _)

theorem qwV_at (r : Fin 512) (e : Fin 128) : qwV H (ix2 r e) = (H.q (ix4 0 0 r e) : EReal) := by
  pointwise [qwV]

theorem lastV_at (rc : Fin 16) (r : Fin 32) (c : Fin 128) : lastV SC H rc (ix2 r c)
    = (∑ e : Fin 128, (H.q (ix4 0 0 ⟨32 * rc.val + r.val, by omega⟩ e) : EReal) * (H.k4 (ix4 0 0 c e) : EReal))
        * ((H.srow ⟨r.val % 8 % 4, Nat.mod_lt _ (by decide)⟩ (ix4 0 0 0 0) : EReal) * SC * (H.ks 0 (ix4 0 0 0 c) : EReal))
      + (∑ e : Fin 128, (H.mrow ⟨r.val % 8 % 4, Nat.mod_lt _ (by decide)⟩ (ix4 0 0 0 e) : EReal) * (H.k4 (ix4 0 0 c e) : EReal))
        * ((H.ks 0 (ix4 0 0 0 c) : EReal) * SC) := by
  pointwise [lastV, affine_at, prod128_at, scaleRows_at, corrRows_at, corr128_at, qwV_at, qaV_at, qmV_at, kscRow_at]

theorem blkV_at (p : Fin 6) (j : Fin 2) (s : Fin 13) (rc : Fin 16) (r : Fin 32) (c : Fin 128) : blkV SC H p j s rc (ix2 r c)
    = (∑ e : Fin 128, (H.q (ix4 0 0 ⟨32 * rc.val + r.val, by omega⟩ e) : EReal) * (H.k6 p (ix4 0 0 ⟨128 * j.val + c.val, by omega⟩ e) : EReal))
        * ((H.srow ⟨r.val % 8 % 4, Nat.mod_lt _ (by decide)⟩ (ix4 0 0 0 0) : EReal) * SC * (H.ks s (ix4 0 0 0 c) : EReal))
      + (∑ e : Fin 128, (H.mrow ⟨r.val % 8 % 4, Nat.mod_lt _ (by decide)⟩ (ix4 0 0 0 e) : EReal) * (H.k6 p (ix4 0 0 ⟨128 * j.val + c.val, by omega⟩ e) : EReal))
        * ((H.ks s (ix4 0 0 0 c) : EReal) * SC) := by
  pointwise [blkV, affine_at, prod256_at, scaleRows_at, corrRows_at, corr256_at, qwV_at, qaV_at, qmV_at, kscRow_at]

/-- Twelve cases. -/
theorem all_twelve {P : Fin 12 → Prop} (h0 : P 0) (h1 : P 1) (h2 : P 2) (h3 : P 3) (h4 : P 4) (h5 : P 5) (h6 : P 6) (h7 : P 7) (h8 : P 8) (h9 : P 9) (h10 : P 10) (h11 : P 11) : ∀ kb, P kb := by
  intro kb; fin_cases kb <;> assumption

/-- Twelve terms. -/
theorem sum_twelve (g : Fin 12 → EReal) : ∑ kb, g kb = g 0 + g 1 + g 2 + g 3 + g 4 + g 5 + g 6 + g 7 + g 8 + g 9 + g 10 + g 11 := by
  simp only [Fin.sum_univ_castSucc, Finset.univ_eq_empty, Finset.sum_empty, zero_add]
  rfl

/-- The last running maximum is the greatest of the twelve blocks' scores. -/
theorem mxV_le (rc : Fin 16) (r : Fin 32) (c : Fin 128) (z : EReal) :
    (mxV SC H rc 5 (ix2 r c) : EReal) ≤ z ↔ ∀ kb, (tV SC H rc kb (ix2 r c) : EReal) ≤ z := by
  pointwise [mxV]
  simp only [max_le_iff]
  constructor
  · rintro ⟨⟨h10, h11⟩, ⟨h8, h9⟩, ⟨h6, h7⟩, ⟨h4, h5⟩, ⟨h2, h3⟩, h0, h1⟩
    exact all_twelve h0 h1 h2 h3 h4 h5 h6 h7 h8 h9 h10 h11
  · intro h
    exact ⟨⟨h 10, h 11⟩, ⟨h 8, h 9⟩, ⟨h 6, h 7⟩, ⟨h 4, h 5⟩, ⟨h 2, h 3⟩, h 0, h 1⟩

/-- The last running sum is the sum of the twelve blocks' weights. -/
theorem lV_at (rc : Fin 16) (r : Fin 32) (c : Fin 128) :
    (lV SC H rc 11 (ix2 r c) : EReal) = ∑ kb : Fin 12, (eV SC H rc kb (ix2 r c) : EReal) := by
  pointwise [lV, sum_twelve]

theorem eV_at (rc : Fin 16) (kb : Fin 12) (r : Fin 32) (c : Fin 128) : eV SC H rc kb (ix2 r c)
    = Ideal.exp2 (tV SC H rc kb (ix2 r c) - (Finset.univ.fold max ⊥ (fun c : Fin 128 => (mxV SC H rc 5 (ix2 r c) : EReal)) - ((8 : ℝ) : EReal))) := by
  pointwise [eV, expRow_at, maxRow_at]

end Head

/-! ## The operands as the arrays' elements -/

/-- An element of a part of a part of an array. -/
theorem read_two {s : Shape} {α : Type} (X : s.Idx → α) (hs : ∀ a, 0 < s.size a) (sz off : Fin s.rank → Nat) (hsz : ∀ a, 0 < sz a)
    (off2 j n : Fin s.rank → Nat) (h : ∀ a, (off a + (off2 a + j a) % sz a) % s.size a = n a % s.size a) :
    at' (sub X hs sz off) hsz (fun a => off2 a + j a) = at' X hs n := by
  unfold sub at'
  refine congrArg X (funext fun a => Fin.ext ?_)
  exact h a

section Reads

variable (A : Arr Ideal) {b kv i : ℕ} (hb : b < 4) (hk : kv < 16) (hi : i < 20)

include hb hk hi

theorem q_at (r : Fin 512) (e : Fin 128) : ((headK (A.blk b i) i kv).q (ix4 0 0 r e) : EReal) = at' A.q apos1 ![b, kv, 512 * i + r.val, e.val] := by
  refine read_two A.q apos1 _ _ pos1 _ _ _ fun a => ?_
  revert a
  simp [Fin.forall_fin_succ] <;> omega

theorem k4_at (c : Fin 128) (e : Fin 128) : ((headK (A.blk b i) i kv).k4 (ix4 0 0 c e) : EReal) = at' A.kq apos4 ![b, kv, 128 * i + 1536 + c.val, e.val] := by
  refine read_two A.kq apos4 _ _ pos4 _ _ _ fun a => ?_
  revert a
  simp [Fin.forall_fin_succ] <;> omega

theorem k6_at (p : Fin 6) (c : Fin 256) (e : Fin 128) :
    ((headK (A.blk b i) i kv).k6 p (ix4 0 0 c e) : EReal) = at' A.kq apos4 ![b, kv, 128 * i + 256 * p.val + c.val, e.val] := by
  refine read_two A.kq apos4 _ _ pos4 _ _ _ fun a => ?_
  revert a
  simp [Fin.forall_fin_succ] <;> omega

theorem ks_at (s : Fin 13) (c : Fin 128) : ((headK (A.blk b i) i kv).ks s (ix4 0 0 0 c) : EReal) = at' A.ksc apos5 ![b, kv, i + kscIx s, c.val] := by
  refine read_two A.ksc apos5 _ _ pos5 _ _ _ fun a => ?_
  have : kscIx s ≤ 12 := by unfold kscIx; split <;> omega
  revert a
  simp [Fin.forall_fin_succ] <;> omega

theorem mrow_at (h : Fin 4) (e : Fin 128) : ((headK (A.blk b i) i kv).mrow h (ix4 0 0 0 e) : EReal) = at' A.mean apos3 ![b, i, 4 * kv + h.val, e.val] := by
  refine read_two A.mean apos3 _ _ pos3 _ _ _ fun a => ?_
  revert a
  simp [Fin.forall_fin_succ] <;> omega

theorem srow_at (h : Fin 4) : ((headK (A.blk b i) i kv).srow h (ix4 0 0 0 0) : EReal) = at' A.qs apos2 ![b, i, 4 * kv + h.val, 0] := by
  refine read_two A.qs apos2 _ _ pos2 _ _ _ fun a => ?_
  revert a
  simp [Fin.forall_fin_succ] <;> omega

theorem v_at (c : Fin 1664) (e : Fin 128) : ((headV (A.blk b i) i kv).v (ix4 0 0 c e) : EReal) = at' A.vq apos4 ![b, kv, 128 * i + c.val, e.val] := by
  refine read_two A.vq apos4 _ _ pos4 _ _ _ fun a => ?_
  revert a
  simp [Fin.forall_fin_succ] <;> omega

theorem vs_at (e : Fin 128) : ((headV (A.blk b i) i kv).vs (ix3 0 0 e) : EReal) = at' A.vsc apos6 ![b, 0, 128 * kv + e.val] := by
  refine read_two A.vsc apos6 _ _ pos6 _ _ _ fun a => ?_
  revert a
  simp [Fin.forall_fin_succ] <;> omega

end Reads

end Cert.Proof.Attn

end
-- ==== Proof.Attn.KernelRow.lean ====
/- The attention tile's output row as the row arithmetic of `Math`, over the arrays' elements. -/
module

public import proofs.«01_k».proof.Proof.Attn.KernelValue

@[expose] public section

set_option maxRecDepth 16384

noncomputable section

namespace Cert.Proof.Attn

open Idealize.ShloMosaic Idealize.ShloMosaic.TcCoe
open Cert.KernelIdeal

/-- Row `r` of query tile `i`, of batch `b` and key head `kv`, in dimension `d`. -/
def rowOf (A : Arr Ideal) (b kv i r d : ℕ) : Row where
  S j := ∑ e : Fin 128, (at' A.q apos1 ![b, kv, 512 * i + r, e.val] : EReal) * (at' A.kq apos4 ![b, kv, j, e.val] : EReal)
  C j := ∑ e : Fin 128, (at' A.mean apos3 ![b, i, 4 * kv + r % 4, e.val] : EReal) * (at' A.kq apos4 ![b, kv, j, e.val] : EReal)
  a := at' A.qs apos2 ![b, i, 4 * kv + r % 4, 0]
  w j := at' A.ksc apos5 ![b, kv, j / 128, j % 128]
  v j := at' A.vq apos4 ![b, kv, j, d]
  vs := at' A.vsc apos6 ![b, 0, 128 * kv + d]

section

variable (A : Arr Ideal) {b kv i : ℕ} (hb : b < 4) (hk : kv < 16) (hi : i < 20)
variable (SC : Ideal .f32) (hSC : (SC : EReal) = ((SM * L2 : ℝ) : EReal))

include hb hk hi hSC

theorem lastV_row (rc : Fin 16) (r : Fin 32) (c : Fin 128) (d : ℕ) :
    lastV SC (headK (A.blk b i) i kv) rc (ix2 r c) = (rowOf A b kv i (32 * rc.val + r.val) d).t (128 * i + 1536 + c.val) := by
  rw [lastV_at]
  simp only [q_at A hb hk hi, k4_at A hb hk hi, ks_at A hb hk hi, mrow_at A hb hk hi, srow_at A hb hk hi, hSC]
  unfold Row.t rowOf
  have e1 : (32 * rc.val + r.val) % 4 = r.val % 8 % 4 := by omega
  have e2 : (128 * i + 1536 + c.val) / 128 = i + kscIx 0 := by show _ = i + 12; omega
  have e3 : (128 * i + 1536 + c.val) % 128 = c.val := by omega
  simp only [e1, e2, e3]

theorem blkV_row (p : Fin 6) (j : Fin 2) (s : Fin 13) (hs : kscIx s = 2 * p.val + j.val) (rc : Fin 16) (r : Fin 32) (c : Fin 128) (d : ℕ) :
    blkV SC (headK (A.blk b i) i kv) p j s rc (ix2 r c)
      = (rowOf A b kv i (32 * rc.val + r.val) d).t (128 * i + 128 * (2 * p.val + j.val) + c.val) := by
  rw [blkV_at]
  simp only [q_at A hb hk hi, k6_at A hb hk hi, ks_at A hb hk hi, mrow_at A hb hk hi, srow_at A hb hk hi, hSC]
  unfold Row.t rowOf
  have e1 : (32 * rc.val + r.val) % 4 = r.val % 8 % 4 := by omega
  have e2 : (128 * i + 128 * (2 * p.val + j.val) + c.val) / 128 = i + kscIx s := by rw [hs]; omega
  have e3 : (128 * i + 128 * (2 * p.val + j.val) + c.val) % 128 = c.val := by omega
  have e4 : 128 * i + 256 * p.val + (128 * j.val + c.val) = 128 * i + 128 * (2 * p.val + j.val) + c.val := by omega
  simp only [e1, e2, e3, e4]

/-- The chunk's scores are the row's, at the merged blocks' keys. -/
theorem tV_row (rc : Fin 16) (kb : Fin 12) (r : Fin 32) (c : Fin 128) (d : ℕ) :
    tV SC (headK (A.blk b i) i kv) rc kb (ix2 r c)
      = (rowOf A b kv i (32 * rc.val + r.val) d).t (keyAt i ((32 * rc.val + r.val) / 4) kb c) := by
  have hB := fun p j s hs => blkV_row A hb hk hi SC hSC p j s hs rc r c d
  have hL := lastV_row A hb hk hi SC hSC rc r c d
  have hpos (kb : Fin 12) (h : kb.val ≠ 0) (p : Fin 6) (j : Fin 2) (s : Fin 13) (hs : kscIx s = 2 * p.val + j.val) (hkb : kb.val = 2 * p.val + j.val) :
      blkV SC (headK (A.blk b i) i kv) p j s rc (ix2 r c) = (rowOf A b kv i (32 * rc.val + r.val) d).t (keyAt i ((32 * rc.val + r.val) / 4) kb c) := by
    rw [hB p j s hs, keyAt_other h, hkb]
  fin_cases kb
  · have e0 : tV SC (headK (A.blk b i) i kv) rc 0 = select (visIx rc) (lastV SC (headK (A.blk b i) i kv) rc) (blkV SC (headK (A.blk b i) i kv) 0 0 1 rc) := rfl
    show tV SC (headK (A.blk b i) i kv) rc 0 (ix2 r c) = (rowOf A b kv i (32 * rc.val + r.val) d).t (keyAt i ((32 * rc.val + r.val) / 4) 0 c)
    rw [e0, vis_select]
    by_cases h : c.val ≤ r.val / 4 + 8 * rc.val
    · rw [if_pos h, keyAt_newest (by omega), hL]
    · rw [if_neg h, keyAt_oldest (by omega)]
      exact hB 0 0 1 rfl
  · exact hpos 1 (by decide) 0 1 2 rfl rfl
  · exact hpos 2 (by decide) 1 0 3 rfl rfl
  · exact hpos 3 (by decide) 1 1 4 rfl rfl
  · exact hpos 4 (by decide) 2 0 5 rfl rfl
  · exact hpos 5 (by decide) 2 1 6 rfl rfl
  · exact hpos 6 (by decide) 3 0 7 rfl rfl
  · exact hpos 7 (by decide) 3 1 8 rfl rfl
  · exact hpos 8 (by decide) 4 0 9 rfl rfl
  · exact hpos 9 (by decide) 4 1 10 rfl rfl
  · exact hpos 10 (by decide) 5 0 11 rfl rfl
  · exact hpos 11 (by decide) 5 1 12 rfl rfl

/-- The chunk's weights are the row's, from the chunk's maximum. -/
theorem eV_row (rc : Fin 16) (kb : Fin 12) (r : Fin 32) (c : Fin 128) (d : ℕ) :
    eV SC (headK (A.blk b i) i kv) rc kb (ix2 r c)
      = (rowOf A b kv i (32 * rc.val + r.val) d).e (Finset.univ.fold max ⊥ (fun c : Fin 128 => (mxV SC (headK (A.blk b i) i kv) rc 5 (ix2 r c) : EReal)))
          (keyAt i ((32 * rc.val + r.val) / 4) kb c) := by
  rw [eV_at, tV_row A hb hk hi SC hSC rc kb r c d]
  rfl

/-- The chunk's codes are the row's. -/
theorem pV_row (rc : Fin 16) (kb : Fin 13) (r : Fin 32) (c : Fin 128) (d : ℕ) :
    (pV SC (headK (A.blk b i) i kv) rc kb (ix2 r c) : EReal)
      = (rowOf A b kv i (32 * rc.val + r.val) d).code i ((32 * rc.val + r.val) / 4)
          (Finset.univ.fold max ⊥ (fun c : Fin 128 => (mxV SC (headK (A.blk b i) i kv) rc 5 (ix2 r c) : EReal))) (128 * i + (128 * kb.val + c.val)) := by
  have hE := fun kb => eV_row A hb hk hi SC hSC rc kb r c d
  generalize Finset.univ.fold max ⊥ (fun c : Fin 128 => (mxV SC (headK (A.blk b i) i kv) rc 5 (ix2 r c) : EReal)) = mx at hE ⊢
  generalize hR : rowOf A b kv i (32 * rc.val + r.val) d = R at hE ⊢
  have mid (k : Fin 12) (kb : Fin 13) (hk : k.val = kb.val) (h0 : k.val ≠ 0) :
      (codeRow (eV SC (headK (A.blk b i) i kv) rc k) (ix2 r c) : EReal) = R.code i ((32 * rc.val + r.val) / 4) mx (128 * i + (128 * kb.val + c.val)) := by
    rw [codeRow_at, hE k, R.code_of_vis mx (by unfold Vis; omega), keyAt_other h0, hk, add_assoc]
  by_cases h0 : kb.val = 0
  · obtain rfl : kb = 0 := Fin.ext h0
    have e0 : pV SC (headK (A.blk b i) i kv) rc 0 = select (visIx rc) zeroCode (codeRow (eV SC (headK (A.blk b i) i kv) rc 0)) := rfl
    rw [e0, vis_select]
    show _ = R.code i ((32 * rc.val + r.val) / 4) mx (128 * i + (0 + c.val))
    by_cases h : c.val ≤ r.val / 4 + 8 * rc.val
    · rw [if_pos h, R.code_of_hidden mx (by unfold Vis; omega), zeroCode_at]
    · rw [if_neg h, R.code_of_vis mx (by unfold Vis; omega), codeRow_at, hE 0, keyAt_oldest (by omega), zero_add]
  · by_cases h12 : kb.val = 12
    · obtain rfl : kb = 12 := Fin.ext h12
      have e0 : pV SC (headK (A.blk b i) i kv) rc 12 = select (visIx rc) (codeRow (eV SC (headK (A.blk b i) i kv) rc 0)) zeroCode := rfl
      rw [e0, vis_select]
      show _ = R.code i ((32 * rc.val + r.val) / 4) mx (128 * i + (1536 + c.val))
      by_cases h : c.val ≤ r.val / 4 + 8 * rc.val
      · rw [if_pos h, R.code_of_vis mx (by unfold Vis; omega), codeRow_at, hE 0, keyAt_newest (by omega), add_assoc]
      · rw [if_neg h, R.code_of_hidden mx (by unfold Vis; omega), zeroCode_at]
    · have e : pV SC (headK (A.blk b i) i kv) rc kb = codeRow (eV SC (headK (A.blk b i) i kv) rc ⟨kb.val % 12, Nat.mod_lt _ (by decide)⟩) := by
        fin_cases kb <;> first | rfl | exact absurd rfl h0 | exact absurd rfl h12
      rw [e]
      exact mid _ kb (by show kb.val % 12 = kb.val; omega) (by show kb.val % 12 ≠ 0; omega)

/-- A head's output rows. -/
theorem outV_row (r : Fin 512) (d : Fin 128) :
    outV SC (headK (A.blk b i) i kv) (headV (A.blk b i) i kv) (ix2 r d) = (rowOf A b kv i r.val d.val).out i (r.val / 4) := by
  have er : 32 * (r.val / 32) + r.val % 32 = r.val := by omega
  have hE := fun kb c => eV_row A hb hk hi SC hSC ⟨r.val / 32, by omega⟩ kb ⟨r.val % 32, by omega⟩ c d.val
  have hP := fun kb c => pV_row A hb hk hi SC hSC ⟨r.val / 32, by omega⟩ kb ⟨r.val % 32, by omega⟩ c d.val
  have hT := fun kb c => tV_row A hb hk hi SC hSC ⟨r.val / 32, by omega⟩ kb ⟨r.val % 32, by omega⟩ c d.val
  simp only [er] at hE hP hT
  rw [← Row.kout_eq (rowOf A b kv i r.val d.val) hi (show r.val / 4 < 128 by omega)
    (fun c => (mxV SC (headK (A.blk b i) i kv) ⟨r.val / 32, by omega⟩ 5 (ix2 ⟨r.val % 32, by omega⟩ c) : EReal))
    (fun c z => by rw [mxV_le]; exact forall_congr' fun kb => by rw [hT])]
  unfold outV
  rw [outRows_at]
  unfold Row.kout
  have hp (j : Fin 1664) : (pFull SC (headK (A.blk b i) i kv) (ix2 r j) : EReal) = (rowOf A b kv i r.val d.val).code i (r.val / 4)
      (Finset.univ.fold max ⊥ (fun c : Fin 128 => (mxV SC (headK (A.blk b i) i kv) ⟨r.val / 32, by omega⟩ 5 (ix2 ⟨r.val % 32, by omega⟩ c) : EReal))) (128 * i + j.val) := by
    have ej : 128 * (j.val / 128) + j.val % 128 = j.val := by omega
    have := hP ⟨j.val / 128, by omega⟩ ⟨j.val % 128, by omega⟩
    simp only [ej] at this
    rw [← this]
    unfold pFull
    refine congrArg (pV SC (headK (A.blk b i) i kv) _ _) (funext fun a => ?_)
    revert a
    simp only [Fin.forall_fin_succ]
    exact ⟨rfl, rfl, fun a => a.elim0⟩
  have hr : (rlFull SC (headK (A.blk b i) i kv) (ix2 r d) : EReal) = Ideal.div 1 (∑ c : Fin 128, ∑ kb : Fin 12, (rowOf A b kv i r.val d.val).e
      (Finset.univ.fold max ⊥ (fun c : Fin 128 => (mxV SC (headK (A.blk b i) i kv) ⟨r.val / 32, by omega⟩ 5 (ix2 ⟨r.val % 32, by omega⟩ c) : EReal))) (keyAt i (r.val / 4) kb c)) := by
    have h1 : rlFull SC (headK (A.blk b i) i kv) (ix2 r d)
        = recipRow (lV SC (headK (A.blk b i) i kv) ⟨r.val / 32, by omega⟩ 11) (ix2 ⟨r.val % 32, by omega⟩ d) := by
      unfold rlFull
      refine congrArg (recipRow _) (funext fun a => ?_)
      revert a
      simp only [Fin.forall_fin_succ]
      exact ⟨rfl, rfl, fun a => a.elim0⟩
    rw [h1, recipRow_at]
    simp only [lV_at, hE]
  have hv (j : Fin 1664) : (shapeCast S1664x128 (headV (A.blk b i) i kv).v shapeCasts_S1x1x1664x128_S1664x128 (ix2 j d) : EReal)
      = (rowOf A b kv i r.val d.val).v (128 * i + j.val) := by
    pointwise
    exact v_at A hb hk hi j d
  have hvs : (shapeCast S1x128 (headV (A.blk b i) i kv).vs shapeCasts_S1x1x128_S1x128 (ix2 0 d) : EReal) = (rowOf A b kv i r.val d.val).vs := by
    pointwise
    exact vs_at A hb hk hi d
  rw [hr, hvs]
  simp only [hp, hv]

end

/-- A head's block has one leading axis of extent one. -/
theorem head_axis (x : FVec Ideal S128x128 .bf16) (t e : Fin 128) :
    (shapeCast S1x128x128 x shapeCasts_S128x128_S1x128x128 (ix3 0 t e) : EReal) = x (ix2 t e) := by
  pointwise

/-- Reading every fourth row of an array. -/
theorem fourth_row (f : FVec Ideal S512x128 .f32) (h : Fin 4) (t e : Fin 128) :
    (shapeCast S1x128x128 (truncf .bf16 (fun i => f ((⟨![h.val, 0], S128x128.size, ![4, 1], inbO h⟩ : LoadRect S512x128).idx i)) bitsLt_bf16_f32) shapeCasts_S128x128_S1x128x128 (ix3 0 t e) : EReal)
      = f (ix2 ⟨4 * t.val + h.val, by omega⟩ e) := by
  rw [head_axis]
  refine congrArg f (funext fun a => ?_)
  match a with
  | ⟨0, _⟩ => exact Fin.ext (show h.val + 4 * t.val = 4 * t.val + h.val by omega)
  | ⟨1, _⟩ => exact Fin.ext (show 0 + 1 * e.val = e.val by omega)

/-- A query head's rows are every fourth row. -/
theorem emitV_at (SC : Ideal .f32) (H : HIn Ideal) (V : VIn Ideal) (h : Fin 4) (t e : Fin 128) :
    (emitV SC H V h (ix3 0 t e) : EReal) = outV SC H V (ix2 ⟨4 * t.val + h.val, by omega⟩ e) :=
  fourth_row (outV SC H V) h t e

/-- The row, tile and head of an output element. -/
theorem result_row (A : Arr Ideal) (SC : Ideal .f32) (hSC : (SC : EReal) = ((SM * L2 : ℝ) : EReal)) (b : Fin 4) (T : Fin 2560) (D : Fin 8192) :
    (result SC A (ix3 b T D) : EReal)
      = (rowOf A b.val (D.val / 512) (T.val / 128) (4 * (T.val % 128) + D.val / 128 % 4) (D.val % 128)).out (T.val / 128) (T.val % 128) := by
  have h := outV_row A b.isLt (show D.val / 512 < 16 by omega) (show T.val / 128 < 20 by omega) SC hSC
    ⟨4 * (T.val % 128) + D.val / 128 % 4, by omega⟩ ⟨D.val % 128, by omega⟩
  have e : (4 * (T.val % 128) + D.val / 128 % 4) / 4 = T.val % 128 := by omega
  simp only [e] at h
  rw [← h]
  have hix : (Fin.cons (0 : Fin 1) (Fin.cons (⟨T.val % 128, Nat.mod_lt _ (by decide)⟩ : Fin 128) (Fin.cons (⟨D.val % 128, Nat.mod_lt _ (by decide)⟩ : Fin 128) finZeroElim)) : S1x128x128.Idx)
      = ix3 0 ⟨T.val % 128, Nat.mod_lt _ (by decide)⟩ ⟨D.val % 128, Nat.mod_lt _ (by decide)⟩ := by
    funext a
    revert a
    simp only [Fin.forall_fin_succ]
    exact ⟨rfl, rfl, rfl, fun a => a.elim0⟩
  refine Eq.trans (b := emitV SC (headK (A.blk b.val (T.val / 128)) (T.val / 128) (D.val / 512)) (headV (A.blk b.val (T.val / 128)) (T.val / 128) (D.val / 512))
    ⟨D.val / 128 % 4, Nat.mod_lt _ (by decide)⟩ (ix3 0 ⟨T.val % 128, Nat.mod_lt _ (by decide)⟩ ⟨D.val % 128, Nat.mod_lt _ (by decide)⟩)) ?_ ?_
  · rw [← hix]
    rfl
  · exact emitV_at SC _ _ _ _ _

end Cert.Proof.Attn

end
-- ==== Proof.Attn.RefValue.lean ====
/- The reference's values read at an index, over the extended reals. -/
module

public import proofs.«01_k».proof.Proof.Attn.Math
public import proofs.«01_k».proof.Proof.Gen.ReferenceIdeal.Value
public import Idealize.ShloMosaic.Lib.Claim

@[expose] public section

set_option maxRecDepth 16384

noncomputable section

namespace Cert.Proof.AttnRef

open Idealize.ShloMosaic Idealize.ShloMosaic.TcCoe Idealize.SL.Sem
open Cert.ReferenceIdeal Cert.ReferenceIdeal.Gen
open Cert.Proof.Attn (Vis bits_negInf bits_256 bits_448 bits_inv256)

/-- The token of a query row, as the reference's floor division has it. -/
theorem token_word (R : Fin 10240) :
    Scalar.select (IntOp.andi
        (IntOp.cmpi .ne (IntOp.subi (BitVec.setWidth 32 (IntOp.cmpi .sgt (BitVec.ofNat 32 R.val) 0#32)) (BitVec.setWidth 32 (IntOp.cmpi .slt (BitVec.ofNat 32 R.val) 0#32)))
          (Scalar.subi (Scalar.extui (Scalar.cmpi .sgt 4#32 0#32)) (Scalar.extui (Scalar.cmpi .slt 4#32 0#32))))
        (IntOp.cmpi .ne (IntOp.remsi ArithUnit.vector (BitVec.ofNat 32 R.val) 4#32) 0#32))
      (IntOp.subi (IntOp.divsi ArithUnit.vector (BitVec.ofNat 32 R.val) 4#32) 1#32)
      (IntOp.divsi ArithUnit.vector (BitVec.ofNat 32 R.val) 4#32) = BitVec.ofNat 32 (R.val / 4) := by
  have key : ∀ (a : Fin 80) (b : Fin 128),
      Scalar.select (IntOp.andi
        (IntOp.cmpi .ne (IntOp.subi (BitVec.setWidth 32 (IntOp.cmpi .sgt (BitVec.ofNat 32 (128 * a.val + b.val)) 0#32)) (BitVec.setWidth 32 (IntOp.cmpi .slt (BitVec.ofNat 32 (128 * a.val + b.val)) 0#32)))
          (Scalar.subi (Scalar.extui (Scalar.cmpi .sgt 4#32 0#32)) (Scalar.extui (Scalar.cmpi .slt 4#32 0#32))))
        (IntOp.cmpi .ne (IntOp.remsi ArithUnit.vector (BitVec.ofNat 32 (128 * a.val + b.val)) 4#32) 0#32))
      (IntOp.subi (IntOp.divsi ArithUnit.vector (BitVec.ofNat 32 (128 * a.val + b.val)) 4#32) 1#32)
      (IntOp.divsi ArithUnit.vector (BitVec.ofNat 32 (128 * a.val + b.val)) 4#32) = BitVec.ofNat 32 ((128 * a.val + b.val) / 4) := by
    decide +kernel
  have h := key ⟨R.val / 128, by omega⟩ ⟨R.val % 128, by omega⟩
  have e : 128 * (R.val / 128) + R.val % 128 = R.val := by omega
  simp only [e] at h
  exact h

/-- The window's two comparisons. -/
theorem window_word (t j : ℕ) (ht : t < 2560) (hj : j < 4096) :
    IntOp.andi (IntOp.cmpi .sle (BitVec.ofNat 32 j) (IntOp.addi 1536#32 (BitVec.ofNat 32 t)))
      (IntOp.cmpi .sgt (BitVec.ofNat 32 j) (IntOp.subi (IntOp.addi 1536#32 (BitVec.ofNat 32 t)) 1536#32)) = BitVec.ofBool (decide (Vis (t / 128) (t % 128) j)) := by
  have e1 : IntOp.addi 1536#32 (BitVec.ofNat 32 t) = BitVec.ofNat 32 (1536 + t) := (BitVec.ofNat_add 1536 t).symm
  have e2 : IntOp.subi (BitVec.ofNat 32 (1536 + t)) 1536#32 = BitVec.ofNat 32 t := by
    show BitVec.ofNat 32 (1536 + t) - 1536#32 = _
    rw [Nat.add_comm, BitVec.ofNat_add]
    exact BitVec.add_sub_cancel _ _
  have e3 : (decide (j ≤ 1536 + t) && decide (t < j)) = decide (Vis (t / 128) (t % 128) j) := by
    unfold Vis
    rw [← Bool.decide_and]
    exact decide_eq_decide.mpr (by omega)
  rw [e1, e2, ← e3]
  simp (disch := omega) only [hlo_ix]

/-- The score of a key. -/
theorem scores_at (v0 : Vec Ideal S4x16x4096x128 .fp8e4m3) (v2 : Vec Ideal S4x16x10240x128 .fp8e4m3) (v6 : Vec Ideal S64x1x4096 .f32)
    (v9 : Vec Ideal S64x10240x128 .bf16) (v13 : Vec Ideal S64x10240x1 .f32) (g : Fin 64) (R : Fin 10240) (j : Fin 4096) :
    (k0_pay3 v0 v2 v6 v9 v13 (ix3 g R j) : EReal)
      = ((v13 (ix3 g R 0) : EReal) * (∑ e : Fin 128, (v2 (ix4 ⟨g.val / 16, by omega⟩ ⟨g.val % 16, by omega⟩ R e) : EReal) * (v0 (ix4 ⟨g.val / 16, by omega⟩ ⟨g.val % 16, by omega⟩ j e) : EReal))
            * (v6 (ix3 g 0 j) : EReal)
          + (∑ e : Fin 128, (v9 (ix3 g R e) : EReal) * (v0 (ix4 ⟨g.val / 16, by omega⟩ ⟨g.val % 16, by omega⟩ j e) : EReal)) * (v6 (ix3 g 0 j) : EReal))
        * (Cert.Proof.Attn.SM : EReal) := by
  pointwise [k0_pay3]
  rfl

/-- A selection by the window's mask. -/
theorem select_vis {α : Type} (i tok j : ℕ) (x y : α) : Scalar.select (BitVec.ofBool (decide (Vis i tok j))) x y = if Vis i tok j then x else y := by
  by_cases h : Vis i tok j <;> simp [h, Scalar.select]

/-- The weight of a key, from the scores. -/
theorem weights_at (v23 : FVec Ideal S64x10240x4096 .f32) (g : Fin 64) (R : Fin 10240) (j : Fin 4096) :
    (k0_pay7 v23 (iota .tc S64x10240x4096 32 [1] iota_S64x10240x4096_d1_w32) 4#32 k0_pay4 k0_pay5 k0_pay6 (ix3 g R j) : EReal)
      = if Vis (R.val / 4 / 128) (R.val / 4 % 128) j.val then
          Ideal.exp ((v23 (ix3 g R j) : EReal) - Finset.univ.fold max ⊥ (fun k : Fin 4096 => if Vis (R.val / 4 / 128) (R.val / 4 % 128) k.val then (v23 (ix3 g R k) : EReal) else ⊥))
        else 0 := by
  have hw (k : Fin 4096) := window_word (R.val / 4) k.val (by omega) k.isLt
  pointwise [k0_pay7, k0_pay4, k0_pay5, k0_pay6, bits_negInf]
  simp only [token_word, hw, select_vis, bits_negInf]
  by_cases h : Vis (R.val / 4 / 128) (R.val / 4 % 128) j.val
  · simp only [if_pos h]
  · simp only [if_neg h]

/-- The scaled value products, from the weights. -/
theorem prods_at (v5 : FVec Ideal S64x4096x128 .fp8e4m3) (v23 : FVec Ideal S64x10240x4096 .f32) (u : IVec S64x10240x4096 32) (w : BitVec 32) (u1 u2 u3 : IVec S64x10240x4096 32)
    (g : Fin 64) (R : Fin 10240) (d : Fin 128) :
    (k0_pay9 v5 v23 u w u1 u2 u3 (ix3 g R d) : EReal)
      = (∑ j : Fin 4096, min ((448 : ℝ) : EReal) (max 0 ((k0_pay7 v23 u w u1 u2 u3 (ix3 g R j) : EReal) * ((256 : ℝ) : EReal))) * (v5 (ix3 g j d) : EReal)) * (((256 : ℝ)⁻¹ : ℝ) : EReal) := by
  pointwise [k0_pay9, bits_256, bits_448, bits_inv256]

/-- The sum of the weights. -/
theorem sums_at (v23 : FVec Ideal S64x10240x4096 .f32) (u : IVec S64x10240x4096 32) (w : BitVec 32) (u1 u2 u3 : IVec S64x10240x4096 32)
    (g : Fin 64) (R : Fin 10240) :
    (k0_pay8 v23 u w u1 u2 u3 (ix3 g R 0) : EReal) = ∑ j : Fin 4096, (k0_pay7 v23 u w u1 u2 u3 (ix3 g R j) : EReal) := by
  pointwise [k0_pay8]

/-- The values, a head each. -/
theorem values_at (v4 : Vec Ideal S4x16x4096x128 .fp8e4m3) (g : Fin 64) (j : Fin 4096) (d : Fin 128) :
    (k0_pay2 v4 (ix3 g j d) : EReal) = (v4 (ix4 ⟨g.val / 16, by omega⟩ ⟨g.val % 16, by omega⟩ j d) : EReal) := by
  pointwise [k0_pay2]

/-- The output, from the products and the sums. -/
theorem out_at (v67 : FVec Ideal S64x10240x1 .f32) (v77 : FVec Ideal S64x10240x128 .f32) (v78 : Vec Ideal S64x1x128 .f32) (b : Fin 4) (T : Fin 2560) (D : Fin 8192) :
    (k0_pay1 v67 v77 v78 (ix3 b T D) : EReal)
      = (v77 (ix3 ⟨b.val * 16 + D.val / 512, by omega⟩ ⟨T.val * 4 + D.val / 128 % 4, by omega⟩ ⟨D.val % 128, by omega⟩) : EReal)
          * (v78 (ix3 ⟨b.val * 16 + D.val / 512, by omega⟩ 0 ⟨D.val % 128, by omega⟩) : EReal)
        * Ideal.div 1 (v67 (ix3 ⟨b.val * 16 + D.val / 512, by omega⟩ ⟨T.val * 4 + D.val / 128 % 4, by omega⟩ 0)) := by
  pointwise [k0_pay1]

/-! ## The host's arrays -/

/-- The query scales, a row each. -/
def hostQs (x : Vec Ideal S4x20x64x1 .f32) : Vec Ideal S64x10240x1 .f32 :=
  shapeCast S64x10240x1 (broadcastInDim S4x16x20x128x4 ![0, 1, 2, 3, 4] bcast_S4x16x20x1x4_S4x16x20x128x4_0_1_2_3_4
    (broadcastInDim S4x16x20x1x4 ![0, 1, 2, 4] bcast_S4x16x20x4_S4x16x20x1x4_0_1_2_4
      (transpose S4x16x20x4 [0, 2, 1, 3] (shapeCast S4x20x16x4 x shapeCasts_S4x20x64x1_S4x20x16x4) transposes_S4x20x16x4_S4x16x20x4_0_2_1_3)))
    shapeCasts_S4x16x20x128x4_S64x10240x1

theorem hostQs_at (x : Vec Ideal S4x20x64x1 .f32) (g : Fin 64) (R : Fin 10240) :
    (hostQs x (ix3 g R 0) : EReal) = x (ix4 ⟨g.val / 16, by omega⟩ ⟨R.val / 512, by omega⟩ ⟨4 * (g.val % 16) + R.val % 4, by omega⟩ 0) := by
  have e : (⟨g.val % 16 * 4 + R.val % 4, by omega⟩ : Fin 64) = ⟨4 * (g.val % 16) + R.val % 4, by omega⟩ := Fin.ext (by simp only; omega)
  rw [← e]
  pointwise [hostQs]

/-- The query means, a row each. -/
def hostMean (x : Vec Ideal S4x20x64x128 .bf16) : Vec Ideal S64x10240x128 .bf16 :=
  shapeCast S64x10240x128 (broadcastInDim S4x16x20x128x4x128 ![0, 1, 2, 3, 4, 5] bcast_S4x16x20x1x4x128_S4x16x20x128x4x128_0_1_2_3_4_5
    (broadcastInDim S4x16x20x1x4x128 ![0, 1, 2, 4, 5] bcast_S4x16x20x4x128_S4x16x20x1x4x128_0_1_2_4_5
      (transpose S4x16x20x4x128 [0, 2, 1, 3, 4] (shapeCast S4x20x16x4x128 x shapeCasts_S4x20x64x128_S4x20x16x4x128) transposes_S4x20x16x4x128_S4x16x20x4x128_0_2_1_3_4)))
    shapeCasts_S4x16x20x128x4x128_S64x10240x128

theorem hostMean_at (x : Vec Ideal S4x20x64x128 .bf16) (g : Fin 64) (R : Fin 10240) (d : Fin 128) :
    (hostMean x (ix3 g R d) : EReal) = x (ix4 ⟨g.val / 16, by omega⟩ ⟨R.val / 512, by omega⟩ ⟨4 * (g.val % 16) + R.val % 4, by omega⟩ d) := by
  have e : (⟨g.val % 16 * 4 + R.val % 4, by omega⟩ : Fin 64) = ⟨4 * (g.val % 16) + R.val % 4, by omega⟩ := Fin.ext (by simp only; omega)
  rw [← e]
  pointwise [hostMean]

/-- The key scales, a row each. -/
def hostKsc (x : Vec Ideal S4x16x32x128 .f32) : Vec Ideal S64x1x4096 .f32 := shapeCast S64x1x4096 x shapeCasts_S4x16x32x128_S64x1x4096

theorem hostKsc_at (x : Vec Ideal S4x16x32x128 .f32) (g : Fin 64) (j : Fin 4096) :
    (hostKsc x (ix3 g 0 j) : EReal) = x (ix4 ⟨g.val / 16, by omega⟩ ⟨g.val % 16, by omega⟩ ⟨j.val / 128, by omega⟩ ⟨j.val % 128, by omega⟩) := by
  pointwise [hostKsc]

/-- The value scales, a row each. -/
def hostVsc (x : Vec Ideal S4x1x2048 .f32) : Vec Ideal S64x1x128 .f32 := shapeCast S64x1x128 x shapeCasts_S4x1x2048_S64x1x128

theorem hostVsc_at (x : Vec Ideal S4x1x2048 .f32) (g : Fin 64) (d : Fin 128) :
    (hostVsc x (ix3 g 0 d) : EReal) = x (ix3 ⟨g.val / 16, by omega⟩ 0 ⟨128 * (g.val % 16) + d.val, by omega⟩) := by
  have e : (⟨g.val % 16 * 128 + d.val, by omega⟩ : Fin 2048) = ⟨128 * (g.val % 16) + d.val, by omega⟩ := Fin.ext (by simp only; omega)
  rw [← e]
  pointwise [hostVsc]

variable (m : (ℓ : Loc nD τ sig) → Buf (Elt Ideal) ℓ) (c : Dev nD)

theorem qs_rows : (V m c main_v4 : Vec Ideal S64x10240x1 .f32) = hostQs (m ((c : Thread nD τ).loc main_arg1)) := by
  entry_read
  rfl

theorem mean_rows : (V m c main_v9 : Vec Ideal S64x10240x128 .bf16) = hostMean (m ((c : Thread nD τ).loc main_arg2)) := by
  entry_read
  rfl

theorem ksc_rows : (V m c main_v10 : Vec Ideal S64x1x4096 .f32) = hostKsc (m ((c : Thread nD τ).loc main_arg5)) := by
  entry_read
  rfl

theorem vsc_rows : (V m c main_v11 : Vec Ideal S64x1x128 .f32) = hostVsc (m ((c : Thread nD τ).loc main_arg6)) := by
  entry_read
  rfl

end Cert.Proof.AttnRef

end
-- ==== Proof.Attn.RefFinal.lean ====
/- The array the reference ends with, an element at a time. -/
module

public import proofs.«01_k».proof.Proof.Attn.RefValue
public import Idealize.ShloMosaic.Lib.Pipeline.ValueKit.Geometry

@[expose] public section

noncomputable section

namespace Cert.Proof.AttnRef

open Idealize.ShloMosaic Idealize.ShloMosaic.TcCoe Idealize.SL.Sem
open Idealize.ShloMosaic.Pipeline (Dat)
open Cert.ReferenceIdeal Cert.ReferenceIdeal.Gen
open Cert.Proof.Attn (Vis SM)

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The reference's result, from its scores. -/
def body (s : FVec Ideal S64x10240x4096 .f32) (x4 : Vec Ideal S4x16x4096x128 .fp8e4m3) (x6 : Vec Ideal S64x1x128 .f32) : Vec Ideal S4x2560x8192 .bf16 :=
  k0_pay1 (k0_pay8 s (iota .tc S64x10240x4096 32 [1] iota_S64x10240x4096_d1_w32) 4#32 k0_pay4 k0_pay5 k0_pay6)
    (k0_pay9 (k0_pay2 x4) s (iota .tc S64x10240x4096 32 [1] iota_S64x10240x4096_d1_w32) 4#32 k0_pay4 k0_pay5 k0_pay6) x6

/-- The block the reference's body writes. -/
theorem out_body (x0 : Vec Ideal S4x16x10240x128 .fp8e4m3) (x1 : Vec Ideal S64x10240x1 .f32) (x2 : Vec Ideal S64x10240x128 .bf16) (x3 x4 : Vec Ideal S4x16x4096x128 .fp8e4m3)
    (x5 : Vec Ideal S64x1x4096 .f32) (x6 : Vec Ideal S64x1x128 .f32) :
    out0_7 x0 x1 x2 x3 x4 x5 x6 = body (k0_pay3 x3 x0 x5 x2 x1) x4 x6 := by
  unfold_out out0_7
  rw [View.canon_unit_zero hz3, View.ld_unit_zero hz4, View.ld_unit_zero hz4, View.ld_unit_zero hz3, View.ld_unit_zero hz3, View.ld_unit_zero hz3,
    View.ld_unit_zero hz4, View.ld_unit_zero hz3]
  rfl

variable (m : (ℓ : Loc nD τ sig) → Buf (Elt Ideal) ℓ) (ρ : Dev nD → PrngReg) (c : Dev nD)

/-- The array the reference ends with. -/
def final : Vec Ideal S4x2560x8192 .bf16 :=
  body (k0_pay3 (V m c main_arg3) (V m c main_arg0) (V m c main_v10) (V m c main_v9) (V m c main_v4)) (V m c main_arg4) (V m c main_v11)

theorem index0 : ∀ t : Fin cfg0.N, win0_0.index t = ![0, 0, 0, 0] := (by decide +kernel : ∀ t : Fin grid0.N, _)
theorem index1 : ∀ t : Fin cfg0.N, win0_1.index t = ![0, 0, 0] := (by decide +kernel : ∀ t : Fin grid0.N, _)
theorem index2 : ∀ t : Fin cfg0.N, win0_2.index t = ![0, 0, 0] := (by decide +kernel : ∀ t : Fin grid0.N, _)
theorem index3 : ∀ t : Fin cfg0.N, win0_3.index t = ![0, 0, 0, 0] := (by decide +kernel : ∀ t : Fin grid0.N, _)
theorem index4 : ∀ t : Fin cfg0.N, win0_4.index t = ![0, 0, 0, 0] := (by decide +kernel : ∀ t : Fin grid0.N, _)
theorem index5 : ∀ t : Fin cfg0.N, win0_5.index t = ![0, 0, 0] := (by decide +kernel : ∀ t : Fin grid0.N, _)
theorem index6 : ∀ t : Fin cfg0.N, win0_6.index t = ![0, 0, 0] := (by decide +kernel : ∀ t : Fin grid0.N, _)
theorem index7 : ∀ t : Fin cfg0.N, win0_7.index t = ![0, 0, 0] := (by decide +kernel : ∀ t : Fin grid0.N, _)

/-- An array read at an index of the same values is read at the same index. -/
theorem read_same {s : Shape} {α : Type} (X : s.Idx → α) (i j : s.Idx) (h : ∀ a, (i a).val = (j a).val) : X i = X j :=
  congrArg X (funext fun a => Fin.ext (h a))

theorem whole0 (X : Vec Ideal S4x16x10240x128 .fp8e4m3) (t : Fin cfg0.N) : (((cfg0.win 0).blk t).view.read (Elt Ideal) X : Vec Ideal S4x16x10240x128 .fp8e4m3) = X := by
  funext y
  refine read_same X _ _ fun a => ?_
  blk_simp [index0]
  revert a
  simp only [Fin.forall_fin_succ]
  refine ⟨?_, ?_, ?_, ?_, fun a => a.elim0⟩ <;> simp

theorem iblk0 (t : Fin cfg0.N) : iblk m c 0 t = V m c main_arg0 := whole0 _ t

theorem whole1 (X : Vec Ideal S64x10240x1 .f32) (t : Fin cfg0.N) : (((cfg0.win 1).blk t).view.read (Elt Ideal) X : Vec Ideal S64x10240x1 .f32) = X := by
  funext y
  refine read_same X _ _ fun a => ?_
  blk_simp [index1]
  revert a
  simp only [Fin.forall_fin_succ]
  refine ⟨?_, ?_, ?_, fun a => a.elim0⟩ <;> simp

theorem iblk1 (t : Fin cfg0.N) : iblk m c 1 t = V m c main_v4 := whole1 _ t

theorem whole2 (X : Vec Ideal S64x10240x128 .bf16) (t : Fin cfg0.N) : (((cfg0.win 2).blk t).view.read (Elt Ideal) X : Vec Ideal S64x10240x128 .bf16) = X := by
  funext y
  refine read_same X _ _ fun a => ?_
  blk_simp [index2]
  revert a
  simp only [Fin.forall_fin_succ]
  refine ⟨?_, ?_, ?_, fun a => a.elim0⟩ <;> simp

theorem iblk2 (t : Fin cfg0.N) : iblk m c 2 t = V m c main_v9 := whole2 _ t

theorem whole3 (X : Vec Ideal S4x16x4096x128 .fp8e4m3) (t : Fin cfg0.N) : (((cfg0.win 3).blk t).view.read (Elt Ideal) X : Vec Ideal S4x16x4096x128 .fp8e4m3) = X := by
  funext y
  refine read_same X _ _ fun a => ?_
  blk_simp [index3]
  revert a
  simp only [Fin.forall_fin_succ]
  refine ⟨?_, ?_, ?_, ?_, fun a => a.elim0⟩ <;> simp

theorem iblk3 (t : Fin cfg0.N) : iblk m c 3 t = V m c main_arg3 := whole3 _ t

theorem whole4 (X : Vec Ideal S4x16x4096x128 .fp8e4m3) (t : Fin cfg0.N) : (((cfg0.win 4).blk t).view.read (Elt Ideal) X : Vec Ideal S4x16x4096x128 .fp8e4m3) = X := by
  funext y
  refine read_same X _ _ fun a => ?_
  blk_simp [index4]
  revert a
  simp only [Fin.forall_fin_succ]
  refine ⟨?_, ?_, ?_, ?_, fun a => a.elim0⟩ <;> simp

theorem iblk4 (t : Fin cfg0.N) : iblk m c 4 t = V m c main_arg4 := whole4 _ t

theorem whole5 (X : Vec Ideal S64x1x4096 .f32) (t : Fin cfg0.N) : (((cfg0.win 5).blk t).view.read (Elt Ideal) X : Vec Ideal S64x1x4096 .f32) = X := by
  funext y
  refine read_same X _ _ fun a => ?_
  blk_simp [index5]
  revert a
  simp only [Fin.forall_fin_succ]
  refine ⟨?_, ?_, ?_, fun a => a.elim0⟩ <;> simp

theorem iblk5 (t : Fin cfg0.N) : iblk m c 5 t = V m c main_v10 := whole5 _ t

theorem whole6 (X : Vec Ideal S64x1x128 .f32) (t : Fin cfg0.N) : (((cfg0.win 6).blk t).view.read (Elt Ideal) X : Vec Ideal S64x1x128 .f32) = X := by
  funext y
  refine read_same X _ _ fun a => ?_
  blk_simp [index6]
  revert a
  simp only [Fin.forall_fin_succ]
  refine ⟨?_, ?_, ?_, fun a => a.elim0⟩ <;> simp

theorem iblk6 (t : Fin cfg0.N) : iblk m c 6 t = V m c main_v11 := whole6 _ t

/-- The result array after the one grid point. -/
theorem final_out_of (G : Vec Ideal S4x2560x8192 .bf16) (h : ∀ t, (dats m 0 c).after 7 t = G) : (dats m 0 c).arrAt 7 cfg0.N = G := by
  refine (dats m 0 c).arrAt_eq_of_covers 7 _ (by decide +kernel) fun t hf y => ?_
  blk_simp
  rw [h]
  refine read_same G _ _ fun a => ?_
  blk_simp [index7]
  revert a
  simp only [Fin.forall_fin_succ]
  refine ⟨?_, ?_, ?_, fun a => a.elim0⟩ <;> simp

/-- It is `final`. -/
theorem final_out : (dats m 0 c).arrAt 7 cfg0.N = final m c :=
  final_out_of m c _ fun t => by rw [after0_7, iblk0, iblk1, iblk2, iblk3, iblk4, iblk5, iblk6]; exact out_body _ _ _ _ _ _ _

/-! ## An element of it -/

/-- An element of the result: the weights' products over their sum. -/
theorem body_at (s : FVec Ideal S64x10240x4096 .f32) (x4 : Vec Ideal S4x16x4096x128 .fp8e4m3) (x6 : Vec Ideal S64x1x128 .f32) (b : Fin 4) (T : Fin 2560) (D : Fin 8192)
    (p v : Fin 4096 → EReal) (vs : EReal)
    (hp : ∀ j : Fin 4096, (k0_pay7 s (iota .tc S64x10240x4096 32 [1] iota_S64x10240x4096_d1_w32) 4#32 k0_pay4 k0_pay5 k0_pay6
      (ix3 ⟨b.val * 16 + D.val / 512, by omega⟩ ⟨T.val * 4 + D.val / 128 % 4, by omega⟩ j) : EReal) = p j)
    (hv : ∀ j : Fin 4096, (k0_pay2 x4 (ix3 ⟨b.val * 16 + D.val / 512, by omega⟩ j ⟨D.val % 128, by omega⟩) : EReal) = v j)
    (hvs : (x6 (ix3 ⟨b.val * 16 + D.val / 512, by omega⟩ 0 ⟨D.val % 128, by omega⟩) : EReal) = vs) :
    (body s x4 x6 (ix3 b T D) : EReal)
      = (∑ j : Fin 4096, min ((448 : ℝ) : EReal) (max 0 (p j * ((256 : ℝ) : EReal))) * v j) * (((256 : ℝ)⁻¹ : ℝ) : EReal) * vs * Ideal.div 1 (∑ j : Fin 4096, p j) := by
  unfold body
  rw [out_at, prods_at, sums_at, hvs]
  simp only [hp, hv]

end Cert.Proof.AttnRef

end
-- ==== Proof.Attn.Equal.lean ====
/- The kernel's result and the reference's are one array: each element is the same row's output. -/
module

public import proofs.«01_k».proof.Proof.Attn.KernelRow
public import proofs.«01_k».proof.Proof.Attn.RefFinal
public import proofs.«01_k».proof.Proof.Attn.FinalIdeal
public import Idealize.ShloMosaic.Adequacy

@[expose] public section

noncomputable section

namespace Cert.Proof.Attn

open Idealize.ShloMosaic Idealize.ShloMosaic.TcCoe Idealize.SL.Sem
open Cert.Proof.AttnRef (body scores_at weights_at values_at body_at hostQs hostMean hostKsc hostVsc hostQs_at hostMean_at hostKsc_at hostVsc_at)

/-! ## An element of the reference's result -/

section

variable (A : Arr Ideal) (b : Fin 4) (T : Fin 2560) (D : Fin 8192)

/-- The row an output element is of. -/
abbrev elemRow : Row := rowOf A b.val (D.val / 512) (T.val / 128) (4 * (T.val % 128) + D.val / 128 % 4) (D.val % 128)

/-- The batch and key head of an output element, as the reference joins them. -/
abbrev elemHead : Fin 64 := ⟨b.val * 16 + D.val / 512, by omega⟩
/-- The query row of an output element, as the reference joins them. -/
abbrev elemQuery : Fin 10240 := ⟨T.val * 4 + D.val / 128 % 4, by omega⟩

theorem ref_q (e : Fin 128) :
    (A.q (ix4 ⟨(elemHead b D).val / 16, by omega⟩ ⟨(elemHead b D).val % 16, by omega⟩ (elemQuery T D) e) : EReal)
      = at' A.q apos1 ![b.val, D.val / 512, 512 * (T.val / 128) + (4 * (T.val % 128) + D.val / 128 % 4), e.val] := by
  refine at'_of A.q apos1 _ _ fun a => ?_
  revert a
  simp [Fin.forall_fin_succ] <;> omega

theorem ref_k (j : Fin 4096) (e : Fin 128) :
    (A.kq (ix4 ⟨(elemHead b D).val / 16, by omega⟩ ⟨(elemHead b D).val % 16, by omega⟩ j e) : EReal) = at' A.kq apos4 ![b.val, D.val / 512, j.val, e.val] := by
  refine at'_of A.kq apos4 _ _ fun a => ?_
  revert a
  simp [Fin.forall_fin_succ] <;> omega

theorem ref_v (j : Fin 4096) :
    (A.vq (ix4 ⟨(elemHead b D).val / 16, by omega⟩ ⟨(elemHead b D).val % 16, by omega⟩ j ⟨D.val % 128, by omega⟩) : EReal) = (elemRow A b T D).v j.val := by
  refine at'_of A.vq apos4 _ _ fun a => ?_
  revert a
  simp [Fin.forall_fin_succ] <;> omega

theorem ref_mean (e : Fin 128) :
    (A.mean (ix4 ⟨(elemHead b D).val / 16, by omega⟩ ⟨(elemQuery T D).val / 512, by omega⟩ ⟨4 * ((elemHead b D).val % 16) + (elemQuery T D).val % 4, by omega⟩ e) : EReal)
      = at' A.mean apos3 ![b.val, T.val / 128, 4 * (D.val / 512) + (4 * (T.val % 128) + D.val / 128 % 4) % 4, e.val] := by
  refine at'_of A.mean apos3 _ _ fun a => ?_
  revert a
  simp [Fin.forall_fin_succ] <;> omega

theorem ref_qs :
    (A.qs (ix4 ⟨(elemHead b D).val / 16, by omega⟩ ⟨(elemQuery T D).val / 512, by omega⟩ ⟨4 * ((elemHead b D).val % 16) + (elemQuery T D).val % 4, by omega⟩ 0) : EReal)
      = (elemRow A b T D).a := by
  refine at'_of A.qs apos2 _ _ fun a => ?_
  revert a
  simp [Fin.forall_fin_succ] <;> omega

theorem ref_ksc (j : Fin 4096) :
    (A.ksc (ix4 ⟨(elemHead b D).val / 16, by omega⟩ ⟨(elemHead b D).val % 16, by omega⟩ ⟨j.val / 128, by omega⟩ ⟨j.val % 128, by omega⟩) : EReal)
      = (elemRow A b T D).w j.val := by
  refine at'_of A.ksc apos5 _ _ fun a => ?_
  revert a
  simp [Fin.forall_fin_succ] <;> omega

theorem ref_vsc :
    (A.vsc (ix3 ⟨(elemHead b D).val / 16, by omega⟩ 0 ⟨128 * ((elemHead b D).val % 16) + D.val % 128, by omega⟩) : EReal) = (elemRow A b T D).vs := by
  refine at'_of A.vsc apos6 _ _ fun a => ?_
  revert a
  simp [Fin.forall_fin_succ] <;> omega

/-- The reference's product of the codes. -/
theorem ref_S (j : Fin 4096) :
    (∑ e : Fin 128, (A.q (ix4 ⟨(elemHead b D).val / 16, by omega⟩ ⟨(elemHead b D).val % 16, by omega⟩ (elemQuery T D) e) : EReal)
        * (A.kq (ix4 ⟨(elemHead b D).val / 16, by omega⟩ ⟨(elemHead b D).val % 16, by omega⟩ j e) : EReal))
      = (elemRow A b T D).S j.val :=
  Finset.sum_congr rfl fun e _ => congrArg₂ (· * ·) (ref_q A b T D e) (ref_k A b D j e)

/-- The reference's product of the query mean and the codes. -/
theorem ref_C (j : Fin 4096) :
    (∑ e : Fin 128, (hostMean A.mean (ix3 (elemHead b D) (elemQuery T D) e) : EReal)
        * (A.kq (ix4 ⟨(elemHead b D).val / 16, by omega⟩ ⟨(elemHead b D).val % 16, by omega⟩ j e) : EReal))
      = (elemRow A b T D).C j.val :=
  Finset.sum_congr rfl fun e _ => congrArg₂ (· * ·) ((hostMean_at A.mean _ _ e).trans (ref_mean A b T D e)) (ref_k A b D j e)

/-- The reference's score of a key. -/
theorem ref_score (j : Fin 4096) :
    (Cert.ReferenceIdeal.Gen.k0_pay3 A.kq A.q (hostKsc A.ksc) (hostMean A.mean) (hostQs A.qs) (ix3 (elemHead b D) (elemQuery T D) j) : EReal)
      = (elemRow A b T D).score j.val := by
  rw [scores_at, hostQs_at, hostKsc_at, ref_qs, ref_ksc A b T D, ref_S, ref_C]
  rfl

/-- An element of the reference's result is its row's output. -/
theorem ref_row :
    (body (Cert.ReferenceIdeal.Gen.k0_pay3 A.kq A.q (hostKsc A.ksc) (hostMean A.mean) (hostQs A.qs)) A.vq (hostVsc A.vsc) (ix3 b T D) : EReal)
      = (elemRow A b T D).out (T.val / 128) (T.val % 128) := by
  have e : (elemQuery T D).val / 4 = T.val := by show (T.val * 4 + D.val / 128 % 4) / 4 = T.val; omega
  refine body_at _ _ _ b T D (fun j => (elemRow A b T D).p (T.val / 128) (T.val % 128) j.val) (fun j => (elemRow A b T D).v j.val) (elemRow A b T D).vs
    (fun j => ?_) (fun j => ?_) ?_
  · refine (weights_at _ (elemHead b D) (elemQuery T D) j).trans ?_
    simp only [ref_score, e]
    rfl
  · exact (values_at A.vq (elemHead b D) j _).trans (ref_v A b T D j)
  · exact (hostVsc_at A.vsc (elemHead b D) _).trans (ref_vsc A b T D)

end

/-- The two results are one array. -/
theorem results_equal (A : Arr Ideal) (SC : Ideal .f32) (hSC : (SC : EReal) = ((SM * L2 : ℝ) : EReal)) :
    (result SC A : Vec Ideal Cert.KernelIdeal.S4x2560x8192 .bf16)
      = body (Cert.ReferenceIdeal.Gen.k0_pay3 A.kq A.q (hostKsc A.ksc) (hostMean A.mean) (hostQs A.qs)) A.vq (hostVsc A.vsc) := by
  funext i
  obtain ⟨b, T, D, rfl⟩ : ∃ (b : Fin 4) (T : Fin 2560) (D : Fin 8192), i = ix3 b T D :=
    ⟨i 0, i 1, i 2, funext fun a => by match a with | ⟨0, _⟩ => rfl | ⟨1, _⟩ => rfl | ⟨2, _⟩ => rfl⟩
  exact (result_row A SC hSC b T D).trans (ref_row A b T D).symm

/-- The array the reference ends with, of the argument arrays. -/
theorem ref_final (A : Arr Ideal) (m : (ℓ : Loc Cert.ReferenceIdeal.nD Cert.ReferenceIdeal.τ Cert.ReferenceIdeal.sig) → Buf (Elt Ideal) ℓ) (c : Dev Cert.ReferenceIdeal.nD)
    (h0 : m ((c : Thread Cert.ReferenceIdeal.nD Cert.ReferenceIdeal.τ).loc Cert.ReferenceIdeal.main_arg0) = A.q)
    (h1 : m ((c : Thread Cert.ReferenceIdeal.nD Cert.ReferenceIdeal.τ).loc Cert.ReferenceIdeal.main_arg1) = A.qs)
    (h2 : m ((c : Thread Cert.ReferenceIdeal.nD Cert.ReferenceIdeal.τ).loc Cert.ReferenceIdeal.main_arg2) = A.mean)
    (h3 : m ((c : Thread Cert.ReferenceIdeal.nD Cert.ReferenceIdeal.τ).loc Cert.ReferenceIdeal.main_arg3) = A.kq)
    (h4 : m ((c : Thread Cert.ReferenceIdeal.nD Cert.ReferenceIdeal.τ).loc Cert.ReferenceIdeal.main_arg4) = A.vq)
    (h5 : m ((c : Thread Cert.ReferenceIdeal.nD Cert.ReferenceIdeal.τ).loc Cert.ReferenceIdeal.main_arg5) = A.ksc)
    (h6 : m ((c : Thread Cert.ReferenceIdeal.nD Cert.ReferenceIdeal.τ).loc Cert.ReferenceIdeal.main_arg6) = A.vsc) :
    Cert.Proof.AttnRef.final m c
      = body (Cert.ReferenceIdeal.Gen.k0_pay3 A.kq A.q (hostKsc A.ksc) (hostMean A.mean) (hostQs A.qs)) A.vq (hostVsc A.vsc) := by
  unfold Cert.Proof.AttnRef.final
  rw [Cert.Proof.AttnRef.qs_rows, Cert.Proof.AttnRef.mean_rows, Cert.Proof.AttnRef.ksc_rows, Cert.Proof.AttnRef.vsc_rows,
    Cert.ReferenceIdeal.Gen.V_main_arg0, Cert.ReferenceIdeal.Gen.V_main_arg3, Cert.ReferenceIdeal.Gen.V_main_arg4, h0, h1, h2, h3, h4, h5, h6]

/-- The kernel's score scale is the product of the softmax scale and the change of base. -/
theorem scale_eq : ((KernelIdeal.SC (F := Ideal) : Ideal .f32) : EReal) = ((SM * L2 : ℝ) : EReal) :=
  IdealRules.named_const.ideal_named_scalar _ _ _ _ rfl

end Cert.Proof.Attn

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Frame
public import proofs.«01_k».proof.Proof.Gen.ReferenceIdeal.Value
public import proofs.«01_k».proof.Proof.Attn.Run
public import proofs.«01_k».proof.Proof.Attn.FinalIdeal
public import proofs.«01_k».proof.Proof.Attn.Equal
public import Idealize.ShloMosaic.Adequacy
public import Idealize.ShloMosaic.Init
public import Idealize.ShloMosaic.Lib.Claim
public import Idealize.ShloMosaic.Lib.StableHlo.RunHlo

@[expose] public section

noncomputable section

namespace Cert.Proof

open Idealize.ShloMosaic Idealize.ShloMosaic.Pipeline Idealize.SL.Sem

theorem frame_Kernel : Cert.quiescent_Kernel := fun m g _ =>
  θ_run_with_sems (Cert.Kernel.Gen.frame_of m g (Attn.Kernel.dats m) fun _ _ => rfl) (Attn.Kernel.run_main m g)

theorem frame_KernelIdeal : Cert.quiescent_KernelIdeal := fun m g _ =>
  θ_run_with_sems (Cert.KernelIdeal.Gen.frame_of m g (Attn.KernelIdeal.dats m) fun _ _ => rfl) (Attn.KernelIdeal.run_main m g)

theorem frame_ReferenceIdeal : Cert.quiescent_ReferenceIdeal := fun m g _ => Cert.ReferenceIdeal.Gen.frame m g

theorem named : Cert.preserves_Kernel_KernelIdeal := IdealRules.named_const.statement _ _ _ _ _ rfl

theorem algebraic : Cert.algebraic_KernelIdeal_ReferenceIdeal := fun m g m' g' hpre hm =>
  ⟨fun c => Attn.result Attn.KernelIdeal.SC (Attn.KernelIdeal.args m c),
    θ_run_mono (θ_run_and (Attn.KernelIdeal.run_result m g) (frame_KernelIdeal m g hpre)) fun r h c => ⟨h.1 c, h.2.1 c⟩,
    θ_run_mono (Cert.ReferenceIdeal.Value.run_blocks m' g') fun r h c =>
      have ⟨h0, h1, h2, h3, h4, h5, h6⟩ := hm c
      ⟨((h c).1.trans (AttnRef.final_out m' c)).trans ((Attn.ref_final (Attn.KernelIdeal.args m c) m' c h0 h1 h2 h3 h4 h5 h6).trans
        (Attn.results_equal (Attn.KernelIdeal.args m c) _ Attn.scale_eq).symm), (h c).2⟩⟩

theorem claim : Cert.Claim :=
  ⟨inferInstance, inferInstance, inferInstance, frame_Kernel, frame_KernelIdeal, frame_ReferenceIdeal, named, algebraic⟩

end Cert.Proof

end
